-- ==== Defs.lean ====
def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixProj (m : (ℓ : Loc Cert.MixProj.nD Cert.MixProj.τ Cert.MixProj.sig) → Buf (Elt Bits) ℓ) : Prop :=
  True

def Pre_MixProjIdeal (m : (ℓ : Loc Cert.MixProjIdeal.nD Cert.MixProjIdeal.τ Cert.MixProjIdeal.sig) → Buf (Elt Ideal) ℓ) : Prop :=
  True

def Pre_MixProjRefIdeal (m : (ℓ : Loc Cert.MixProjRefIdeal.nD Cert.MixProjRefIdeal.τ Cert.MixProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_KvPrompt (m : (ℓ : Loc Cert.KvPrompt.nD Cert.KvPrompt.τ Cert.KvPrompt.sig) → Buf (Elt Bits) ℓ) : Prop :=
  True

def Pre_KvPromptIdeal (m : (ℓ : Loc Cert.KvPromptIdeal.nD Cert.KvPromptIdeal.τ Cert.KvPromptIdeal.sig) → Buf (Elt Ideal) ℓ) : Prop :=
  True

def Pre_KvPromptRefIdeal (m : (ℓ : Loc Cert.KvPromptRefIdeal.nD Cert.KvPromptRefIdeal.τ Cert.KvPromptRefIdeal.sig) → Buf (Elt Ideal) ℓ) : Prop :=
  True

def Pre_KvSample (m : (ℓ : Loc Cert.KvSample.nD Cert.KvSample.τ Cert.KvSample.sig) → Buf (Elt Bits) ℓ) : Prop :=
  True

def Pre_KvSampleIdeal (m : (ℓ : Loc Cert.KvSampleIdeal.nD Cert.KvSampleIdeal.τ Cert.KvSampleIdeal.sig) → Buf (Elt Ideal) ℓ) : Prop :=
  True

def Pre_KvSampleRefIdeal (m : (ℓ : Loc Cert.KvSampleRefIdeal.nD Cert.KvSampleRefIdeal.τ Cert.KvSampleRefIdeal.sig) → Buf (Elt Ideal) ℓ) : Prop :=
  True

def Pre_WinPrompt (m : (ℓ : Loc Cert.WinPrompt.nD Cert.WinPrompt.τ Cert.WinPrompt.sig) → Buf (Elt Bits) ℓ) : Prop :=
  True

def Pre_WinPromptIdeal (m : (ℓ : Loc Cert.WinPromptIdeal.nD Cert.WinPromptIdeal.τ Cert.WinPromptIdeal.sig) → Buf (Elt Ideal) ℓ) : Prop :=
  True

def Pre_WinPromptRefIdeal (m : (ℓ : Loc Cert.WinPromptRefIdeal.nD Cert.WinPromptRefIdeal.τ Cert.WinPromptRefIdeal.sig) → Buf (Elt Ideal) ℓ) : Prop :=
  True

def Pre_MixerSample (m : (ℓ : Loc Cert.MixerSample.nD Cert.MixerSample.τ Cert.MixerSample.sig) → Buf (Elt Bits) ℓ) : Prop :=
  True

def Pre_MixerSampleIdeal (m : (ℓ : Loc Cert.MixerSampleIdeal.nD Cert.MixerSampleIdeal.τ Cert.MixerSampleIdeal.sig) → Buf (Elt Ideal) ℓ) : Prop :=
  True

def Pre_MixerSampleRefIdeal (m : (ℓ : Loc Cert.MixerSampleRefIdeal.nD Cert.MixerSampleRefIdeal.τ Cert.MixerSampleRefIdeal.sig) → Buf (Elt Ideal) ℓ) : Prop :=
  True

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_MixProj [hMixProj : Cert.MixProj.Facts] : Prop :=
  ∀ (m : (ℓ : Loc Cert.MixProj.nD Cert.MixProj.τ Cert.MixProj.sig) → Buf (Elt Bits) ℓ) (g : Dev Cert.MixProj.nD → PrngReg), Pre_MixProj m →
    θ_run (Cert.MixProj.defs (F := Bits)) (onTc (τ := Cert.MixProj.τ) (Cert.MixProj.main (F := Bits))) ⟨m, fun _ => 0, g⟩ (fun r => (∀ c : Dev Cert.MixProj.nD,
      r.2.mem ((c.tc : Thread Cert.MixProj.nD Cert.MixProj.τ).loc Cert.MixProj.main_arg0) = m ((c.tc : Thread Cert.MixProj.nD Cert.MixProj.τ).loc Cert.MixProj.main_arg0)
      ∧ r.2.mem ((c.tc : Thread Cert.MixProj.nD Cert.MixProj.τ).loc Cert.MixProj.main_arg1) = m ((c.tc : Thread Cert.MixProj.nD Cert.MixProj.τ).loc Cert.MixProj.main_arg1)
      ∧ r.2.mem ((c.tc : Thread Cert.MixProj.nD Cert.MixProj.τ).loc Cert.MixProj.main_arg2) = m ((c.tc : Thread Cert.MixProj.nD Cert.MixProj.τ).loc Cert.MixProj.main_arg2)
      ∧ r.2.mem ((c.tc : Thread Cert.MixProj.nD Cert.MixProj.τ).loc Cert.MixProj.main_arg3) = m ((c.tc : Thread Cert.MixProj.nD Cert.MixProj.τ).loc Cert.MixProj.main_arg3)
      ∧ r.2.mem ((c.tc : Thread Cert.MixProj.nD Cert.MixProj.τ).loc Cert.MixProj.main_arg4) = m ((c.tc : Thread Cert.MixProj.nD Cert.MixProj.τ).loc Cert.MixProj.main_arg4)
      ∧ r.2.mem ((c.tc : Thread Cert.MixProj.nD Cert.MixProj.τ).loc Cert.MixProj.main_arg5) = m ((c.tc : Thread Cert.MixProj.nD Cert.MixProj.τ).loc Cert.MixProj.main_arg5)
      ∧ r.2.mem ((c.tc : Thread Cert.MixProj.nD Cert.MixProj.τ).loc Cert.MixProj.main_arg6) = m ((c.tc : Thread Cert.MixProj.nD Cert.MixProj.τ).loc Cert.MixProj.main_arg6))
      ∧ r.2.sem = fun _ => 0)

def quiescent_MixProjIdeal [hMixProjIdeal : Cert.MixProjIdeal.Facts] : Prop :=
  ∀ (m : (ℓ : Loc Cert.MixProjIdeal.nD Cert.MixProjIdeal.τ Cert.MixProjIdeal.sig) → Buf (Elt Ideal) ℓ) (g : Dev Cert.MixProjIdeal.nD → PrngReg), Pre_MixProjIdeal m →
    θ_run (Cert.MixProjIdeal.defs (F := Ideal)) (onTc (τ := Cert.MixProjIdeal.τ) (Cert.MixProjIdeal.main (F := Ideal))) ⟨m, fun _ => 0, g⟩ (fun r => (∀ c : Dev Cert.MixProjIdeal.nD,
      r.2.mem ((c.tc : Thread Cert.MixProjIdeal.nD Cert.MixProjIdeal.τ).loc Cert.MixProjIdeal.main_arg0) = m ((c.tc : Thread Cert.MixProjIdeal.nD Cert.MixProjIdeal.τ).loc Cert.MixProjIdeal.main_arg0)
      ∧ r.2.mem ((c.tc : Thread Cert.MixProjIdeal.nD Cert.MixProjIdeal.τ).loc Cert.MixProjIdeal.main_arg1) = m ((c.tc : Thread Cert.MixProjIdeal.nD Cert.MixProjIdeal.τ).loc Cert.MixProjIdeal.main_arg1)
      ∧ r.2.mem ((c.tc : Thread Cert.MixProjIdeal.nD Cert.MixProjIdeal.τ).loc Cert.MixProjIdeal.main_arg2) = m ((c.tc : Thread Cert.MixProjIdeal.nD Cert.MixProjIdeal.τ).loc Cert.MixProjIdeal.main_arg2)
      ∧ r.2.mem ((c.tc : Thread Cert.MixProjIdeal.nD Cert.MixProjIdeal.τ).loc Cert.MixProjIdeal.main_arg3) = m ((c.tc : Thread Cert.MixProjIdeal.nD Cert.MixProjIdeal.τ).loc Cert.MixProjIdeal.main_arg3)
      ∧ r.2.mem ((c.tc : Thread Cert.MixProjIdeal.nD Cert.MixProjIdeal.τ).loc Cert.MixProjIdeal.main_arg4) = m ((c.tc : Thread Cert.MixProjIdeal.nD Cert.MixProjIdeal.τ).loc Cert.MixProjIdeal.main_arg4)
      ∧ r.2.mem ((c.tc : Thread Cert.MixProjIdeal.nD Cert.MixProjIdeal.τ).loc Cert.MixProjIdeal.main_arg5) = m ((c.tc : Thread Cert.MixProjIdeal.nD Cert.MixProjIdeal.τ).loc Cert.MixProjIdeal.main_arg5)
      ∧ r.2.mem ((c.tc : Thread Cert.MixProjIdeal.nD Cert.MixProjIdeal.τ).loc Cert.MixProjIdeal.main_arg6) = m ((c.tc : Thread Cert.MixProjIdeal.nD Cert.MixProjIdeal.τ).loc Cert.MixProjIdeal.main_arg6))
      ∧ r.2.sem = fun _ => 0)

def quiescent_MixProjRefIdeal [hMixProjRefIdeal : Cert.MixProjRefIdeal.Facts] : Prop :=
  ∀ (m : (ℓ : Loc Cert.MixProjRefIdeal.nD Cert.MixProjRefIdeal.τ Cert.MixProjRefIdeal.sig) → Buf (Elt Ideal) ℓ) (g : Dev Cert.MixProjRefIdeal.nD → PrngReg), Pre_MixProjRefIdeal m →
    θ_run (Cert.MixProjRefIdeal.defs (F := Ideal)) (onTc (τ := Cert.MixProjRefIdeal.τ) (Cert.MixProjRefIdeal.main (F := Ideal))) ⟨m, fun _ => 0, g⟩ (fun r => (∀ c : Dev Cert.MixProjRefIdeal.nD,
      r.2.mem ((c.tc : Thread Cert.MixProjRefIdeal.nD Cert.MixProjRefIdeal.τ).loc Cert.MixProjRefIdeal.main_arg0) = m ((c.tc : Thread Cert.MixProjRefIdeal.nD Cert.MixProjRefIdeal.τ).loc Cert.MixProjRefIdeal.main_arg0)
      ∧ r.2.mem ((c.tc : Thread Cert.MixProjRefIdeal.nD Cert.MixProjRefIdeal.τ).loc Cert.MixProjRefIdeal.main_arg1) = m ((c.tc : Thread Cert.MixProjRefIdeal.nD Cert.MixProjRefIdeal.τ).loc Cert.MixProjRefIdeal.main_arg1)
      ∧ r.2.mem ((c.tc : Thread Cert.MixProjRefIdeal.nD Cert.MixProjRefIdeal.τ).loc Cert.MixProjRefIdeal.main_arg2) = m ((c.tc : Thread Cert.MixProjRefIdeal.nD Cert.MixProjRefIdeal.τ).loc Cert.MixProjRefIdeal.main_arg2)
      ∧ r.2.mem ((c.tc : Thread Cert.MixProjRefIdeal.nD Cert.MixProjRefIdeal.τ).loc Cert.MixProjRefIdeal.main_arg3) = m ((c.tc : Thread Cert.MixProjRefIdeal.nD Cert.MixProjRefIdeal.τ).loc Cert.MixProjRefIdeal.main_arg3)
      ∧ r.2.mem ((c.tc : Thread Cert.MixProjRefIdeal.nD Cert.MixProjRefIdeal.τ).loc Cert.MixProjRefIdeal.main_arg4) = m ((c.tc : Thread Cert.MixProjRefIdeal.nD Cert.MixProjRefIdeal.τ).loc Cert.MixProjRefIdeal.main_arg4)
      ∧ r.2.mem ((c.tc : Thread Cert.MixProjRefIdeal.nD Cert.MixProjRefIdeal.τ).loc Cert.MixProjRefIdeal.main_arg5) = m ((c.tc : Thread Cert.MixProjRefIdeal.nD Cert.MixProjRefIdeal.τ).loc Cert.MixProjRefIdeal.main_arg5)
      ∧ r.2.mem ((c.tc : Thread Cert.MixProjRefIdeal.nD Cert.MixProjRefIdeal.τ).loc Cert.MixProjRefIdeal.main_arg6) = m ((c.tc : Thread Cert.MixProjRefIdeal.nD Cert.MixProjRefIdeal.τ).loc Cert.MixProjRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_KvPrompt [hKvPrompt : Cert.KvPrompt.Facts] : Prop :=
  ∀ (m : (ℓ : Loc Cert.KvPrompt.nD Cert.KvPrompt.τ Cert.KvPrompt.sig) → Buf (Elt Bits) ℓ) (g : Dev Cert.KvPrompt.nD → PrngReg), Pre_KvPrompt m →
    θ_run (Cert.KvPrompt.defs (F := Bits)) (onTc (τ := Cert.KvPrompt.τ) (Cert.KvPrompt.main (F := Bits))) ⟨m, fun _ => 0, g⟩ (fun r => (∀ c : Dev Cert.KvPrompt.nD,
      r.2.mem ((c.tc : Thread Cert.KvPrompt.nD Cert.KvPrompt.τ).loc Cert.KvPrompt.main_arg0) = m ((c.tc : Thread Cert.KvPrompt.nD Cert.KvPrompt.τ).loc Cert.KvPrompt.main_arg0)
      ∧ r.2.mem ((c.tc : Thread Cert.KvPrompt.nD Cert.KvPrompt.τ).loc Cert.KvPrompt.main_arg1) = m ((c.tc : Thread Cert.KvPrompt.nD Cert.KvPrompt.τ).loc Cert.KvPrompt.main_arg1))
      ∧ r.2.sem = fun _ => 0)

def quiescent_KvPromptIdeal [hKvPromptIdeal : Cert.KvPromptIdeal.Facts] : Prop :=
  ∀ (m : (ℓ : Loc Cert.KvPromptIdeal.nD Cert.KvPromptIdeal.τ Cert.KvPromptIdeal.sig) → Buf (Elt Ideal) ℓ) (g : Dev Cert.KvPromptIdeal.nD → PrngReg), Pre_KvPromptIdeal m →
    θ_run (Cert.KvPromptIdeal.defs (F := Ideal)) (onTc (τ := Cert.KvPromptIdeal.τ) (Cert.KvPromptIdeal.main (F := Ideal))) ⟨m, fun _ => 0, g⟩ (fun r => (∀ c : Dev Cert.KvPromptIdeal.nD,
      r.2.mem ((c.tc : Thread Cert.KvPromptIdeal.nD Cert.KvPromptIdeal.τ).loc Cert.KvPromptIdeal.main_arg0) = m ((c.tc : Thread Cert.KvPromptIdeal.nD Cert.KvPromptIdeal.τ).loc Cert.KvPromptIdeal.main_arg0)
      ∧ r.2.mem ((c.tc : Thread Cert.KvPromptIdeal.nD Cert.KvPromptIdeal.τ).loc Cert.KvPromptIdeal.main_arg1) = m ((c.tc : Thread Cert.KvPromptIdeal.nD Cert.KvPromptIdeal.τ).loc Cert.KvPromptIdeal.main_arg1))
      ∧ r.2.sem = fun _ => 0)

def quiescent_KvPromptRefIdeal [hKvPromptRefIdeal : Cert.KvPromptRefIdeal.Facts] : Prop :=
  ∀ (m : (ℓ : Loc Cert.KvPromptRefIdeal.nD Cert.KvPromptRefIdeal.τ Cert.KvPromptRefIdeal.sig) → Buf (Elt Ideal) ℓ) (g : Dev Cert.KvPromptRefIdeal.nD → PrngReg), Pre_KvPromptRefIdeal m →
    θ_run (Cert.KvPromptRefIdeal.defs (F := Ideal)) (onTc (τ := Cert.KvPromptRefIdeal.τ) (Cert.KvPromptRefIdeal.main (F := Ideal))) ⟨m, fun _ => 0, g⟩ (fun r => (∀ c : Dev Cert.KvPromptRefIdeal.nD,
      r.2.mem ((c.tc : Thread Cert.KvPromptRefIdeal.nD Cert.KvPromptRefIdeal.τ).loc Cert.KvPromptRefIdeal.main_arg0) = m ((c.tc : Thread Cert.KvPromptRefIdeal.nD Cert.KvPromptRefIdeal.τ).loc Cert.KvPromptRefIdeal.main_arg0)
      ∧ r.2.mem ((c.tc : Thread Cert.KvPromptRefIdeal.nD Cert.KvPromptRefIdeal.τ).loc Cert.KvPromptRefIdeal.main_arg1) = m ((c.tc : Thread Cert.KvPromptRefIdeal.nD Cert.KvPromptRefIdeal.τ).loc Cert.KvPromptRefIdeal.main_arg1))
      ∧ r.2.sem = fun _ => 0)

def quiescent_KvSample [hKvSample : Cert.KvSample.Facts] : Prop :=
  ∀ (m : (ℓ : Loc Cert.KvSample.nD Cert.KvSample.τ Cert.KvSample.sig) → Buf (Elt Bits) ℓ) (g : Dev Cert.KvSample.nD → PrngReg), Pre_KvSample m →
    θ_run (Cert.KvSample.defs (F := Bits)) (onTc (τ := Cert.KvSample.τ) (Cert.KvSample.main (F := Bits))) ⟨m, fun _ => 0, g⟩ (fun r => (∀ c : Dev Cert.KvSample.nD,
      r.2.mem ((c.tc : Thread Cert.KvSample.nD Cert.KvSample.τ).loc Cert.KvSample.main_arg0) = m ((c.tc : Thread Cert.KvSample.nD Cert.KvSample.τ).loc Cert.KvSample.main_arg0)
      ∧ r.2.mem ((c.tc : Thread Cert.KvSample.nD Cert.KvSample.τ).loc Cert.KvSample.main_arg1) = m ((c.tc : Thread Cert.KvSample.nD Cert.KvSample.τ).loc Cert.KvSample.main_arg1))
      ∧ r.2.sem = fun _ => 0)

def quiescent_KvSampleIdeal [hKvSampleIdeal : Cert.KvSampleIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg), Pre_KvSampleIdeal m →
    θ_run (Cert.KvSampleIdeal.defs (F := Ideal)) (onTc (τ := Cert.KvSampleIdeal.τ) (Cert.KvSampleIdeal.main (F := Ideal))) ⟨m, fun _ => 0, g⟩ (fun r => (∀ c : Dev Cert.KvSampleIdeal.nD,
      r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
      ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1))
      ∧ r.2.sem = fun _ => 0)

def quiescent_KvSampleRefIdeal [hKvSampleRefIdeal : Cert.KvSampleRefIdeal.Facts] : Prop :=
  ∀ (m : (ℓ : Loc Cert.KvSampleRefIdeal.nD Cert.KvSampleRefIdeal.τ Cert.KvSampleRefIdeal.sig) → Buf (Elt Ideal) ℓ) (g : Dev Cert.KvSampleRefIdeal.nD → PrngReg), Pre_KvSampleRefIdeal m →
    θ_run (Cert.KvSampleRefIdeal.defs (F := Ideal)) (onTc (τ := Cert.KvSampleRefIdeal.τ) (Cert.KvSampleRefIdeal.main (F := Ideal))) ⟨m, fun _ => 0, g⟩ (fun r => (∀ c : Dev Cert.KvSampleRefIdeal.nD,
      r.2.mem ((c.tc : Thread Cert.KvSampleRefIdeal.nD Cert.KvSampleRefIdeal.τ).loc Cert.KvSampleRefIdeal.main_arg0) = m ((c.tc : Thread Cert.KvSampleRefIdeal.nD Cert.KvSampleRefIdeal.τ).loc Cert.KvSampleRefIdeal.main_arg0)
      ∧ r.2.mem ((c.tc : Thread Cert.KvSampleRefIdeal.nD Cert.KvSampleRefIdeal.τ).loc Cert.KvSampleRefIdeal.main_arg1) = m ((c.tc : Thread Cert.KvSampleRefIdeal.nD Cert.KvSampleRefIdeal.τ).loc Cert.KvSampleRefIdeal.main_arg1))
      ∧ r.2.sem = fun _ => 0)

def quiescent_WinPrompt [hWinPrompt : Cert.WinPrompt.Facts] : Prop :=
  ∀ (m : (ℓ : Loc Cert.WinPrompt.nD Cert.WinPrompt.τ Cert.WinPrompt.sig) → Buf (Elt Bits) ℓ) (g : Dev Cert.WinPrompt.nD → PrngReg), Pre_WinPrompt m →
    θ_run (Cert.WinPrompt.defs (F := Bits)) (onTc (τ := Cert.WinPrompt.τ) (Cert.WinPrompt.main (F := Bits))) ⟨m, fun _ => 0, g⟩ (fun r => (∀ c : Dev Cert.WinPrompt.nD,
      r.2.mem ((c.tc : Thread Cert.WinPrompt.nD Cert.WinPrompt.τ).loc Cert.WinPrompt.main_arg0) = m ((c.tc : Thread Cert.WinPrompt.nD Cert.WinPrompt.τ).loc Cert.WinPrompt.main_arg0)
      ∧ r.2.mem ((c.tc : Thread Cert.WinPrompt.nD Cert.WinPrompt.τ).loc Cert.WinPrompt.main_arg1) = m ((c.tc : Thread Cert.WinPrompt.nD Cert.WinPrompt.τ).loc Cert.WinPrompt.main_arg1))
      ∧ r.2.sem = fun _ => 0)

def quiescent_WinPromptIdeal [hWinPromptIdeal : Cert.WinPromptIdeal.Facts] : Prop :=
  ∀ (m : (ℓ : Loc Cert.WinPromptIdeal.nD Cert.WinPromptIdeal.τ Cert.WinPromptIdeal.sig) → Buf (Elt Ideal) ℓ) (g : Dev Cert.WinPromptIdeal.nD → PrngReg), Pre_WinPromptIdeal m →
    θ_run (Cert.WinPromptIdeal.defs (F := Ideal)) (onTc (τ := Cert.WinPromptIdeal.τ) (Cert.WinPromptIdeal.main (F := Ideal))) ⟨m, fun _ => 0, g⟩ (fun r => (∀ c : Dev Cert.WinPromptIdeal.nD,
      r.2.mem ((c.tc : Thread Cert.WinPromptIdeal.nD Cert.WinPromptIdeal.τ).loc Cert.WinPromptIdeal.main_arg0) = m ((c.tc : Thread Cert.WinPromptIdeal.nD Cert.WinPromptIdeal.τ).loc Cert.WinPromptIdeal.main_arg0)
      ∧ r.2.mem ((c.tc : Thread Cert.WinPromptIdeal.nD Cert.WinPromptIdeal.τ).loc Cert.WinPromptIdeal.main_arg1) = m ((c.tc : Thread Cert.WinPromptIdeal.nD Cert.WinPromptIdeal.τ).loc Cert.WinPromptIdeal.main_arg1))
      ∧ r.2.sem = fun _ => 0)

def quiescent_WinPromptRefIdeal [hWinPromptRefIdeal : Cert.WinPromptRefIdeal.Facts] : Prop :=
  ∀ (m : (ℓ : Loc Cert.WinPromptRefIdeal.nD Cert.WinPromptRefIdeal.τ Cert.WinPromptRefIdeal.sig) → Buf (Elt Ideal) ℓ) (g : Dev Cert.WinPromptRefIdeal.nD → PrngReg), Pre_WinPromptRefIdeal m →
    θ_run (Cert.WinPromptRefIdeal.defs (F := Ideal)) (onTc (τ := Cert.WinPromptRefIdeal.τ) (Cert.WinPromptRefIdeal.main (F := Ideal))) ⟨m, fun _ => 0, g⟩ (fun r => (∀ c : Dev Cert.WinPromptRefIdeal.nD,
      r.2.mem ((c.tc : Thread Cert.WinPromptRefIdeal.nD Cert.WinPromptRefIdeal.τ).loc Cert.WinPromptRefIdeal.main_arg0) = m ((c.tc : Thread Cert.WinPromptRefIdeal.nD Cert.WinPromptRefIdeal.τ).loc Cert.WinPromptRefIdeal.main_arg0)
      ∧ r.2.mem ((c.tc : Thread Cert.WinPromptRefIdeal.nD Cert.WinPromptRefIdeal.τ).loc Cert.WinPromptRefIdeal.main_arg1) = m ((c.tc : Thread Cert.WinPromptRefIdeal.nD Cert.WinPromptRefIdeal.τ).loc Cert.WinPromptRefIdeal.main_arg1))
      ∧ r.2.sem = fun _ => 0)

def quiescent_MixerSample [hMixerSample : Cert.MixerSample.Facts] : Prop :=
  ∀ (m : (ℓ : Loc Cert.MixerSample.nD Cert.MixerSample.τ Cert.MixerSample.sig) → Buf (Elt Bits) ℓ) (g : Dev Cert.MixerSample.nD → PrngReg), Pre_MixerSample m →
    θ_run (Cert.MixerSample.defs (F := Bits)) (onTc (τ := Cert.MixerSample.τ) (Cert.MixerSample.main (F := Bits))) ⟨m, fun _ => 0, g⟩ (fun r => (∀ c : Dev Cert.MixerSample.nD,
      r.2.mem ((c.tc : Thread Cert.MixerSample.nD Cert.MixerSample.τ).loc Cert.MixerSample.main_arg0) = m ((c.tc : Thread Cert.MixerSample.nD Cert.MixerSample.τ).loc Cert.MixerSample.main_arg0)
      ∧ r.2.mem ((c.tc : Thread Cert.MixerSample.nD Cert.MixerSample.τ).loc Cert.MixerSample.main_arg1) = m ((c.tc : Thread Cert.MixerSample.nD Cert.MixerSample.τ).loc Cert.MixerSample.main_arg1)
      ∧ r.2.mem ((c.tc : Thread Cert.MixerSample.nD Cert.MixerSample.τ).loc Cert.MixerSample.main_arg2) = m ((c.tc : Thread Cert.MixerSample.nD Cert.MixerSample.τ).loc Cert.MixerSample.main_arg2)
      ∧ r.2.mem ((c.tc : Thread Cert.MixerSample.nD Cert.MixerSample.τ).loc Cert.MixerSample.main_arg3) = m ((c.tc : Thread Cert.MixerSample.nD Cert.MixerSample.τ).loc Cert.MixerSample.main_arg3)
      ∧ r.2.mem ((c.tc : Thread Cert.MixerSample.nD Cert.MixerSample.τ).loc Cert.MixerSample.main_arg4) = m ((c.tc : Thread Cert.MixerSample.nD Cert.MixerSample.τ).loc Cert.MixerSample.main_arg4)
      ∧ r.2.mem ((c.tc : Thread Cert.MixerSample.nD Cert.MixerSample.τ).loc Cert.MixerSample.main_arg5) = m ((c.tc : Thread Cert.MixerSample.nD Cert.MixerSample.τ).loc Cert.MixerSample.main_arg5)
      ∧ r.2.mem ((c.tc : Thread Cert.MixerSample.nD Cert.MixerSample.τ).loc Cert.MixerSample.main_arg6) = m ((c.tc : Thread Cert.MixerSample.nD Cert.MixerSample.τ).loc Cert.MixerSample.main_arg6)
      ∧ r.2.mem ((c.tc : Thread Cert.MixerSample.nD Cert.MixerSample.τ).loc Cert.MixerSample.main_arg7) = m ((c.tc : Thread Cert.MixerSample.nD Cert.MixerSample.τ).loc Cert.MixerSample.main_arg7))
      ∧ r.2.sem = fun _ => 0)

def quiescent_MixerSampleIdeal [hMixerSampleIdeal : Cert.MixerSampleIdeal.Facts] : Prop :=
  ∀ (m : (ℓ : Loc Cert.MixerSampleIdeal.nD Cert.MixerSampleIdeal.τ Cert.MixerSampleIdeal.sig) → Buf (Elt Ideal) ℓ) (g : Dev Cert.MixerSampleIdeal.nD → PrngReg), Pre_MixerSampleIdeal m →
    θ_run (Cert.MixerSampleIdeal.defs (F := Ideal)) (onTc (τ := Cert.MixerSampleIdeal.τ) (Cert.MixerSampleIdeal.main (F := Ideal))) ⟨m, fun _ => 0, g⟩ (fun r => (∀ c : Dev Cert.MixerSampleIdeal.nD,
      r.2.mem ((c.tc : Thread Cert.MixerSampleIdeal.nD Cert.MixerSampleIdeal.τ).loc Cert.MixerSampleIdeal.main_arg0) = m ((c.tc : Thread Cert.MixerSampleIdeal.nD Cert.MixerSampleIdeal.τ).loc Cert.MixerSampleIdeal.main_arg0)
      ∧ r.2.mem ((c.tc : Thread Cert.MixerSampleIdeal.nD Cert.MixerSampleIdeal.τ).loc Cert.MixerSampleIdeal.main_arg1) = m ((c.tc : Thread Cert.MixerSampleIdeal.nD Cert.MixerSampleIdeal.τ).loc Cert.MixerSampleIdeal.main_arg1)
      ∧ r.2.mem ((c.tc : Thread Cert.MixerSampleIdeal.nD Cert.MixerSampleIdeal.τ).loc Cert.MixerSampleIdeal.main_arg2) = m ((c.tc : Thread Cert.MixerSampleIdeal.nD Cert.MixerSampleIdeal.τ).loc Cert.MixerSampleIdeal.main_arg2)
      ∧ r.2.mem ((c.tc : Thread Cert.MixerSampleIdeal.nD Cert.MixerSampleIdeal.τ).loc Cert.MixerSampleIdeal.main_arg3) = m ((c.tc : Thread Cert.MixerSampleIdeal.nD Cert.MixerSampleIdeal.τ).loc Cert.MixerSampleIdeal.main_arg3)
      ∧ r.2.mem ((c.tc : Thread Cert.MixerSampleIdeal.nD Cert.MixerSampleIdeal.τ).loc Cert.MixerSampleIdeal.main_arg4) = m ((c.tc : Thread Cert.MixerSampleIdeal.nD Cert.MixerSampleIdeal.τ).loc Cert.MixerSampleIdeal.main_arg4)
      ∧ r.2.mem ((c.tc : Thread Cert.MixerSampleIdeal.nD Cert.MixerSampleIdeal.τ).loc Cert.MixerSampleIdeal.main_arg5) = m ((c.tc : Thread Cert.MixerSampleIdeal.nD Cert.MixerSampleIdeal.τ).loc Cert.MixerSampleIdeal.main_arg5)
      ∧ r.2.mem ((c.tc : Thread Cert.MixerSampleIdeal.nD Cert.MixerSampleIdeal.τ).loc Cert.MixerSampleIdeal.main_arg6) = m ((c.tc : Thread Cert.MixerSampleIdeal.nD Cert.MixerSampleIdeal.τ).loc Cert.MixerSampleIdeal.main_arg6)
      ∧ r.2.mem ((c.tc : Thread Cert.MixerSampleIdeal.nD Cert.MixerSampleIdeal.τ).loc Cert.MixerSampleIdeal.main_arg7) = m ((c.tc : Thread Cert.MixerSampleIdeal.nD Cert.MixerSampleIdeal.τ).loc Cert.MixerSampleIdeal.main_arg7))
      ∧ r.2.sem = fun _ => 0)

def quiescent_MixerSampleRefIdeal [hMixerSampleRefIdeal : Cert.MixerSampleRefIdeal.Facts] : Prop :=
  ∀ (m : (ℓ : Loc Cert.MixerSampleRefIdeal.nD Cert.MixerSampleRefIdeal.τ Cert.MixerSampleRefIdeal.sig) → Buf (Elt Ideal) ℓ) (g : Dev Cert.MixerSampleRefIdeal.nD → PrngReg), Pre_MixerSampleRefIdeal m →
    θ_run (Cert.MixerSampleRefIdeal.defs (F := Ideal)) (onTc (τ := Cert.MixerSampleRefIdeal.τ) (Cert.MixerSampleRefIdeal.main (F := Ideal))) ⟨m, fun _ => 0, g⟩ (fun r => (∀ c : Dev Cert.MixerSampleRefIdeal.nD,
      r.2.mem ((c.tc : Thread Cert.MixerSampleRefIdeal.nD Cert.MixerSampleRefIdeal.τ).loc Cert.MixerSampleRefIdeal.main_arg0) = m ((c.tc : Thread Cert.MixerSampleRefIdeal.nD Cert.MixerSampleRefIdeal.τ).loc Cert.MixerSampleRefIdeal.main_arg0)
      ∧ r.2.mem ((c.tc : Thread Cert.MixerSampleRefIdeal.nD Cert.MixerSampleRefIdeal.τ).loc Cert.MixerSampleRefIdeal.main_arg1) = m ((c.tc : Thread Cert.MixerSampleRefIdeal.nD Cert.MixerSampleRefIdeal.τ).loc Cert.MixerSampleRefIdeal.main_arg1)
      ∧ r.2.mem ((c.tc : Thread Cert.MixerSampleRefIdeal.nD Cert.MixerSampleRefIdeal.τ).loc Cert.MixerSampleRefIdeal.main_arg2) = m ((c.tc : Thread Cert.MixerSampleRefIdeal.nD Cert.MixerSampleRefIdeal.τ).loc Cert.MixerSampleRefIdeal.main_arg2)
      ∧ r.2.mem ((c.tc : Thread Cert.MixerSampleRefIdeal.nD Cert.MixerSampleRefIdeal.τ).loc Cert.MixerSampleRefIdeal.main_arg3) = m ((c.tc : Thread Cert.MixerSampleRefIdeal.nD Cert.MixerSampleRefIdeal.τ).loc Cert.MixerSampleRefIdeal.main_arg3)
      ∧ r.2.mem ((c.tc : Thread Cert.MixerSampleRefIdeal.nD Cert.MixerSampleRefIdeal.τ).loc Cert.MixerSampleRefIdeal.main_arg4) = m ((c.tc : Thread Cert.MixerSampleRefIdeal.nD Cert.MixerSampleRefIdeal.τ).loc Cert.MixerSampleRefIdeal.main_arg4)
      ∧ r.2.mem ((c.tc : Thread Cert.MixerSampleRefIdeal.nD Cert.MixerSampleRefIdeal.τ).loc Cert.MixerSampleRefIdeal.main_arg5) = m ((c.tc : Thread Cert.MixerSampleRefIdeal.nD Cert.MixerSampleRefIdeal.τ).loc Cert.MixerSampleRefIdeal.main_arg5)
      ∧ r.2.mem ((c.tc : Thread Cert.MixerSampleRefIdeal.nD Cert.MixerSampleRefIdeal.τ).loc Cert.MixerSampleRefIdeal.main_arg6) = m ((c.tc : Thread Cert.MixerSampleRefIdeal.nD Cert.MixerSampleRefIdeal.τ).loc Cert.MixerSampleRefIdeal.main_arg6)
      ∧ r.2.mem ((c.tc : Thread Cert.MixerSampleRefIdeal.nD Cert.MixerSampleRefIdeal.τ).loc Cert.MixerSampleRefIdeal.main_arg7) = m ((c.tc : Thread Cert.MixerSampleRefIdeal.nD Cert.MixerSampleRefIdeal.τ).loc Cert.MixerSampleRefIdeal.main_arg7))
      ∧ r.2.sem = fun _ => 0)

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_MixProj_MixProjIdeal : Prop :=
  True

def algebraic_MixProjIdeal_MixProjRefIdeal [hMixProjIdeal : Cert.MixProjIdeal.Facts] [hMixProjRefIdeal : Cert.MixProjRefIdeal.Facts] : Prop :=
  ∀ (m : (ℓ : Loc Cert.MixProjIdeal.nD Cert.MixProjIdeal.τ Cert.MixProjIdeal.sig) → Buf (Elt Ideal) ℓ) (g : Dev Cert.MixProjIdeal.nD → PrngReg)
    (m' : (ℓ : Loc Cert.MixProjRefIdeal.nD Cert.MixProjRefIdeal.τ Cert.MixProjRefIdeal.sig) → Buf (Elt Ideal) ℓ) (g' : Dev Cert.MixProjRefIdeal.nD → PrngReg), Pre_MixProjIdeal m →
    (∀ c : Dev Cert.MixProjIdeal.nD,
      m' ((c.tc : Thread Cert.MixProjRefIdeal.nD Cert.MixProjRefIdeal.τ).loc Cert.MixProjRefIdeal.main_arg0) = m ((c.tc : Thread Cert.MixProjIdeal.nD Cert.MixProjIdeal.τ).loc Cert.MixProjIdeal.main_arg0)
      ∧ m' ((c.tc : Thread Cert.MixProjRefIdeal.nD Cert.MixProjRefIdeal.τ).loc Cert.MixProjRefIdeal.main_arg1) = m ((c.tc : Thread Cert.MixProjIdeal.nD Cert.MixProjIdeal.τ).loc Cert.MixProjIdeal.main_arg1)
      ∧ m' ((c.tc : Thread Cert.MixProjRefIdeal.nD Cert.MixProjRefIdeal.τ).loc Cert.MixProjRefIdeal.main_arg2) = m ((c.tc : Thread Cert.MixProjIdeal.nD Cert.MixProjIdeal.τ).loc Cert.MixProjIdeal.main_arg2)
      ∧ m' ((c.tc : Thread Cert.MixProjRefIdeal.nD Cert.MixProjRefIdeal.τ).loc Cert.MixProjRefIdeal.main_arg3) = m ((c.tc : Thread Cert.MixProjIdeal.nD Cert.MixProjIdeal.τ).loc Cert.MixProjIdeal.main_arg3)
      ∧ m' ((c.tc : Thread Cert.MixProjRefIdeal.nD Cert.MixProjRefIdeal.τ).loc Cert.MixProjRefIdeal.main_arg4) = m ((c.tc : Thread Cert.MixProjIdeal.nD Cert.MixProjIdeal.τ).loc Cert.MixProjIdeal.main_arg4)
      ∧ m' ((c.tc : Thread Cert.MixProjRefIdeal.nD Cert.MixProjRefIdeal.τ).loc Cert.MixProjRefIdeal.main_arg5) = m ((c.tc : Thread Cert.MixProjIdeal.nD Cert.MixProjIdeal.τ).loc Cert.MixProjIdeal.main_arg5)
      ∧ m' ((c.tc : Thread Cert.MixProjRefIdeal.nD Cert.MixProjRefIdeal.τ).loc Cert.MixProjRefIdeal.main_arg6) = m ((c.tc : Thread Cert.MixProjIdeal.nD Cert.MixProjIdeal.τ).loc Cert.MixProjIdeal.main_arg6)) →
    ∃ (v0 : (c : Dev Cert.MixProjIdeal.nD) → Buf (Elt Ideal) ((c.tc : Thread Cert.MixProjIdeal.nD Cert.MixProjIdeal.τ).loc Cert.MixProjIdeal.main_v6)),
      θ_run (Cert.MixProjIdeal.defs (F := Ideal)) (onTc (τ := Cert.MixProjIdeal.τ) (Cert.MixProjIdeal.main (F := Ideal))) ⟨m, fun _ => 0, g⟩ (fun r => ∀ c : Dev Cert.MixProjIdeal.nD,
          r.2.mem ((c.tc : Thread Cert.MixProjIdeal.nD Cert.MixProjIdeal.τ).loc Cert.MixProjIdeal.main_v6) = v0 c
          ∧ r.2.mem ((c.tc : Thread Cert.MixProjIdeal.nD Cert.MixProjIdeal.τ).loc Cert.MixProjIdeal.main_arg0) = m ((c.tc : Thread Cert.MixProjIdeal.nD Cert.MixProjIdeal.τ).loc Cert.MixProjIdeal.main_arg0)
          ∧ r.2.mem ((c.tc : Thread Cert.MixProjIdeal.nD Cert.MixProjIdeal.τ).loc Cert.MixProjIdeal.main_arg1) = m ((c.tc : Thread Cert.MixProjIdeal.nD Cert.MixProjIdeal.τ).loc Cert.MixProjIdeal.main_arg1)
          ∧ r.2.mem ((c.tc : Thread Cert.MixProjIdeal.nD Cert.MixProjIdeal.τ).loc Cert.MixProjIdeal.main_arg2) = m ((c.tc : Thread Cert.MixProjIdeal.nD Cert.MixProjIdeal.τ).loc Cert.MixProjIdeal.main_arg2)
          ∧ r.2.mem ((c.tc : Thread Cert.MixProjIdeal.nD Cert.MixProjIdeal.τ).loc Cert.MixProjIdeal.main_arg3) = m ((c.tc : Thread Cert.MixProjIdeal.nD Cert.MixProjIdeal.τ).loc Cert.MixProjIdeal.main_arg3)
          ∧ r.2.mem ((c.tc : Thread Cert.MixProjIdeal.nD Cert.MixProjIdeal.τ).loc Cert.MixProjIdeal.main_arg4) = m ((c.tc : Thread Cert.MixProjIdeal.nD Cert.MixProjIdeal.τ).loc Cert.MixProjIdeal.main_arg4)
          ∧ r.2.mem ((c.tc : Thread Cert.MixProjIdeal.nD Cert.MixProjIdeal.τ).loc Cert.MixProjIdeal.main_arg5) = m ((c.tc : Thread Cert.MixProjIdeal.nD Cert.MixProjIdeal.τ).loc Cert.MixProjIdeal.main_arg5)
          ∧ r.2.mem ((c.tc : Thread Cert.MixProjIdeal.nD Cert.MixProjIdeal.τ).loc Cert.MixProjIdeal.main_arg6) = m ((c.tc : Thread Cert.MixProjIdeal.nD Cert.MixProjIdeal.τ).loc Cert.MixProjIdeal.main_arg6))
      ∧ θ_run (Cert.MixProjRefIdeal.defs (F := Ideal)) (onTc (τ := Cert.MixProjRefIdeal.τ) (Cert.MixProjRefIdeal.main (F := Ideal))) ⟨m', fun _ => 0, g'⟩ (fun r => ∀ c : Dev Cert.MixProjRefIdeal.nD,
          r.2.mem ((c.tc : Thread Cert.MixProjRefIdeal.nD Cert.MixProjRefIdeal.τ).loc Cert.MixProjRefIdeal.main_v24) = v0 c
          ∧ r.2.mem ((c.tc : Thread Cert.MixProjRefIdeal.nD Cert.MixProjRefIdeal.τ).loc Cert.MixProjRefIdeal.main_arg0) = m' ((c.tc : Thread Cert.MixProjRefIdeal.nD Cert.MixProjRefIdeal.τ).loc Cert.MixProjRefIdeal.main_arg0)
          ∧ r.2.mem ((c.tc : Thread Cert.MixProjRefIdeal.nD Cert.MixProjRefIdeal.τ).loc Cert.MixProjRefIdeal.main_arg1) = m' ((c.tc : Thread Cert.MixProjRefIdeal.nD Cert.MixProjRefIdeal.τ).loc Cert.MixProjRefIdeal.main_arg1)
          ∧ r.2.mem ((c.tc : Thread Cert.MixProjRefIdeal.nD Cert.MixProjRefIdeal.τ).loc Cert.MixProjRefIdeal.main_arg2) = m' ((c.tc : Thread Cert.MixProjRefIdeal.nD Cert.MixProjRefIdeal.τ).loc Cert.MixProjRefIdeal.main_arg2)
          ∧ r.2.mem ((c.tc : Thread Cert.MixProjRefIdeal.nD Cert.MixProjRefIdeal.τ).loc Cert.MixProjRefIdeal.main_arg3) = m' ((c.tc : Thread Cert.MixProjRefIdeal.nD Cert.MixProjRefIdeal.τ).loc Cert.MixProjRefIdeal.main_arg3)
          ∧ r.2.mem ((c.tc : Thread Cert.MixProjRefIdeal.nD Cert.MixProjRefIdeal.τ).loc Cert.MixProjRefIdeal.main_arg4) = m' ((c.tc : Thread Cert.MixProjRefIdeal.nD Cert.MixProjRefIdeal.τ).loc Cert.MixProjRefIdeal.main_arg4)
          ∧ r.2.mem ((c.tc : Thread Cert.MixProjRefIdeal.nD Cert.MixProjRefIdeal.τ).loc Cert.MixProjRefIdeal.main_arg5) = m' ((c.tc : Thread Cert.MixProjRefIdeal.nD Cert.MixProjRefIdeal.τ).loc Cert.MixProjRefIdeal.main_arg5)
          ∧ r.2.mem ((c.tc : Thread Cert.MixProjRefIdeal.nD Cert.MixProjRefIdeal.τ).loc Cert.MixProjRefIdeal.main_arg6) = m' ((c.tc : Thread Cert.MixProjRefIdeal.nD Cert.MixProjRefIdeal.τ).loc Cert.MixProjRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v11)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v11) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v20) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1_0)) (v1 : (c : Dev Cert.FinalNormIdeal.nD) → Buf (Elt Ideal) ((c.tc : Thread Cert.FinalNormIdeal.nD Cert.FinalNormIdeal.τ).loc Cert.FinalNormIdeal.main_v1_1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1_0) = v0 c
          ∧ r.2.mem ((c.tc : Thread Cert.FinalNormIdeal.nD Cert.FinalNormIdeal.τ).loc Cert.FinalNormIdeal.main_v1_1) = v1 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v13) = v0 c
          ∧ r.2.mem ((c.tc : Thread Cert.FinalNormRefIdeal.nD Cert.FinalNormRefIdeal.τ).loc Cert.FinalNormRefIdeal.main_v27) = v1 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_KvPrompt_KvPromptIdeal : Prop :=
  True

def algebraic_KvPromptIdeal_KvPromptRefIdeal [hKvPromptIdeal : Cert.KvPromptIdeal.Facts] [hKvPromptRefIdeal : Cert.KvPromptRefIdeal.Facts] : Prop :=
  ∀ (m : (ℓ : Loc Cert.KvPromptIdeal.nD Cert.KvPromptIdeal.τ Cert.KvPromptIdeal.sig) → Buf (Elt Ideal) ℓ) (g : Dev Cert.KvPromptIdeal.nD → PrngReg)
    (m' : (ℓ : Loc Cert.KvPromptRefIdeal.nD Cert.KvPromptRefIdeal.τ Cert.KvPromptRefIdeal.sig) → Buf (Elt Ideal) ℓ) (g' : Dev Cert.KvPromptRefIdeal.nD → PrngReg), Pre_KvPromptIdeal m →
    (∀ c : Dev Cert.KvPromptIdeal.nD,
      m' ((c.tc : Thread Cert.KvPromptRefIdeal.nD Cert.KvPromptRefIdeal.τ).loc Cert.KvPromptRefIdeal.main_arg0) = m ((c.tc : Thread Cert.KvPromptIdeal.nD Cert.KvPromptIdeal.τ).loc Cert.KvPromptIdeal.main_arg0)
      ∧ m' ((c.tc : Thread Cert.KvPromptRefIdeal.nD Cert.KvPromptRefIdeal.τ).loc Cert.KvPromptRefIdeal.main_arg1) = m ((c.tc : Thread Cert.KvPromptIdeal.nD Cert.KvPromptIdeal.τ).loc Cert.KvPromptIdeal.main_arg1)) →
    ∃ (v0 : (c : Dev Cert.KvPromptIdeal.nD) → Buf (Elt Ideal) ((c.tc : Thread Cert.KvPromptIdeal.nD Cert.KvPromptIdeal.τ).loc Cert.KvPromptIdeal.main_v0)),
      θ_run (Cert.KvPromptIdeal.defs (F := Ideal)) (onTc (τ := Cert.KvPromptIdeal.τ) (Cert.KvPromptIdeal.main (F := Ideal))) ⟨m, fun _ => 0, g⟩ (fun r => ∀ c : Dev Cert.KvPromptIdeal.nD,
          r.2.mem ((c.tc : Thread Cert.KvPromptIdeal.nD Cert.KvPromptIdeal.τ).loc Cert.KvPromptIdeal.main_v0) = v0 c
          ∧ r.2.mem ((c.tc : Thread Cert.KvPromptIdeal.nD Cert.KvPromptIdeal.τ).loc Cert.KvPromptIdeal.main_arg0) = m ((c.tc : Thread Cert.KvPromptIdeal.nD Cert.KvPromptIdeal.τ).loc Cert.KvPromptIdeal.main_arg0)
          ∧ r.2.mem ((c.tc : Thread Cert.KvPromptIdeal.nD Cert.KvPromptIdeal.τ).loc Cert.KvPromptIdeal.main_arg1) = m ((c.tc : Thread Cert.KvPromptIdeal.nD Cert.KvPromptIdeal.τ).loc Cert.KvPromptIdeal.main_arg1))
      ∧ θ_run (Cert.KvPromptRefIdeal.defs (F := Ideal)) (onTc (τ := Cert.KvPromptRefIdeal.τ) (Cert.KvPromptRefIdeal.main (F := Ideal))) ⟨m', fun _ => 0, g'⟩ (fun r => ∀ c : Dev Cert.KvPromptRefIdeal.nD,
          r.2.mem ((c.tc : Thread Cert.KvPromptRefIdeal.nD Cert.KvPromptRefIdeal.τ).loc Cert.KvPromptRefIdeal.main_v5) = v0 c
          ∧ r.2.mem ((c.tc : Thread Cert.KvPromptRefIdeal.nD Cert.KvPromptRefIdeal.τ).loc Cert.KvPromptRefIdeal.main_arg0) = m' ((c.tc : Thread Cert.KvPromptRefIdeal.nD Cert.KvPromptRefIdeal.τ).loc Cert.KvPromptRefIdeal.main_arg0)
          ∧ r.2.mem ((c.tc : Thread Cert.KvPromptRefIdeal.nD Cert.KvPromptRefIdeal.τ).loc Cert.KvPromptRefIdeal.main_arg1) = m' ((c.tc : Thread Cert.KvPromptRefIdeal.nD Cert.KvPromptRefIdeal.τ).loc Cert.KvPromptRefIdeal.main_arg1))

def preserves_KvSample_KvSampleIdeal : Prop :=
  True

def algebraic_KvSampleIdeal_KvSampleRefIdeal [hKvSampleIdeal : Cert.KvSampleIdeal.Facts] [hKvSampleRefIdeal : Cert.KvSampleRefIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg)
    (m' : (ℓ : Loc Cert.KvSampleRefIdeal.nD Cert.KvSampleRefIdeal.τ Cert.KvSampleRefIdeal.sig) → Buf (Elt Ideal) ℓ) (g' : Dev Cert.KvSampleRefIdeal.nD → PrngReg), Pre_KvSampleIdeal m →
    (∀ c : Dev Cert.KvSampleIdeal.nD,
      m' ((c.tc : Thread Cert.KvSampleRefIdeal.nD Cert.KvSampleRefIdeal.τ).loc Cert.KvSampleRefIdeal.main_arg0) = m ((c.tc : Thread Cert.KvSampleIdeal.nD Cert.KvSampleIdeal.τ).loc Cert.KvSampleIdeal.main_arg0)
      ∧ m' ((c.tc : Thread Cert.KvSampleRefIdeal.nD Cert.KvSampleRefIdeal.τ).loc Cert.KvSampleRefIdeal.main_arg1) = m ((c.tc : Thread Cert.KvSampleIdeal.nD Cert.KvSampleIdeal.τ).loc Cert.KvSampleIdeal.main_arg1)) →
    ∃ (v0 : (c : Dev Cert.KvSampleIdeal.nD) → Buf (Elt Ideal) ((c.tc : Thread Cert.KvSampleIdeal.nD Cert.KvSampleIdeal.τ).loc Cert.KvSampleIdeal.main_v0)),
      θ_run (Cert.KvSampleIdeal.defs (F := Ideal)) (onTc (τ := Cert.KvSampleIdeal.τ) (Cert.KvSampleIdeal.main (F := Ideal))) ⟨m, fun _ => 0, g⟩ (fun r => ∀ c : Dev Cert.KvSampleIdeal.nD,
          r.2.mem ((c.tc : Thread Cert.KvSampleIdeal.nD Cert.KvSampleIdeal.τ).loc Cert.KvSampleIdeal.main_v0) = v0 c
          ∧ r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
          ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1))
      ∧ θ_run (Cert.KvSampleRefIdeal.defs (F := Ideal)) (onTc (τ := Cert.KvSampleRefIdeal.τ) (Cert.KvSampleRefIdeal.main (F := Ideal))) ⟨m', fun _ => 0, g'⟩ (fun r => ∀ c : Dev Cert.KvSampleRefIdeal.nD,
          r.2.mem ((c.tc : Thread Cert.KvSampleRefIdeal.nD Cert.KvSampleRefIdeal.τ).loc Cert.KvSampleRefIdeal.main_v5) = v0 c
          ∧ r.2.mem ((c.tc : Thread Cert.KvSampleRefIdeal.nD Cert.KvSampleRefIdeal.τ).loc Cert.KvSampleRefIdeal.main_arg0) = m' ((c.tc : Thread Cert.KvSampleRefIdeal.nD Cert.KvSampleRefIdeal.τ).loc Cert.KvSampleRefIdeal.main_arg0)
          ∧ r.2.mem ((c.tc : Thread Cert.KvSampleRefIdeal.nD Cert.KvSampleRefIdeal.τ).loc Cert.KvSampleRefIdeal.main_arg1) = m' ((c.tc : Thread Cert.KvSampleRefIdeal.nD Cert.KvSampleRefIdeal.τ).loc Cert.KvSampleRefIdeal.main_arg1))

def preserves_WinPrompt_WinPromptIdeal : Prop :=
  True

def algebraic_WinPromptIdeal_WinPromptRefIdeal [hWinPromptIdeal : Cert.WinPromptIdeal.Facts] [hWinPromptRefIdeal : Cert.WinPromptRefIdeal.Facts] : Prop :=
  ∀ (m : (ℓ : Loc Cert.WinPromptIdeal.nD Cert.WinPromptIdeal.τ Cert.WinPromptIdeal.sig) → Buf (Elt Ideal) ℓ) (g : Dev Cert.WinPromptIdeal.nD → PrngReg)
    (m' : (ℓ : Loc Cert.WinPromptRefIdeal.nD Cert.WinPromptRefIdeal.τ Cert.WinPromptRefIdeal.sig) → Buf (Elt Ideal) ℓ) (g' : Dev Cert.WinPromptRefIdeal.nD → PrngReg), Pre_WinPromptIdeal m →
    (∀ c : Dev Cert.WinPromptIdeal.nD,
      m' ((c.tc : Thread Cert.WinPromptRefIdeal.nD Cert.WinPromptRefIdeal.τ).loc Cert.WinPromptRefIdeal.main_arg0) = m ((c.tc : Thread Cert.WinPromptIdeal.nD Cert.WinPromptIdeal.τ).loc Cert.WinPromptIdeal.main_arg0)
      ∧ m' ((c.tc : Thread Cert.WinPromptRefIdeal.nD Cert.WinPromptRefIdeal.τ).loc Cert.WinPromptRefIdeal.main_arg1) = m ((c.tc : Thread Cert.WinPromptIdeal.nD Cert.WinPromptIdeal.τ).loc Cert.WinPromptIdeal.main_arg1)) →
    ∃ (v0 : (c : Dev Cert.WinPromptIdeal.nD) → Buf (Elt Ideal) ((c.tc : Thread Cert.WinPromptIdeal.nD Cert.WinPromptIdeal.τ).loc Cert.WinPromptIdeal.main_v0)),
      θ_run (Cert.WinPromptIdeal.defs (F := Ideal)) (onTc (τ := Cert.WinPromptIdeal.τ) (Cert.WinPromptIdeal.main (F := Ideal))) ⟨m, fun _ => 0, g⟩ (fun r => ∀ c : Dev Cert.WinPromptIdeal.nD,
          r.2.mem ((c.tc : Thread Cert.WinPromptIdeal.nD Cert.WinPromptIdeal.τ).loc Cert.WinPromptIdeal.main_v0) = v0 c
          ∧ r.2.mem ((c.tc : Thread Cert.WinPromptIdeal.nD Cert.WinPromptIdeal.τ).loc Cert.WinPromptIdeal.main_arg0) = m ((c.tc : Thread Cert.WinPromptIdeal.nD Cert.WinPromptIdeal.τ).loc Cert.WinPromptIdeal.main_arg0)
          ∧ r.2.mem ((c.tc : Thread Cert.WinPromptIdeal.nD Cert.WinPromptIdeal.τ).loc Cert.WinPromptIdeal.main_arg1) = m ((c.tc : Thread Cert.WinPromptIdeal.nD Cert.WinPromptIdeal.τ).loc Cert.WinPromptIdeal.main_arg1))
      ∧ θ_run (Cert.WinPromptRefIdeal.defs (F := Ideal)) (onTc (τ := Cert.WinPromptRefIdeal.τ) (Cert.WinPromptRefIdeal.main (F := Ideal))) ⟨m', fun _ => 0, g'⟩ (fun r => ∀ c : Dev Cert.WinPromptRefIdeal.nD,
          r.2.mem ((c.tc : Thread Cert.WinPromptRefIdeal.nD Cert.WinPromptRefIdeal.τ).loc Cert.WinPromptRefIdeal.main_v5) = v0 c
          ∧ r.2.mem ((c.tc : Thread Cert.WinPromptRefIdeal.nD Cert.WinPromptRefIdeal.τ).loc Cert.WinPromptRefIdeal.main_arg0) = m' ((c.tc : Thread Cert.WinPromptRefIdeal.nD Cert.WinPromptRefIdeal.τ).loc Cert.WinPromptRefIdeal.main_arg0)
          ∧ r.2.mem ((c.tc : Thread Cert.WinPromptRefIdeal.nD Cert.WinPromptRefIdeal.τ).loc Cert.WinPromptRefIdeal.main_arg1) = m' ((c.tc : Thread Cert.WinPromptRefIdeal.nD Cert.WinPromptRefIdeal.τ).loc Cert.WinPromptRefIdeal.main_arg1))

def preserves_MixerSample_MixerSampleIdeal : Prop :=
  True

def algebraic_MixerSampleIdeal_MixerSampleRefIdeal [hMixerSampleIdeal : Cert.MixerSampleIdeal.Facts] [hMixerSampleRefIdeal : Cert.MixerSampleRefIdeal.Facts] : Prop :=
  ∀ (m : (ℓ : Loc Cert.MixerSampleIdeal.nD Cert.MixerSampleIdeal.τ Cert.MixerSampleIdeal.sig) → Buf (Elt Ideal) ℓ) (g : Dev Cert.MixerSampleIdeal.nD → PrngReg)
    (m' : (ℓ : Loc Cert.MixerSampleRefIdeal.nD Cert.MixerSampleRefIdeal.τ Cert.MixerSampleRefIdeal.sig) → Buf (Elt Ideal) ℓ) (g' : Dev Cert.MixerSampleRefIdeal.nD → PrngReg), Pre_MixerSampleIdeal m →
    (∀ c : Dev Cert.MixerSampleIdeal.nD,
      m' ((c.tc : Thread Cert.MixerSampleRefIdeal.nD Cert.MixerSampleRefIdeal.τ).loc Cert.MixerSampleRefIdeal.main_arg0) = m ((c.tc : Thread Cert.MixerSampleIdeal.nD Cert.MixerSampleIdeal.τ).loc Cert.MixerSampleIdeal.main_arg0)
      ∧ m' ((c.tc : Thread Cert.MixerSampleRefIdeal.nD Cert.MixerSampleRefIdeal.τ).loc Cert.MixerSampleRefIdeal.main_arg1) = m ((c.tc : Thread Cert.MixerSampleIdeal.nD Cert.MixerSampleIdeal.τ).loc Cert.MixerSampleIdeal.main_arg1)
      ∧ m' ((c.tc : Thread Cert.MixerSampleRefIdeal.nD Cert.MixerSampleRefIdeal.τ).loc Cert.MixerSampleRefIdeal.main_arg2) = m ((c.tc : Thread Cert.MixerSampleIdeal.nD Cert.MixerSampleIdeal.τ).loc Cert.MixerSampleIdeal.main_arg2)
      ∧ m' ((c.tc : Thread Cert.MixerSampleRefIdeal.nD Cert.MixerSampleRefIdeal.τ).loc Cert.MixerSampleRefIdeal.main_arg3) = m ((c.tc : Thread Cert.MixerSampleIdeal.nD Cert.MixerSampleIdeal.τ).loc Cert.MixerSampleIdeal.main_arg3)
      ∧ m' ((c.tc : Thread Cert.MixerSampleRefIdeal.nD Cert.MixerSampleRefIdeal.τ).loc Cert.MixerSampleRefIdeal.main_arg4) = m ((c.tc : Thread Cert.MixerSampleIdeal.nD Cert.MixerSampleIdeal.τ).loc Cert.MixerSampleIdeal.main_arg4)
      ∧ m' ((c.tc : Thread Cert.MixerSampleRefIdeal.nD Cert.MixerSampleRefIdeal.τ).loc Cert.MixerSampleRefIdeal.main_arg5) = m ((c.tc : Thread Cert.MixerSampleIdeal.nD Cert.MixerSampleIdeal.τ).loc Cert.MixerSampleIdeal.main_arg5)
      ∧ m' ((c.tc : Thread Cert.MixerSampleRefIdeal.nD Cert.MixerSampleRefIdeal.τ).loc Cert.MixerSampleRefIdeal.main_arg6) = m ((c.tc : Thread Cert.MixerSampleIdeal.nD Cert.MixerSampleIdeal.τ).loc Cert.MixerSampleIdeal.main_arg6)
      ∧ m' ((c.tc : Thread Cert.MixerSampleRefIdeal.nD Cert.MixerSampleRefIdeal.τ).loc Cert.MixerSampleRefIdeal.main_arg7) = m ((c.tc : Thread Cert.MixerSampleIdeal.nD Cert.MixerSampleIdeal.τ).loc Cert.MixerSampleIdeal.main_arg7)) →
    ∃ (v0 : (c : Dev Cert.MixerSampleIdeal.nD) → Buf (Elt Ideal) ((c.tc : Thread Cert.MixerSampleIdeal.nD Cert.MixerSampleIdeal.τ).loc Cert.MixerSampleIdeal.main_v9_0)) (v1 : (c : Dev Cert.MixerSampleIdeal.nD) → Buf (Elt Ideal) ((c.tc : Thread Cert.MixerSampleIdeal.nD Cert.MixerSampleIdeal.τ).loc Cert.MixerSampleIdeal.main_v9_1)) (v2 : (c : Dev Cert.MixerSampleIdeal.nD) → Buf (Elt Ideal) ((c.tc : Thread Cert.MixerSampleIdeal.nD Cert.MixerSampleIdeal.τ).loc Cert.MixerSampleIdeal.main_v9_2)) (v3 : (c : Dev Cert.MixerSampleIdeal.nD) → Buf (Elt Ideal) ((c.tc : Thread Cert.MixerSampleIdeal.nD Cert.MixerSampleIdeal.τ).loc Cert.MixerSampleIdeal.main_v9_3)),
      θ_run (Cert.MixerSampleIdeal.defs (F := Ideal)) (onTc (τ := Cert.MixerSampleIdeal.τ) (Cert.MixerSampleIdeal.main (F := Ideal))) ⟨m, fun _ => 0, g⟩ (fun r => ∀ c : Dev Cert.MixerSampleIdeal.nD,
          r.2.mem ((c.tc : Thread Cert.MixerSampleIdeal.nD Cert.MixerSampleIdeal.τ).loc Cert.MixerSampleIdeal.main_v9_0) = v0 c
          ∧ r.2.mem ((c.tc : Thread Cert.MixerSampleIdeal.nD Cert.MixerSampleIdeal.τ).loc Cert.MixerSampleIdeal.main_v9_1) = v1 c
          ∧ r.2.mem ((c.tc : Thread Cert.MixerSampleIdeal.nD Cert.MixerSampleIdeal.τ).loc Cert.MixerSampleIdeal.main_v9_2) = v2 c
          ∧ r.2.mem ((c.tc : Thread Cert.MixerSampleIdeal.nD Cert.MixerSampleIdeal.τ).loc Cert.MixerSampleIdeal.main_v9_3) = v3 c
          ∧ r.2.mem ((c.tc : Thread Cert.MixerSampleIdeal.nD Cert.MixerSampleIdeal.τ).loc Cert.MixerSampleIdeal.main_arg0) = m ((c.tc : Thread Cert.MixerSampleIdeal.nD Cert.MixerSampleIdeal.τ).loc Cert.MixerSampleIdeal.main_arg0)
          ∧ r.2.mem ((c.tc : Thread Cert.MixerSampleIdeal.nD Cert.MixerSampleIdeal.τ).loc Cert.MixerSampleIdeal.main_arg1) = m ((c.tc : Thread Cert.MixerSampleIdeal.nD Cert.MixerSampleIdeal.τ).loc Cert.MixerSampleIdeal.main_arg1)
          ∧ r.2.mem ((c.tc : Thread Cert.MixerSampleIdeal.nD Cert.MixerSampleIdeal.τ).loc Cert.MixerSampleIdeal.main_arg2) = m ((c.tc : Thread Cert.MixerSampleIdeal.nD Cert.MixerSampleIdeal.τ).loc Cert.MixerSampleIdeal.main_arg2)
          ∧ r.2.mem ((c.tc : Thread Cert.MixerSampleIdeal.nD Cert.MixerSampleIdeal.τ).loc Cert.MixerSampleIdeal.main_arg3) = m ((c.tc : Thread Cert.MixerSampleIdeal.nD Cert.MixerSampleIdeal.τ).loc Cert.MixerSampleIdeal.main_arg3)
          ∧ r.2.mem ((c.tc : Thread Cert.MixerSampleIdeal.nD Cert.MixerSampleIdeal.τ).loc Cert.MixerSampleIdeal.main_arg4) = m ((c.tc : Thread Cert.MixerSampleIdeal.nD Cert.MixerSampleIdeal.τ).loc Cert.MixerSampleIdeal.main_arg4)
          ∧ r.2.mem ((c.tc : Thread Cert.MixerSampleIdeal.nD Cert.MixerSampleIdeal.τ).loc Cert.MixerSampleIdeal.main_arg5) = m ((c.tc : Thread Cert.MixerSampleIdeal.nD Cert.MixerSampleIdeal.τ).loc Cert.MixerSampleIdeal.main_arg5)
          ∧ r.2.mem ((c.tc : Thread Cert.MixerSampleIdeal.nD Cert.MixerSampleIdeal.τ).loc Cert.MixerSampleIdeal.main_arg6) = m ((c.tc : Thread Cert.MixerSampleIdeal.nD Cert.MixerSampleIdeal.τ).loc Cert.MixerSampleIdeal.main_arg6)
          ∧ r.2.mem ((c.tc : Thread Cert.MixerSampleIdeal.nD Cert.MixerSampleIdeal.τ).loc Cert.MixerSampleIdeal.main_arg7) = m ((c.tc : Thread Cert.MixerSampleIdeal.nD Cert.MixerSampleIdeal.τ).loc Cert.MixerSampleIdeal.main_arg7))
      ∧ θ_run (Cert.MixerSampleRefIdeal.defs (F := Ideal)) (onTc (τ := Cert.MixerSampleRefIdeal.τ) (Cert.MixerSampleRefIdeal.main (F := Ideal))) ⟨m', fun _ => 0, g'⟩ (fun r => ∀ c : Dev Cert.MixerSampleRefIdeal.nD,
          r.2.mem ((c.tc : Thread Cert.MixerSampleRefIdeal.nD Cert.MixerSampleRefIdeal.τ).loc Cert.MixerSampleRefIdeal.main_v162) = v0 c
          ∧ r.2.mem ((c.tc : Thread Cert.MixerSampleRefIdeal.nD Cert.MixerSampleRefIdeal.τ).loc Cert.MixerSampleRefIdeal.main_v165) = v1 c
          ∧ r.2.mem ((c.tc : Thread Cert.MixerSampleRefIdeal.nD Cert.MixerSampleRefIdeal.τ).loc Cert.MixerSampleRefIdeal.main_v52) = v2 c
          ∧ r.2.mem ((c.tc : Thread Cert.MixerSampleRefIdeal.nD Cert.MixerSampleRefIdeal.τ).loc Cert.MixerSampleRefIdeal.main_v142) = v3 c
          ∧ r.2.mem ((c.tc : Thread Cert.MixerSampleRefIdeal.nD Cert.MixerSampleRefIdeal.τ).loc Cert.MixerSampleRefIdeal.main_arg0) = m' ((c.tc : Thread Cert.MixerSampleRefIdeal.nD Cert.MixerSampleRefIdeal.τ).loc Cert.MixerSampleRefIdeal.main_arg0)
          ∧ r.2.mem ((c.tc : Thread Cert.MixerSampleRefIdeal.nD Cert.MixerSampleRefIdeal.τ).loc Cert.MixerSampleRefIdeal.main_arg1) = m' ((c.tc : Thread Cert.MixerSampleRefIdeal.nD Cert.MixerSampleRefIdeal.τ).loc Cert.MixerSampleRefIdeal.main_arg1)
          ∧ r.2.mem ((c.tc : Thread Cert.MixerSampleRefIdeal.nD Cert.MixerSampleRefIdeal.τ).loc Cert.MixerSampleRefIdeal.main_arg2) = m' ((c.tc : Thread Cert.MixerSampleRefIdeal.nD Cert.MixerSampleRefIdeal.τ).loc Cert.MixerSampleRefIdeal.main_arg2)
          ∧ r.2.mem ((c.tc : Thread Cert.MixerSampleRefIdeal.nD Cert.MixerSampleRefIdeal.τ).loc Cert.MixerSampleRefIdeal.main_arg3) = m' ((c.tc : Thread Cert.MixerSampleRefIdeal.nD Cert.MixerSampleRefIdeal.τ).loc Cert.MixerSampleRefIdeal.main_arg3)
          ∧ r.2.mem ((c.tc : Thread Cert.MixerSampleRefIdeal.nD Cert.MixerSampleRefIdeal.τ).loc Cert.MixerSampleRefIdeal.main_arg4) = m' ((c.tc : Thread Cert.MixerSampleRefIdeal.nD Cert.MixerSampleRefIdeal.τ).loc Cert.MixerSampleRefIdeal.main_arg4)
          ∧ r.2.mem ((c.tc : Thread Cert.MixerSampleRefIdeal.nD Cert.MixerSampleRefIdeal.τ).loc Cert.MixerSampleRefIdeal.main_arg5) = m' ((c.tc : Thread Cert.MixerSampleRefIdeal.nD Cert.MixerSampleRefIdeal.τ).loc Cert.MixerSampleRefIdeal.main_arg5)
          ∧ r.2.mem ((c.tc : Thread Cert.MixerSampleRefIdeal.nD Cert.MixerSampleRefIdeal.τ).loc Cert.MixerSampleRefIdeal.main_arg6) = m' ((c.tc : Thread Cert.MixerSampleRefIdeal.nD Cert.MixerSampleRefIdeal.τ).loc Cert.MixerSampleRefIdeal.main_arg6)
          ∧ r.2.mem ((c.tc : Thread Cert.MixerSampleRefIdeal.nD Cert.MixerSampleRefIdeal.τ).loc Cert.MixerSampleRefIdeal.main_arg7) = m' ((c.tc : Thread Cert.MixerSampleRefIdeal.nD Cert.MixerSampleRefIdeal.τ).loc Cert.MixerSampleRefIdeal.main_arg7))

def Claim : Prop :=
  ∃ (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hInProj : Cert.InProj.Facts) (hInProjIdeal : Cert.InProjIdeal.Facts) (hInProjRefIdeal : Cert.InProjRefIdeal.Facts) (hMixProj : Cert.MixProj.Facts) (hMixProjIdeal : Cert.MixProjIdeal.Facts) (hMixProjRefIdeal : Cert.MixProjRefIdeal.Facts) (hOutProj : Cert.OutProj.Facts) (hOutProjIdeal : Cert.OutProjIdeal.Facts) (hOutProjRefIdeal : Cert.OutProjRefIdeal.Facts) (hPle : Cert.Ple.Facts) (hPleIdeal : Cert.PleIdeal.Facts) (hPleRefIdeal : Cert.PleRefIdeal.Facts) (hNorm : Cert.Norm.Facts) (hNormIdeal : Cert.NormIdeal.Facts) (hNormRefIdeal : Cert.NormRefIdeal.Facts) (hFinalNorm : Cert.FinalNorm.Facts) (hFinalNormIdeal : Cert.FinalNormIdeal.Facts) (hFinalNormRefIdeal : Cert.FinalNormRefIdeal.Facts) (hKvPrompt : Cert.KvPrompt.Facts) (hKvPromptIdeal : Cert.KvPromptIdeal.Facts) (hKvPromptRefIdeal : Cert.KvPromptRefIdeal.Facts) (hKvSample : Cert.KvSample.Facts) (hKvSampleIdeal : Cert.KvSampleIdeal.Facts) (hKvSampleRefIdeal : Cert.KvSampleRefIdeal.Facts) (hWinPrompt : Cert.WinPrompt.Facts) (hWinPromptIdeal : Cert.WinPromptIdeal.Facts) (hWinPromptRefIdeal : Cert.WinPromptRefIdeal.Facts) (hMixerSample : Cert.MixerSample.Facts) (hMixerSampleIdeal : Cert.MixerSampleIdeal.Facts) (hMixerSampleRefIdeal : Cert.MixerSampleRefIdeal.Facts),
    quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_MixProj (hMixProj := hMixProj)
    ∧ quiescent_MixProjIdeal (hMixProjIdeal := hMixProjIdeal)
    ∧ quiescent_MixProjRefIdeal (hMixProjRefIdeal := hMixProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ple (hPle := hPle)
    ∧ quiescent_PleIdeal (hPleIdeal := hPleIdeal)
    ∧ quiescent_PleRefIdeal (hPleRefIdeal := hPleRefIdeal)
    ∧ quiescent_Norm (hNorm := hNorm)
    ∧ quiescent_NormIdeal (hNormIdeal := hNormIdeal)
    ∧ quiescent_NormRefIdeal (hNormRefIdeal := hNormRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_KvPrompt (hKvPrompt := hKvPrompt)
    ∧ quiescent_KvPromptIdeal (hKvPromptIdeal := hKvPromptIdeal)
    ∧ quiescent_KvPromptRefIdeal (hKvPromptRefIdeal := hKvPromptRefIdeal)
    ∧ quiescent_KvSample (hKvSample := hKvSample)
    ∧ quiescent_KvSampleIdeal (hKvSampleIdeal := hKvSampleIdeal)
    ∧ quiescent_KvSampleRefIdeal (hKvSampleRefIdeal := hKvSampleRefIdeal)
    ∧ quiescent_WinPrompt (hWinPrompt := hWinPrompt)
    ∧ quiescent_WinPromptIdeal (hWinPromptIdeal := hWinPromptIdeal)
    ∧ quiescent_WinPromptRefIdeal (hWinPromptRefIdeal := hWinPromptRefIdeal)
    ∧ quiescent_MixerSample (hMixerSample := hMixerSample)
    ∧ quiescent_MixerSampleIdeal (hMixerSampleIdeal := hMixerSampleIdeal)
    ∧ quiescent_MixerSampleRefIdeal (hMixerSampleRefIdeal := hMixerSampleRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InProj_InProjIdeal
    ∧ algebraic_InProjIdeal_InProjRefIdeal (hInProjIdeal := hInProjIdeal) (hInProjRefIdeal := hInProjRefIdeal)
    ∧ preserves_MixProj_MixProjIdeal
    ∧ algebraic_MixProjIdeal_MixProjRefIdeal (hMixProjIdeal := hMixProjIdeal) (hMixProjRefIdeal := hMixProjRefIdeal)
    ∧ preserves_OutProj_OutProjIdeal
    ∧ algebraic_OutProjIdeal_OutProjRefIdeal (hOutProjIdeal := hOutProjIdeal) (hOutProjRefIdeal := hOutProjRefIdeal)
    ∧ preserves_Ple_PleIdeal
    ∧ algebraic_PleIdeal_PleRefIdeal (hPleIdeal := hPleIdeal) (hPleRefIdeal := hPleRefIdeal)
    ∧ preserves_Norm_NormIdeal
    ∧ algebraic_NormIdeal_NormRefIdeal (hNormIdeal := hNormIdeal) (hNormRefIdeal := hNormRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_KvPrompt_KvPromptIdeal
    ∧ algebraic_KvPromptIdeal_KvPromptRefIdeal (hKvPromptIdeal := hKvPromptIdeal) (hKvPromptRefIdeal := hKvPromptRefIdeal)
    ∧ preserves_KvSample_KvSampleIdeal
    ∧ algebraic_KvSampleIdeal_KvSampleRefIdeal (hKvSampleIdeal := hKvSampleIdeal) (hKvSampleRefIdeal := hKvSampleRefIdeal)
    ∧ preserves_WinPrompt_WinPromptIdeal
    ∧ algebraic_WinPromptIdeal_WinPromptRefIdeal (hWinPromptIdeal := hWinPromptIdeal) (hWinPromptRefIdeal := hWinPromptRefIdeal)
    ∧ preserves_MixerSample_MixerSampleIdeal
    ∧ algebraic_MixerSampleIdeal_MixerSampleRefIdeal (hMixerSampleIdeal := hMixerSampleIdeal) (hMixerSampleRefIdeal := hMixerSampleRefIdeal)
-- ==== FfnUp.lean ====
abbrev S8448x2048 : Shape := ⟨2, ![8448, 2048]⟩
abbrev S2x2048x5632 : Shape := ⟨3, ![2, 2048, 5632]⟩
abbrev S4096x5632 : Shape := ⟨2, ![4096, 5632]⟩
abbrev S8448x5632 : Shape := ⟨2, ![8448, 5632]⟩
abbrev S768x2048 : Shape := ⟨2, ![768, 2048]⟩
abbrev S2048x512 : Shape := ⟨2, ![2048, 512]⟩
abbrev S768x512 : Shape := ⟨2, ![768, 512]⟩

abbrev nBuf : Space → Nat
  | .hbm => 6
  | .vmem => 10
  | .smem => 0
  | _ => 0

abbrev bufTy : (tb : Table) → Fin (tcTables nBuf tb) → BufTy
  | .hbm, ⟨0, _⟩ => ⟨S8448x2048, .bf16⟩
  | .hbm, ⟨1, _⟩ => ⟨S2x2048x5632, .f32⟩
  | .hbm, ⟨2, _⟩ => ⟨S2x2048x5632, .f32⟩
  | .hbm, ⟨3, _⟩ => ⟨S4096x5632, .f32⟩
  | .hbm, ⟨4, _⟩ => ⟨S4096x5632, .f32⟩
  | .hbm, ⟨5, _⟩ => ⟨S8448x5632, .bf16⟩
  | .local _ .vmem, ⟨0, _⟩ => ⟨S768x2048, .bf16⟩
  | .local _ .vmem, ⟨1, _⟩ => ⟨S768x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S768x512, .bf16⟩
  | .local _ .vmem, ⟨7, _⟩ => ⟨S768x512, .bf16⟩
  | .local _ .vmem, ⟨8, _⟩ => ⟨S2048x512, .bf16⟩
  | .local _ .vmem, ⟨9, _⟩ => ⟨S2048x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S8448x2048 : Shape := ⟨2, ![8448, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8448x5632 : Shape := ⟨2, ![8448, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x2048x5632, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S8448x5632, .f32⟩
  | .hbm, ⟨6, _⟩ => ⟨S8448x5632, .f32⟩
  | .hbm, ⟨7, _⟩ => ⟨S8448x5632, .f32⟩
  | .hbm, ⟨8, _⟩ => ⟨S_, .f32⟩
  | .hbm, ⟨9, _⟩ => ⟨S8448x5632, .f32⟩
  | .hbm, ⟨10, _⟩ => ⟨S8448x5632, .f32⟩
  | .hbm, ⟨11, _⟩ => ⟨S_, .f32⟩
  | .hbm, ⟨12, _⟩ => ⟨S8448x5632, .f32⟩
  | .hbm, ⟨13, _⟩ => ⟨S8448x5632, .f32⟩
  | .hbm, ⟨14, _⟩ => ⟨S8448x5632, .f32⟩
  | .hbm, ⟨15, _⟩ => ⟨S1x2048x5632, .f32⟩
  | .hbm, ⟨16, _⟩ => ⟨S2048x5632, .f32⟩
  | .hbm, ⟨17, _⟩ => ⟨S8448x5632, .f32⟩
  | .hbm, ⟨18, _⟩ => ⟨S8448x5632, .f32⟩
  | .hbm, ⟨19, _⟩ => ⟨S8448x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== FfnDown.lean ====
abbrev S8448x5632 : Shape := ⟨2, ![8448, 5632]⟩
abbrev S2x5632x2048 : Shape := ⟨3, ![2, 5632, 2048]⟩
abbrev S8448x2048 : Shape := ⟨2, ![8448, 2048]⟩
abbrev S1x5632x2048 : Shape := ⟨3, ![1, 5632, 2048]⟩
abbrev S5632x2048 : Shape := ⟨2, ![5632, 2048]⟩
abbrev S768x5632 : Shape := ⟨2, ![768, 5632]⟩
abbrev S5632x1024 : Shape := ⟨2, ![5632, 1024]⟩
abbrev S768x1024 : Shape := ⟨2, ![768, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S2x5632x2048, .f32⟩
  | .hbm, ⟨2, _⟩ => ⟨S8448x2048, .f32⟩
  | .hbm, ⟨3, _⟩ => ⟨S1x5632x2048, .f32⟩
  | .hbm, ⟨4, _⟩ => ⟨S5632x2048, .f32⟩
  | .hbm, ⟨5, _⟩ => ⟨S5632x2048, .bf16⟩
  | .hbm, ⟨6, _⟩ => ⟨S8448x2048, .f32⟩
  | .local _ .vmem, ⟨0, _⟩ => ⟨S768x5632, .bf16⟩
  | .local _ .vmem, ⟨1, _⟩ => ⟨S768x5632, .bf16⟩
  | .local _ .vmem, ⟨2, _⟩ => ⟨S5632x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S8448x5632 : Shape := ⟨2, ![8448, 5632]⟩
abbrev S2x5632x2048 : Shape := ⟨3, ![2, 5632, 2048]⟩
abbrev S8448x2048 : Shape := ⟨2, ![8448, 2048]⟩
abbrev S1x5632x2048 : Shape := ⟨3, ![1, 5632, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S2x5632x2048, .f32⟩
  | .hbm, ⟨2, _⟩ => ⟨S8448x2048, .f32⟩
  | .hbm, ⟨3, _⟩ => ⟨S1x5632x2048, .f32⟩
  | .hbm, ⟨4, _⟩ => ⟨S5632x2048, .f32⟩
  | .hbm, ⟨5, _⟩ => ⟨S8448x2048, .f32⟩
  | .hbm, ⟨6, _⟩ => ⟨S8448x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProj.lean ====
abbrev S8448x2048 : Shape := ⟨2, ![8448, 2048]⟩
abbrev S12800x2048 : Shape := ⟨2, ![12800, 2048]⟩
abbrev S8448x12800 : Shape := ⟨2, ![8448, 12800]⟩
abbrev S768x2048 : Shape := ⟨2, ![768, 2048]⟩
abbrev S2560x2048 : Shape := ⟨2, ![2560, 2048]⟩
abbrev S768x2560 : Shape := ⟨2, ![768, 2560]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S12800x2048, .bf16⟩
  | .hbm, ⟨2, _⟩ => ⟨S8448x12800, .f32⟩
  | .local _ .vmem, ⟨0, _⟩ => ⟨S768x2048, .bf16⟩
  | .local _ .vmem, ⟨1, _⟩ => ⟨S768x2048, .bf16⟩
  | .local _ .vmem, ⟨2, _⟩ => ⟨S2560x2048, .bf16⟩
  | .local _ .vmem, ⟨3, _⟩ => ⟨S2560x2048, .bf16⟩
  | .local _ .vmem, ⟨4, _⟩ => ⟨S768x2560, .f32⟩
  | .local _ .vmem, ⟨5, _⟩ => ⟨S768x2560, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2560x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8448x2048 : Shape := ⟨2, ![8448, 2048]⟩
abbrev S12800x2048 : Shape := ⟨2, ![12800, 2048]⟩
abbrev S2048x12800 : Shape := ⟨2, ![2048, 12800]⟩
abbrev S8448x12800 : Shape := ⟨2, ![8448, 12800]⟩

abbrev nBuf : Space → Nat
  | .hbm => 4
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S12800x2048, .bf16⟩
  | .hbm, ⟨2, _⟩ => ⟨S2048x12800, .bf16⟩
  | .hbm, ⟨3, _⟩ => ⟨S8448x12800, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixProj.lean ====
abbrev S8448x1024 : Shape := ⟨2, ![8448, 1024]⟩
abbrev S8448x512 : Shape := ⟨2, ![8448, 512]⟩
abbrev S2x1024x2048 : Shape := ⟨3, ![2, 1024, 2048]⟩
abbrev S2x512x2048 : Shape := ⟨3, ![2, 512, 2048]⟩
abbrev S8448x12800 : Shape := ⟨2, ![8448, 12800]⟩
abbrev S2048x2048 : Shape := ⟨2, ![2048, 2048]⟩
abbrev S1024x2048 : Shape := ⟨2, ![1024, 2048]⟩
abbrev S8448x2048 : Shape := ⟨2, ![8448, 2048]⟩
abbrev S768x1024 : Shape := ⟨2, ![768, 1024]⟩
abbrev S768x512 : Shape := ⟨2, ![768, 512]⟩
abbrev S1024x1024 : Shape := ⟨2, ![1024, 1024]⟩
abbrev S512x1024 : Shape := ⟨2, ![512, 1024]⟩

abbrev nBuf : Space → Nat
  | .hbm => 14
  | .vmem => 20
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S2x1024x2048, .f32⟩
  | .hbm, ⟨4, _⟩ => ⟨S2x512x2048, .f32⟩
  | .hbm, ⟨5, _⟩ => ⟨S2x512x2048, .f32⟩
  | .hbm, ⟨6, _⟩ => ⟨S8448x12800, .f32⟩
  | .hbm, ⟨7, _⟩ => ⟨S2048x2048, .f32⟩
  | .hbm, ⟨8, _⟩ => ⟨S2048x2048, .bf16⟩
  | .hbm, ⟨9, _⟩ => ⟨S1024x2048, .f32⟩
  | .hbm, ⟨10, _⟩ => ⟨S1024x2048, .bf16⟩
  | .hbm, ⟨11, _⟩ => ⟨S1024x2048, .f32⟩
  | .hbm, ⟨12, _⟩ => ⟨S1024x2048, .bf16⟩
  | .hbm, ⟨13, _⟩ => ⟨S8448x2048, .bf16⟩
  | .local _ .vmem, ⟨0, _⟩ => ⟨S768x1024, .f32⟩
  | .local _ .vmem, ⟨1, _⟩ => ⟨S768x1024, .f32⟩
  | .local _ .vmem, ⟨2, _⟩ => ⟨S768x512, .f32⟩
  | .local _ .vmem, ⟨3, _⟩ => ⟨S768x512, .f32⟩
  | .local _ .vmem, ⟨4, _⟩ => ⟨S768x512, .f32⟩
  | .local _ .vmem, ⟨5, _⟩ => ⟨S768x512, .f32⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S768x1024, .f32⟩
  | .local _ .vmem, ⟨13, _⟩ => ⟨S768x1024, .f32⟩
  | .local _ .vmem, ⟨14, _⟩ => ⟨S768x1024, .f32⟩
  | .local _ .vmem, ⟨15, _⟩ => ⟨S768x1024, .f32⟩
  | .local _ .vmem, ⟨16, _⟩ => ⟨S768x1024, .f32⟩
  | .local _ .vmem, ⟨17, _⟩ => ⟨S768x1024, .f32⟩
  | .local _ .vmem, ⟨18, _⟩ => ⟨S768x1024, .bf16⟩
  | .local _ .vmem, ⟨19, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MixProjRefIdeal.lean ====
abbrev S8448x1024 : Shape := ⟨2, ![8448, 1024]⟩
abbrev S8448x512 : Shape := ⟨2, ![8448, 512]⟩
abbrev S2x1024x2048 : Shape := ⟨3, ![2, 1024, 2048]⟩
abbrev S2x512x2048 : Shape := ⟨3, ![2, 512, 2048]⟩
abbrev S8448x12800 : Shape := ⟨2, ![8448, 12800]⟩
abbrev S8448x6144 : Shape := ⟨2, ![8448, 6144]⟩
abbrev S_ : Shape := ⟨0, ![]⟩
abbrev S8448x2048 : Shape := ⟨2, ![8448, 2048]⟩
abbrev S1x1024x2048 : Shape := ⟨3, ![1, 1024, 2048]⟩
abbrev S1024x2048 : Shape := ⟨2, ![1024, 2048]⟩
abbrev S1x512x2048 : Shape := ⟨3, ![1, 512, 2048]⟩
abbrev S512x2048 : Shape := ⟨2, ![512, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S2x1024x2048, .f32⟩
  | .hbm, ⟨4, _⟩ => ⟨S2x512x2048, .f32⟩
  | .hbm, ⟨5, _⟩ => ⟨S2x512x2048, .f32⟩
  | .hbm, ⟨6, _⟩ => ⟨S8448x12800, .f32⟩
  | .hbm, ⟨7, _⟩ => ⟨S8448x6144, .f32⟩
  | .hbm, ⟨8, _⟩ => ⟨S8448x6144, .f32⟩
  | .hbm, ⟨9, _⟩ => ⟨S8448x6144, .f32⟩
  | .hbm, ⟨10, _⟩ => ⟨S_, .f32⟩
  | .hbm, ⟨11, _⟩ => ⟨S8448x6144, .f32⟩
  | .hbm, ⟨12, _⟩ => ⟨S8448x6144, .f32⟩
  | .hbm, ⟨13, _⟩ => ⟨S_, .f32⟩
  | .hbm, ⟨14, _⟩ => ⟨S8448x6144, .f32⟩
  | .hbm, ⟨15, _⟩ => ⟨S8448x6144, .f32⟩
  | .hbm, ⟨16, _⟩ => ⟨S8448x2048, .f32⟩
  | .hbm, ⟨17, _⟩ => ⟨S8448x2048, .f32⟩
  | .hbm, ⟨18, _⟩ => ⟨S8448x2048, .f32⟩
  | .hbm, ⟨19, _⟩ => ⟨S1x1024x2048, .f32⟩
  | .hbm, ⟨20, _⟩ => ⟨S1024x2048, .f32⟩
  | .hbm, ⟨21, _⟩ => ⟨S8448x2048, .f32⟩
  | .hbm, ⟨22, _⟩ => ⟨S8448x2048, .f32⟩
  | .hbm, ⟨23, _⟩ => ⟨S1x512x2048, .f32⟩
  | .hbm, ⟨24, _⟩ => ⟨S512x2048, .f32⟩
  | .hbm, ⟨25, _⟩ => ⟨S8448x2048, .f32⟩
  | .hbm, ⟨26, _⟩ => ⟨S8448x2048, .f32⟩
  | .hbm, ⟨27, _⟩ => ⟨S8448x2048, .f32⟩
  | .hbm, ⟨28, _⟩ => ⟨S1x512x2048, .f32⟩
  | .hbm, ⟨29, _⟩ => ⟨S512x2048, .f32⟩
  | .hbm, ⟨30, _⟩ => ⟨S8448x2048, .f32⟩
  | .hbm, ⟨31, _⟩ => ⟨S8448x2048, .f32⟩
  | .hbm, ⟨32, _⟩ => ⟨S8448x2048, .f32⟩
  | .hbm, ⟨33, _⟩ => ⟨S8448x2048, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== OutProj.lean ====
abbrev S8448x2048 : Shape := ⟨2, ![8448, 2048]⟩
abbrev S2x2048x2048 : Shape := ⟨3, ![2, 2048, 2048]⟩
abbrev S4096x2048 : Shape := ⟨2, ![4096, 2048]⟩
abbrev S768x2048 : Shape := ⟨2, ![768, 2048]⟩
abbrev S2048x2048 : Shape := ⟨2, ![2048, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2x2048x2048, .f32⟩
  | .hbm, ⟨2, _⟩ => ⟨S8448x2048, .f32⟩
  | .hbm, ⟨3, _⟩ => ⟨S4096x2048, .f32⟩
  | .hbm, ⟨4, _⟩ => ⟨S4096x2048, .bf16⟩
  | .hbm, ⟨5, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x2048, .bf16⟩
  | .local _ .vmem, ⟨3, _⟩ => ⟨S768x2048, .f32⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8448x2048 : Shape := ⟨2, ![8448, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x2048x2048, .f32⟩
  | .hbm, ⟨2, _⟩ => ⟨S8448x2048, .f32⟩
  | .hbm, ⟨3, _⟩ => ⟨S1x2048x2048, .f32⟩
  | .hbm, ⟨4, _⟩ => ⟨S2048x2048, .f32⟩
  | .hbm, ⟨5, _⟩ => ⟨S8448x2048, .f32⟩
  | .hbm, ⟨6, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ple.lean ====
abbrev S8448x2048 : Shape := ⟨2, ![8448, 2048]⟩
abbrev S2x2x4096x256 : Shape := ⟨4, ![2, 2, 4096, 256]⟩
abbrev S2x32x8x256 : Shape := ⟨4, ![2, 32, 8, 256]⟩
abbrev S2x2048x2048 : Shape := ⟨3, ![2, 2048, 2048]⟩
abbrev S2x256x2048 : Shape := ⟨3, ![2, 256, 2048]⟩
abbrev S1x2x4096x256 : Shape := ⟨4, ![1, 2, 4096, 256]⟩
abbrev S2x4096x256 : Shape := ⟨3, ![2, 4096, 256]⟩
abbrev S8192x256 : Shape := ⟨2, ![8192, 256]⟩
abbrev S1x32x8x256 : Shape := ⟨4, ![1, 32, 8, 256]⟩
abbrev S32x8x256 : Shape := ⟨3, ![32, 8, 256]⟩
abbrev S256x256 : Shape := ⟨2, ![256, 256]⟩
abbrev S8448x256 : Shape := ⟨2, ![8448, 256]⟩
abbrev S4096x2048 : Shape := ⟨2, ![4096, 2048]⟩
abbrev S512x2048 : Shape := ⟨2, ![512, 2048]⟩
abbrev S768x2048 : Shape := ⟨2, ![768, 2048]⟩
abbrev S768x256 : Shape := ⟨2, ![768, 256]⟩
abbrev S2048x2048 : Shape := ⟨2, ![2048, 2048]⟩
abbrev S256x2048 : Shape := ⟨2, ![256, 2048]⟩

abbrev nBuf : Space → Nat
  | .hbm => 17
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S2x2x4096x256, .f32⟩
  | .hbm, ⟨2, _⟩ => ⟨S2x32x8x256, .f32⟩
  | .hbm, ⟨3, _⟩ => ⟨S2x2048x2048, .f32⟩
  | .hbm, ⟨4, _⟩ => ⟨S2x256x2048, .f32⟩
  | .hbm, ⟨5, _⟩ => ⟨S1x2x4096x256, .f32⟩
  | .hbm, ⟨6, _⟩ => ⟨S2x4096x256, .f32⟩
  | .hbm, ⟨7, _⟩ => ⟨S8192x256, .f32⟩
  | .hbm, ⟨8, _⟩ => ⟨S1x32x8x256, .f32⟩
  | .hbm, ⟨9, _⟩ => ⟨S32x8x256, .f32⟩
  | .hbm, ⟨10, _⟩ => ⟨S256x256, .f32⟩
  | .hbm, ⟨11, _⟩ => ⟨S8448x256, .f32⟩
  | .hbm, ⟨12, _⟩ => ⟨S4096x2048, .f32⟩
  | .hbm, ⟨13, _⟩ => ⟨S4096x2048, .bf16⟩
  | .hbm, ⟨14, _⟩ => ⟨S512x2048, .f32⟩
  | .hbm, ⟨15, _⟩ => ⟨S512x2048, .bf16⟩
  | .hbm, ⟨16, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S768x256, .f32⟩
  | .local _ .vmem, ⟨3, _⟩ => ⟨S768x256, .f32⟩
  | .local _ .vmem, ⟨4, _⟩ => ⟨S2048x2048, .bf16⟩
  | .local _ .vmem, ⟨5, _⟩ => ⟨S256x2048, .bf16⟩
  | .local _ .vmem, ⟨6, _⟩ => ⟨S768x2048, .f32⟩
  | .local _ .vmem, ⟨7, _⟩ => ⟨S768x2048, .f32⟩
  | .local _ .vmem, ⟨8, _⟩ => ⟨S768x2048, .f32⟩
  | .local _ .vmem, ⟨9, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S8448x2048 : Shape := ⟨2, ![8448, 2048]⟩
abbrev S2x2x4096x256 : Shape := ⟨4, ![2, 2, 4096, 256]⟩
abbrev S2x32x8x256 : Shape := ⟨4, ![2, 32, 8, 256]⟩
abbrev S2x2048x2048 : Shape := ⟨3, ![2, 2048, 2048]⟩
abbrev S2x256x2048 : Shape := ⟨3, ![2, 256, 2048]⟩
abbrev S1x2x4096x256 : Shape := ⟨4, ![1, 2, 4096, 256]⟩
abbrev S2x4096x256 : Shape := ⟨3, ![2, 4096, 256]⟩
abbrev S8192x256 : Shape := ⟨2, ![8192, 256]⟩
abbrev S1x32x8x256 : Shape := ⟨4, ![1, 32, 8, 256]⟩
abbrev S32x8x256 : Shape := ⟨3, ![32, 8, 256]⟩
abbrev S256x256 : Shape := ⟨2, ![256, 256]⟩
abbrev S8448x256 : Shape := ⟨2, ![8448, 256]⟩
abbrev S1x2048x2048 : Shape := ⟨3, ![1, 2048, 2048]⟩
abbrev S2048x2048 : Shape := ⟨2, ![2048, 2048]⟩
abbrev S_ : Shape := ⟨0, ![]⟩
abbrev S1x256x2048 : Shape := ⟨3, ![1, 256, 2048]⟩
abbrev S256x2048 : Shape := ⟨2, ![256, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2x4096x256, .f32⟩
  | .hbm, ⟨2, _⟩ => ⟨S2x32x8x256, .f32⟩
  | .hbm, ⟨3, _⟩ => ⟨S2x2048x2048, .f32⟩
  | .hbm, ⟨4, _⟩ => ⟨S2x256x2048, .f32⟩
  | .hbm, ⟨5, _⟩ => ⟨S1x2x4096x256, .f32⟩
  | .hbm, ⟨6, _⟩ => ⟨S2x4096x256, .f32⟩
  | .hbm, ⟨7, _⟩ => ⟨S8192x256, .f32⟩
  | .hbm, ⟨8, _⟩ => ⟨S1x32x8x256, .f32⟩
  | .hbm, ⟨9, _⟩ => ⟨S32x8x256, .f32⟩
  | .hbm, ⟨10, _⟩ => ⟨S256x256, .f32⟩
  | .hbm, ⟨11, _⟩ => ⟨S8448x256, .f32⟩
  | .hbm, ⟨12, _⟩ => ⟨S1x2048x2048, .f32⟩
  | .hbm, ⟨13, _⟩ => ⟨S2048x2048, .f32⟩
  | .hbm, ⟨14, _⟩ => ⟨S8448x2048, .f32⟩
  | .hbm, ⟨15, _⟩ => ⟨S8448x2048, .f32⟩
  | .hbm, ⟨16, _⟩ => ⟨S8448x2048, .f32⟩
  | .hbm, ⟨17, _⟩ => ⟨S_, .f32⟩
  | .hbm, ⟨18, _⟩ => ⟨S8448x2048, .f32⟩
  | .hbm, ⟨19, _⟩ => ⟨S8448x2048, .f32⟩
  | .hbm, ⟨20, _⟩ => ⟨S_, .f32⟩
  | .hbm, ⟨21, _⟩ => ⟨S8448x2048, .f32⟩
  | .hbm, ⟨22, _⟩ => ⟨S8448x2048, .f32⟩
  | .hbm, ⟨23, _⟩ => ⟨S1x256x2048, .f32⟩
  | .hbm, ⟨24, _⟩ => ⟨S256x2048, .f32⟩
  | .hbm, ⟨25, _⟩ => ⟨S8448x2048, .f32⟩
  | .hbm, ⟨26, _⟩ => ⟨S8448x2048, .f32⟩
  | .hbm, ⟨27, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Norm.lean ====
abbrev S8448x2048 : Shape := ⟨2, ![8448, 2048]⟩
abbrev S2x2048 : Shape := ⟨2, ![2, 2048]⟩
abbrev S1x2048 : Shape := ⟨2, ![1, 2048]⟩
abbrev S2048 : Shape := ⟨1, ![2048]⟩
abbrev S768x2048 : Shape := ⟨2, ![768, 2048]⟩
abbrev S768 : Shape := ⟨1, ![768]⟩
abbrev S768x1 : Shape := ⟨2, ![768, 1]⟩

abbrev nBuf : Space → Nat
  | .hbm => 6
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S768x2048, .bf16⟩
  | .local _ .vmem, ⟨4, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8448x2048 : Shape := ⟨2, ![8448, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S8448 : Shape := ⟨1, ![8448]⟩
abbrev S8448x1 : Shape := ⟨2, ![8448, 1]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S8448x2048, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x2048, .f32⟩
  | .hbm, ⟨16, _⟩ => ⟨S8448x2048, .f32⟩
  | .hbm, ⟨17, _⟩ => ⟨S1x2048, .f32⟩
  | .hbm, ⟨18, _⟩ => ⟨S8448x2048, .f32⟩
  | .hbm, ⟨19, _⟩ => ⟨S8448x2048, .f32⟩
  | .hbm, ⟨20, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== FinalNorm.lean ====
abbrev S8448x2048 : Shape := ⟨2, ![8448, 2048]⟩
abbrev S2048 : Shape := ⟨1, ![2048]⟩
abbrev S1x2048 : Shape := ⟨2, ![1, 2048]⟩
abbrev S8192x2048 : Shape := ⟨2, ![8192, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S1x2048, .f32⟩
  | .hbm, ⟨3, _⟩ => ⟨S8192x2048, .f32⟩
  | .hbm, ⟨4, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v18 : BitVec 1 := Scalar.cmpi .slt arg0 c32_i32
  let v19 : BitVec 32 := Scalar.extui v18
  let c0_i32_6 : BitVec 32 := 0#32
  let v20 : BitVec 1 := Scalar.cmpi .ne v19 c0_i32_6
  v20

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_5 : BitVec 32 := 0#32
  let v17 : BitVec 1 := Scalar.cmpi .ne v16 c0_i32_5
  v17

def k0_cond3 (i : grid0.Coords) : BitVec 1 :=
  let arg0 : BitVec 32 := BitVec.ofNat 32 (i 0).val
  let c32_i32_7 : BitVec 32 := 32#32
  let v21 : BitVec 1 := Scalar.cmpi .sge arg0 c32_i32_7
  let v22 : BitVec 32 := Scalar.extui v21
  let c0_i32_8 : BitVec 32 := 0#32
  let v23 : BitVec 1 := Scalar.cmpi .ne v22 c0_i32_8
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalNormRefIdeal.lean ====
abbrev S8448x2048 : Shape := ⟨2, ![8448, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 36
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x1, .f32⟩
  | .hbm, ⟨31, _⟩ => ⟨S256x2048, .f32⟩
  | .hbm, ⟨32, _⟩ => ⟨S256x2048, .f32⟩
  | .hbm, ⟨33, _⟩ => ⟨S1x2048, .f32⟩
  | .hbm, ⟨34, _⟩ => ⟨S256x2048, .f32⟩
  | .hbm, ⟨35, _⟩ => ⟨S256x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== KvPrompt.lean ====
abbrev S8448x12800 : Shape := ⟨2, ![8448, 12800]⟩
abbrev S131072x128 : Shape := ⟨2, ![131072, 128]⟩
abbrev S512x1024 : Shape := ⟨2, ![512, 1024]⟩
abbrev S4096x128 : Shape := ⟨2, ![4096, 128]⟩
abbrev S512x128 : Shape := ⟨2, ![512, 128]⟩

abbrev nBuf : Space → Nat
  | .hbm => 3
  | .vmem => 4
  | .smem => 0
  | _ => 0

abbrev bufTy : (tb : Table) → Fin (tcTables nBuf tb) → BufTy
  | .hbm, ⟨0, _⟩ => ⟨S8448x12800, .f32⟩
  | .hbm, ⟨1, _⟩ => ⟨S131072x128, .f32⟩
  | .hbm, ⟨2, _⟩ => ⟨S131072x128, .f32⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | _, _ => ⟨S8448x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c16_i32 : BitVec 32 := 16#32
  let v1 : BitVec 32 := Scalar.muli v0 c16_i32
  let v2 : BitVec 32 := Scalar.addi v1 arg1
  let c0_i32 : BitVec 32 := 0#32
  let c0_i32_0 : BitVec 32 := 0#32
  ![v2.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== KvPromptRefIdeal.lean ====
abbrev S8448x12800 : Shape := ⟨2, ![8448, 12800]⟩
abbrev S131072x128 : Shape := ⟨2, ![131072, 128]⟩
abbrev S8192x1536 : Shape := ⟨2, ![8192, 1536]⟩
abbrev S2x4096x6x2x128 : Shape := ⟨5, ![2, 4096, 6, 2, 128]⟩
abbrev S65536x128 : Shape := ⟨2, ![65536, 128]⟩
abbrev S2x4096x4x2x128 : Shape := ⟨5, ![2, 4096, 4, 2, 128]⟩

abbrev nBuf : Space → Nat
  | .hbm => 8
  | .vmem => 0
  | .smem => 0
  | _ => 0

abbrev bufTy : (tb : Table) → Fin (tcTables nBuf tb) → BufTy
  | .hbm, ⟨0, _⟩ => ⟨S8448x12800, .f32⟩
  | .hbm, ⟨1, _⟩ => ⟨S131072x128, .f32⟩
  | .hbm, ⟨2, _⟩ => ⟨S8192x1536, .f32⟩
  | .hbm, ⟨3, _⟩ => ⟨S2x4096x6x2x128, .f32⟩
  | .hbm, ⟨4, _⟩ => ⟨S65536x128, .f32⟩
  | .hbm, ⟨5, _⟩ => ⟨S2x4096x4x2x128, .f32⟩
  | .hbm, ⟨6, _⟩ => ⟨S65536x128, .f32⟩
  | .hbm, ⟨7, _⟩ => ⟨S131072x128, .f32⟩
  | _, _ => ⟨S8448x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KvSample.lean ====
abbrev S8448x12800 : Shape := ⟨2, ![8448, 12800]⟩
abbrev S4096x128 : Shape := ⟨2, ![4096, 128]⟩
abbrev S256x1024 : Shape := ⟨2, ![256, 1024]⟩
abbrev S2048x128 : Shape := ⟨2, ![2048, 128]⟩
abbrev S256x128 : Shape := ⟨2, ![256, 128]⟩

abbrev nBuf : Space → Nat
  | .hbm => 3
  | .vmem => 2
  | .smem => 0
  | _ => 0

abbrev bufTy : (tb : Table) → Fin (tcTables nBuf tb) → BufTy
  | .hbm, ⟨0, _⟩ => ⟨S8448x12800, .f32⟩
  | .hbm, ⟨1, _⟩ => ⟨S4096x128, .f32⟩
  | .hbm, ⟨2, _⟩ => ⟨S4096x128, .f32⟩
  | .local _ .vmem, ⟨0, _⟩ => ⟨S256x1024, .f32⟩
  | .local _ .vmem, ⟨1, _⟩ => ⟨S2048x128, .f32⟩
  | _, _ => ⟨S8448x12800, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c1_i32_0 : BitVec 32 := 1#32
  let v1 : BitVec 32 := Scalar.muli v0 c1_i32_0
  let v2 : BitVec 32 := Scalar.addi v1 arg1
  let c0_i32 : BitVec 32 := 0#32
  let c0_i32_1 : BitVec 32 := 0#32
  ![v2.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== KvSampleRefIdeal.lean ====
abbrev S8448x12800 : Shape := ⟨2, ![8448, 12800]⟩
abbrev S4096x128 : Shape := ⟨2, ![4096, 128]⟩
abbrev S256x1536 : Shape := ⟨2, ![256, 1536]⟩
abbrev S32x8x6x2x128 : Shape := ⟨5, ![32, 8, 6, 2, 128]⟩
abbrev S2048x128 : Shape := ⟨2, ![2048, 128]⟩
abbrev S32x8x4x2x128 : Shape := ⟨5, ![32, 8, 4, 2, 128]⟩

abbrev nBuf : Space → Nat
  | .hbm => 8
  | .vmem => 0
  | .smem => 0
  | _ => 0

abbrev bufTy : (tb : Table) → Fin (tcTables nBuf tb) → BufTy
  | .hbm, ⟨0, _⟩ => ⟨S8448x12800, .f32⟩
  | .hbm, ⟨1, _⟩ => ⟨S4096x128, .f32⟩
  | .hbm, ⟨2, _⟩ => ⟨S256x1536, .f32⟩
  | .hbm, ⟨3, _⟩ => ⟨S32x8x6x2x128, .f32⟩
  | .hbm, ⟨4, _⟩ => ⟨S2048x128, .f32⟩
  | .hbm, ⟨5, _⟩ => ⟨S32x8x4x2x128, .f32⟩
  | .hbm, ⟨6, _⟩ => ⟨S2048x128, .f32⟩
  | .hbm, ⟨7, _⟩ => ⟨S4096x128, .f32⟩
  | _, _ => ⟨S8448x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== WinPrompt.lean ====
abbrev S8448x12800 : Shape := ⟨2, ![8448, 12800]⟩
abbrev S8192x128 : Shape := ⟨2, ![8192, 128]⟩
abbrev S512x512 : Shape := ⟨2, ![512, 512]⟩
abbrev S2048x128 : Shape := ⟨2, ![2048, 128]⟩
abbrev S512x128 : Shape := ⟨2, ![512, 128]⟩

abbrev nBuf : Space → Nat
  | .hbm => 3
  | .vmem => 4
  | .smem => 0
  | _ => 0

abbrev bufTy : (tb : Table) → Fin (tcTables nBuf tb) → BufTy
  | .hbm, ⟨0, _⟩ => ⟨S8448x12800, .f32⟩
  | .hbm, ⟨1, _⟩ => ⟨S8192x128, .f32⟩
  | .hbm, ⟨2, _⟩ => ⟨S8192x128, .f32⟩
  | .local _ .vmem, ⟨0, _⟩ => ⟨S512x512, .f32⟩
  | .local _ .vmem, ⟨1, _⟩ => ⟨S512x512, .f32⟩
  | .local _ .vmem, ⟨2, _⟩ => ⟨S2048x128, .f32⟩
  | .local _ .vmem, ⟨3, _⟩ => ⟨S2048x128, .f32⟩
  | _, _ => ⟨S8448x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.addi c7_i32 v0
  let v2 : BitVec 32 := Scalar.addi v1 arg1
  let c4_i32 : BitVec 32 := 4#32
  let c0_i32 : BitVec 32 := 0#32
  ![v2.toNat, c4_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![v2.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== WinPromptRefIdeal.lean ====
abbrev S8448x12800 : Shape := ⟨2, ![8448, 12800]⟩
abbrev S8192x128 : Shape := ⟨2, ![8192, 128]⟩
abbrev S8192x1536 : Shape := ⟨2, ![8192, 1536]⟩
abbrev S2x4096x6x2x128 : Shape := ⟨5, ![2, 4096, 6, 2, 128]⟩
abbrev S4096x128 : Shape := ⟨2, ![4096, 128]⟩
abbrev S2x512x2x2x128 : Shape := ⟨5, ![2, 512, 2, 2, 128]⟩

abbrev nBuf : Space → Nat
  | .hbm => 8
  | .vmem => 0
  | .smem => 0
  | _ => 0

abbrev bufTy : (tb : Table) → Fin (tcTables nBuf tb) → BufTy
  | .hbm, ⟨0, _⟩ => ⟨S8448x12800, .f32⟩
  | .hbm, ⟨1, _⟩ => ⟨S8192x128, .f32⟩
  | .hbm, ⟨2, _⟩ => ⟨S8192x1536, .f32⟩
  | .hbm, ⟨3, _⟩ => ⟨S2x4096x6x2x128, .f32⟩
  | .hbm, ⟨4, _⟩ => ⟨S4096x128, .f32⟩
  | .hbm, ⟨5, _⟩ => ⟨S2x512x2x2x128, .f32⟩
  | .hbm, ⟨6, _⟩ => ⟨S4096x128, .f32⟩
  | .hbm, ⟨7, _⟩ => ⟨S8192x128, .f32⟩
  | _, _ => ⟨S8448x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MixerSample.lean ====
abbrev S8448x12800 : Shape := ⟨2, ![8448, 12800]⟩
abbrev S2x3x512 : Shape := ⟨3, ![2, 3, 512]⟩
abbrev S2x32x2x512 : Shape := ⟨4, ![2, 32, 2, 512]⟩
abbrev S2x32x4x128x128 : Shape := ⟨5, ![2, 32, 4, 128, 128]⟩
abbrev S2x512 : Shape := ⟨2, ![2, 512]⟩
abbrev S2x128 : Shape := ⟨2, ![2, 128]⟩
abbrev S8448x512 : Shape := ⟨2, ![8448, 512]⟩
abbrev S1x3x512 : Shape := ⟨3, ![1, 3, 512]⟩
abbrev S3x512 : Shape := ⟨2, ![3, 512]⟩
abbrev S1x32x2x512 : Shape := ⟨4, ![1, 32, 2, 512]⟩
abbrev S32x2x512 : Shape := ⟨3, ![32, 2, 512]⟩
abbrev S1x32x4x128x128 : Shape := ⟨5, ![1, 32, 4, 128, 128]⟩
abbrev S32x4x128x128 : Shape := ⟨4, ![32, 4, 128, 128]⟩
abbrev S1x128 : Shape := ⟨2, ![1, 128]⟩
abbrev S128 : Shape := ⟨1, ![128]⟩
abbrev S8x512 : Shape := ⟨2, ![8, 512]⟩
abbrev S8x2048 : Shape := ⟨2, ![8, 2048]⟩
abbrev S1x2x512 : Shape := ⟨3, ![1, 2, 512]⟩
abbrev S1x4x128x128 : Shape := ⟨4, ![1, 4, 128, 128]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S16x512 : Shape := ⟨2, ![16, 512]⟩
abbrev S1x512 : Shape := ⟨2, ![1, 512]⟩
abbrev S512 : Shape := ⟨1, ![512]⟩
abbrev S8x8x1 : Shape := ⟨3, ![8, 8, 1]⟩
abbrev S8x128 : Shape := ⟨2, ![8, 128]⟩
abbrev S8x1x128 : Shape := ⟨3, ![8, 1, 128]⟩
abbrev S1x8x128 : Shape := ⟨3, ![1, 8, 128]⟩
abbrev S8x8x128 : Shape := ⟨3, ![8, 8, 128]⟩
abbrev S8x8 : Shape := ⟨2, ![8, 8]⟩
abbrev S8 : Shape := ⟨1, ![8]⟩
abbrev S8x1 : Shape := ⟨2, ![8, 1]⟩

abbrev nBuf : Space → Nat
  | .hbm => 21
  | .vmem => 28
  | .smem => 0
  | _ => 0

abbrev bufTy : (tb : Table) → Fin (tcTables nBuf tb) → BufTy
  | .hbm, ⟨0, _⟩ => ⟨S8448x12800, .f32⟩
  | .hbm, ⟨1, _⟩ => ⟨S2x3x512, .f32⟩
  | .hbm, ⟨2, _⟩ => ⟨S2x32x2x512, .f32⟩
  | .hbm, ⟨3, _⟩ => ⟨S2x32x4x128x128, .f32⟩
  | .hbm, ⟨4, _⟩ => ⟨S2x512, .f32⟩
  | .hbm, ⟨5, _⟩ => ⟨S2x128, .f32⟩
  | .hbm, ⟨6, _⟩ => ⟨S8448x512, .f32⟩
  | .hbm, ⟨7, _⟩ => ⟨S8448x512, .f32⟩
  | .hbm, ⟨8, _⟩ => ⟨S1x3x512, .f32⟩
  | .hbm, ⟨9, _⟩ => ⟨S3x512, .f32⟩
  | .hbm, ⟨10, _⟩ => ⟨S1x32x2x512, .f32⟩
  | .hbm, ⟨11, _⟩ => ⟨S32x2x512, .f32⟩
  | .hbm, ⟨12, _⟩ => ⟨S1x32x4x128x128, .f32⟩
  | .hbm, ⟨13, _⟩ => ⟨S32x4x128x128, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S8448x512, .f32⟩
  | .hbm, ⟨18, _⟩ => ⟨S8448x512, .f32⟩
  | .hbm, ⟨19, _⟩ => ⟨S32x2x512, .f32⟩
  | .hbm, ⟨20, _⟩ => ⟨S32x4x128x128, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x2048, .f32⟩
  | .local _ .vmem, ⟨7, _⟩ => ⟨S8x2048, .f32⟩
  | .local _ .vmem, ⟨8, _⟩ => ⟨S3x512, .f32⟩
  | .local _ .vmem, ⟨9, _⟩ => ⟨S1x2x512, .f32⟩
  | .local _ .vmem, ⟨10, _⟩ => ⟨S1x2x512, .f32⟩
  | .local _ .vmem, ⟨11, _⟩ => ⟨S1x4x128x128, .f32⟩
  | .local _ .vmem, ⟨12, _⟩ => ⟨S1x4x128x128, .f32⟩
  | .local _ .vmem, ⟨13, _⟩ => ⟨S2x512, .f32⟩
  | .local _ .vmem, ⟨14, _⟩ => ⟨S1x128, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S1x2x512, .f32⟩
  | .local _ .vmem, ⟨20, _⟩ => ⟨S1x2x512, .f32⟩
  | .local _ .vmem, ⟨21, _⟩ => ⟨S1x4x128x128, .f32⟩
  | .local _ .vmem, ⟨22, _⟩ => ⟨S1x4x128x128, .f32⟩
  | .local _ .vmem, ⟨23, _⟩ => ⟨S8x512, .f32⟩
  | .local _ .vmem, ⟨24, _⟩ => ⟨S4x128x128, .f32⟩
  | .local _ .vmem, ⟨25, _⟩ => ⟨S8x512, .f32⟩
  | .local _ .vmem, ⟨26, _⟩ => ⟨S8x512, .f32⟩
  | .local _ .vmem, ⟨27, _⟩ => ⟨S8x512, .f32⟩
  | _, _ => ⟨S8448x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![32, 1], ![false, false]⟩

def k0_mult1 : BitVec 32 :=
  let c0_i32_40 : BitVec 32 := 0#32
  let c8_i32 : BitVec 32 := 8#32
  let v107 : BitVec 32 := Scalar.muli c0_i32_40 c8_i32
  v107
def k0_off1 : Fin 2 → Nat :=
  let c0_i32_40 : BitVec 32 := 0#32
  let c8_i32 : BitVec 32 := 8#32
  let v107 : BitVec 32 := Scalar.muli c0_i32_40 c8_i32
  let v108 : BitVec 32 := v107
  let v109 : Index := Scalar.indexCast v108
  let c0_41 : Index := 0#32
  ![v109.toNat, 0]
def k0_off2 : Fin 2 → Nat :=
  let c0_i32_40 : BitVec 32 := 0#32
  let c8_i32 : BitVec 32 := 8#32
  let v107 : BitVec 32 := Scalar.muli c0_i32_40 c8_i32
  let v108 : BitVec 32 := v107
  let v134 : Index := Scalar.indexCast v108
  let c1024 : Index := 1024#32
  ![v134.toNat, 1024]
def k0_off3 : Fin 2 → Nat :=
  let c0_i32_40 : BitVec 32 := 0#32
  let c8_i32 : BitVec 32 := 8#32
  let v107 : BitVec 32 := Scalar.muli c0_i32_40 c8_i32
  let v108 : BitVec 32 := v107
  let v198 : Index := Scalar.indexCast v108
  let c1536 : Index := 1536#32
  ![v198.toNat, 1536]
def k0_off4 : Fin 2 → Nat :=
  let c0_i32_40 : BitVec 32 := 0#32
  let c8_i32 : BitVec 32 := 8#32
  let v107 : BitVec 32 := Scalar.muli c0_i32_40 c8_i32
  let v108 : BitVec 32 := v107
  let v205 : Index := Scalar.indexCast v108
  let c128 : Index := 128#32
  ![v205.toNat, 128]
def k0_off5 : Fin 2 → Nat :=
  let c0_i32_40 : BitVec 32 := 0#32
  let c8_i32 : BitVec 32 := 8#32
  let v107 : BitVec 32 := Scalar.muli c0_i32_40 c8_i32
  let v108 : BitVec 32 := v107
  let v230 : Index := Scalar.indexCast v108
  let c1152 : Index := 1152#32
  ![v230.toNat, 1152]
def k0_off6 : Fin 2 → Nat :=
  let c0_i32_40 : BitVec 32 := 0#32
  let c8_i32 : BitVec 32 := 8#32
  let v107 : BitVec 32 := Scalar.muli c0_i32_40 c8_i32
  let v108 : BitVec 32 := v107
  let v294 : Index := Scalar.indexCast v108
  let c1664 : Index := 1664#32
  ![v294.toNat, 1664]
def k0_off7 : Fin 2 → Nat :=
  let c0_i32_40 : BitVec 32 := 0#32
  let c8_i32 : BitVec 32 := 8#32
  let v107 : BitVec 32 := Scalar.muli c0_i32_40 c8_i32
  let v108 : BitVec 32 := v107
  let v301 : Index := Scalar.indexCast v108
  let c256 : Index := 256#32
  ![v301.toNat, 256]
def k0_off8 : Fin 2 → Nat :=
  let c0_i32_40 : BitVec 32 := 0#32
  let c8_i32 : BitVec 32 := 8#32
  let v107 : BitVec 32 := Scalar.muli c0_i32_40 c8_i32
  let v108 : BitVec 32 := v107
  let v326 : Index := Scalar.indexCast v108
  let c1280 : Index := 1280#32
  ![v326.toNat, 1280]
def k0_off9 : Fin 2 → Nat :=
  let c0_i32_40 : BitVec 32 := 0#32
  let c8_i32 : BitVec 32 := 8#32
  let v107 : BitVec 32 := Scalar.muli c0_i32_40 c8_i32
  let v108 : BitVec 32 := v107
  let v390 : Index := Scalar.indexCast v108
  let c1792 : Index := 1792#32
  ![v390.toNat, 1792]
def k0_off10 : Fin 2 → Nat :=
  let c0_i32_40 : BitVec 32 := 0#32
  let c8_i32 : BitVec 32 := 8#32
  let v107 : BitVec 32 := Scalar.muli c0_i32_40 c8_i32
  let v108 : BitVec 32 := v107
  let v397 : Index := Scalar.indexCast v108
  let c384 : Index := 384#32
  ![v397.toNat, 384]
def k0_off11 : Fin 2 → Nat :=
  let c0_i32_40 : BitVec 32 := 0#32
  let c8_i32 : BitVec 32 := 8#32
  let v107 : BitVec 32 := Scalar.muli c0_i32_40 c8_i32
  let v108 : BitVec 32 := v107
  let v422 : Index := Scalar.indexCast v108
  let c1408 : Index := 1408#32
  ![v422.toNat, 1408]
def k0_off12 : Fin 2 → Nat :=
  let c0_i32_40 : BitVec 32 := 0#32
  let c8_i32 : BitVec 32 := 8#32
  let v107 : BitVec 32 := Scalar.muli c0_i32_40 c8_i32
  let v108 : BitVec 32 := v107
  let v486 : Index := Scalar.indexCast v108
  let c1920 : Index := 1920#32
  ![v486.toNat, 1920]
def k0_cond2 (i : grid0.Coords) : BitVec 1 :=
  let arg1 : BitVec 32 := BitVec.ofNat 32 (i 1).val
  let c0_i32_16 : BitVec 32 := 0#32
  let v33 : BitVec 1 := Scalar.cmpi .eq arg1 c0_i32_16
  let v34 : BitVec 32 := Scalar.extui v33
  let c0_i32_17 : BitVec 32 := 0#32
  let v35 : BitVec 1 := Scalar.cmpi .ne v34 c0_i32_17
  v35

def k0_cond3 (i : grid0.Coords) : BitVec 1 :=
  let arg1 : BitVec 32 := BitVec.ofNat 32 (i 1).val
  let c0_i32_149 : BitVec 32 := 0#32
  let v493 : BitVec 1 := Scalar.cmpi .eq arg1 c0_i32_149
  let v494 : BitVec 32 := Scalar.extui v493
  let c0_i32_150 : BitVec 32 := 0#32
  let v495 : BitVec 1 := Scalar.cmpi .ne v494 c0_i32_150
  v495

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c5_i32 : BitVec 32 := 5#32
  let c0_i32 : BitVec 32 := 0#32
  ![v2.toNat, c5_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c6_i32 : BitVec 32 := 6#32
  let c0_i32 : BitVec 32 := 0#32
  ![v2.toNat, c6_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c7_i32 : BitVec 32 := 7#32
  let c0_i32 : BitVec 32 := 0#32
  ![v2.toNat, c7_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c2_i32 : BitVec 32 := 2#32
  let c0_i32 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== MixerSampleRefIdeal.lean ====
abbrev S8448x12800 : Shape := ⟨2, ![8448, 12800]⟩
abbrev S2x3x512 : Shape := ⟨3, ![2, 3, 512]⟩
abbrev S2x32x2x512 : Shape := ⟨4, ![2, 32, 2, 512]⟩
abbrev S2x32x4x128x128 : Shape := ⟨5, ![2, 32, 4, 128, 128]⟩
abbrev S2x512 : Shape := ⟨2, ![2, 512]⟩
abbrev S2x128 : Shape := ⟨2, ![2, 128]⟩
abbrev S8448x512 : Shape := ⟨2, ![8448, 512]⟩
abbrev S_ : Shape := ⟨0, ![]⟩
abbrev S512 : Shape := ⟨1, ![512]⟩
abbrev S1x512 : Shape := ⟨2, ![1, 512]⟩
abbrev S4x128 : Shape := ⟨2, ![4, 128]⟩
abbrev S256x12800 : Shape := ⟨2, ![256, 12800]⟩
abbrev S32x8x12800 : Shape := ⟨3, ![32, 8, 12800]⟩
abbrev S32x8x512 : Shape := ⟨3, ![32, 8, 512]⟩
abbrev S1x3x512 : Shape := ⟨3, ![1, 3, 512]⟩
abbrev S3x512 : Shape := ⟨2, ![3, 512]⟩
abbrev S1x32x2x512 : Shape := ⟨4, ![1, 32, 2, 512]⟩
abbrev S32x2x512 : Shape := ⟨3, ![32, 2, 512]⟩
abbrev S32x10x512 : Shape := ⟨3, ![32, 10, 512]⟩
abbrev S1x1x512 : Shape := ⟨3, ![1, 1, 512]⟩
abbrev S1x32x4x128x128 : Shape := ⟨5, ![1, 32, 4, 128, 128]⟩
abbrev S32x4x128x128 : Shape := ⟨4, ![32, 4, 128, 128]⟩
abbrev S1x128 : Shape := ⟨2, ![1, 128]⟩
abbrev S128 : Shape := ⟨1, ![128]⟩
abbrev S32x8x4x128 : Shape := ⟨4, ![32, 8, 4, 128]⟩
abbrev S1x1x4x128 : Shape := ⟨4, ![1, 1, 4, 128]⟩
abbrev S32x4x8x128 : Shape := ⟨4, ![32, 4, 8, 128]⟩
abbrev S8x8 : Shape := ⟨2, ![8, 8]⟩
abbrev S8x8x1 : Shape := ⟨3, ![8, 8, 1]⟩
abbrev S32x4x8x1x128 : Shape := ⟨5, ![32, 4, 8, 1, 128]⟩
abbrev S32x4x1x8x128 : Shape := ⟨5, ![32, 4, 1, 8, 128]⟩
abbrev S32x4x8x8x128 : Shape := ⟨5, ![32, 4, 8, 8, 128]⟩
abbrev S32x4x8x8 : Shape := ⟨4, ![32, 4, 8, 8]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x8x4 : Shape := ⟨3, ![32, 8, 4]⟩
abbrev S32x8x4x1 : Shape := ⟨4, ![32, 8, 4, 1]⟩
abbrev S1x1x1x128 : Shape := ⟨4, ![1, 1, 1, 128]⟩
abbrev S8192x512 : Shape := ⟨2, ![8192, 512]⟩
abbrev S256x512 : Shape := ⟨2, ![256, 512]⟩

abbrev nBuf : Space → Nat
  | .hbm => 241
  | .vmem => 0
  | .smem => 0
  | _ => 0

abbrev hbmTy0_0 (i : Nat) : BufTy := match i % 128 with
  | 0 => ⟨S8448x12800, .f32⟩
  | 1 => ⟨S2x3x512, .f32⟩
  | 2 => ⟨S2x32x2x512, .f32⟩
  | 3 => ⟨S2x32x4x128x128, .f32⟩
  | 4 => ⟨S2x512, .f32⟩
  | 5 => ⟨S2x128, .f32⟩
  | 6 => ⟨S8448x512, .f32⟩
  | 7 => ⟨S8448x512, .f32⟩
  | 8 => ⟨S_, .f32⟩
  | 9 => ⟨S512, .f32⟩
  | 10 => ⟨S_, .f32⟩
  | 11 => ⟨S512, .f32⟩
  | 12 => ⟨S512, .f32⟩
  | 13 => ⟨S1x512, .f32⟩
  | 14 => ⟨S2x512, .f32⟩
  | 15 => ⟨S2x512, .f32⟩
  | 16 => ⟨S2x512, .f32⟩
  | 17 => ⟨S_, .f32⟩
  | 18 => ⟨S512, .f32⟩
  | 19 => ⟨S1x512, .f32⟩
  | 20 => ⟨S2x512, .f32⟩
  | 21 => ⟨S2x512, .f32⟩
  | 22 => ⟨S_, .f32⟩
  | 23 => ⟨S_, .f32⟩
  | 24 => ⟨S2x512, .f32⟩
  | 25 => ⟨S1x512, .f32⟩
  | 26 => ⟨S512, .f32⟩
  | 27 => ⟨S1x512, .f32⟩
  | 28 => ⟨S2x512, .f32⟩
  | 29 => ⟨S2x512, .f32⟩
  | 30 => ⟨S1x512, .f32⟩
  | 31 => ⟨S512, .f32⟩
  | 32 => ⟨S4x128, .f32⟩
  | 33 => ⟨S256x12800, .f32⟩
  | 34 => ⟨S32x8x12800, .f32⟩
  | 35 => ⟨S32x8x512, .f32⟩
  | 36 => ⟨S32x8x512, .f32⟩
  | 37 => ⟨S32x8x512, .f32⟩
  | 38 => ⟨S1x3x512, .f32⟩
  | 39 => ⟨S3x512, .f32⟩
  | 40 => ⟨S1x32x2x512, .f32⟩
  | 41 => ⟨S32x2x512, .f32⟩
  | 42 => ⟨S32x8x512, .f32⟩
  | 43 => ⟨S32x10x512, .f32⟩
  | 44 => ⟨S1x512, .f32⟩
  | 45 => ⟨S512, .f32⟩
  | 46 => ⟨S32x8x512, .f32⟩
  | 47 => ⟨S1x1x512, .f32⟩
  | 48 => ⟨S32x8x512, .f32⟩
  | 49 => ⟨S32x8x512, .f32⟩
  | 50 => ⟨S1x512, .f32⟩
  | 51 => ⟨S512, .f32⟩
  | 52 => ⟨S32x8x512, .f32⟩
  | 53 => ⟨S1x1x512, .f32⟩
  | 54 => ⟨S32x8x512, .f32⟩
  | 55 => ⟨S32x8x512, .f32⟩
  | 56 => ⟨S32x8x512, .f32⟩
  | 57 => ⟨S1x512, .f32⟩
  | 58 => ⟨S512, .f32⟩
  | 59 => ⟨S32x8x512, .f32⟩
  | 60 => ⟨S1x1x512, .f32⟩
  | 61 => ⟨S32x8x512, .f32⟩
  | 62 => ⟨S32x8x512, .f32⟩
  | 63 => ⟨S32x8x512, .f32⟩
  | 64 => ⟨S32x8x512, .f32⟩
  | 65 => ⟨S32x2x512, .f32⟩
  | 66 => ⟨S32x8x512, .f32⟩
  | 67 => ⟨S32x8x512, .f32⟩
  | 68 => ⟨S32x8x512, .f32⟩
  | 69 => ⟨S32x8x512, .f32⟩
  | 70 => ⟨S1x32x4x128x128, .f32⟩
  | 71 => ⟨S32x4x128x128, .f32⟩
  | 72 => ⟨S1x128, .f32⟩
  | 73 => ⟨S128, .f32⟩
  | 74 => ⟨S32x8x512, .f32⟩
  | 75 => ⟨S32x8x512, .f32⟩
  | 76 => ⟨S_, .f32⟩
  | 77 => ⟨S32x8x512, .f32⟩
  | 78 => ⟨S32x8x512, .f32⟩
  | 79 => ⟨S_, .f32⟩
  | 80 => ⟨S32x8x512, .f32⟩
  | 81 => ⟨S32x8x512, .f32⟩
  | 82 => ⟨S32x8x512, .f32⟩
  | 83 => ⟨S32x8x4x128, .f32⟩
  | 84 => ⟨S32x8x4x128, .f32⟩
  | 85 => ⟨S32x8x4x128, .f32⟩
  | 86 => ⟨S_, .f32⟩
  | 87 => ⟨S4x128, .f32⟩
  | 88 => ⟨S4x128, .i1⟩
  | 89 => ⟨S_, .f32⟩
  | 90 => ⟨S_, .f32⟩
  | 91 => ⟨S4x128, .f32⟩
  | 92 => ⟨S4x128, .f32⟩
  | 93 => ⟨S4x128, .f32⟩
  | 94 => ⟨S32x8x4x128, .f32⟩
  | 95 => ⟨S_, .f32⟩
  | 96 => ⟨S32x8x4x128, .f32⟩
  | 97 => ⟨S32x8x4x128, .f32⟩
  | 98 => ⟨S32x8x4x128, .f32⟩
  | 99 => ⟨S32x8x4x128, .f32⟩
  | 100 => ⟨S32x8x4x128, .i1⟩
  | 101 => ⟨S32x8x4x128, .f32⟩
  | 102 => ⟨S32x8x4x128, .f32⟩
  | 103 => ⟨S32x8x4x128, .f32⟩
  | 104 => ⟨S32x8x4x128, .f32⟩
  | 105 => ⟨S32x8x4x128, .f32⟩
  | 106 => ⟨S32x8x4x128, .f32⟩
  | 107 => ⟨S32x8x4x128, .f32⟩
  | 108 => ⟨S32x8x4x128, .f32⟩
  | 109 => ⟨S32x8x4x128, .f32⟩
  | 110 => ⟨S4x128, .f32⟩
  | 111 => ⟨S4x128, .f32⟩
  | 112 => ⟨S1x1x4x128, .f32⟩
  | 113 => ⟨S32x8x4x128, .f32⟩
  | 114 => ⟨S32x8x4x128, .f32⟩
  | 115 => ⟨S1x1x4x128, .f32⟩
  | 116 => ⟨S32x8x4x128, .f32⟩
  | 117 => ⟨S32x8x4x128, .f32⟩
  | 118 => ⟨S32x8x4x128, .f32⟩
  | 119 => ⟨S32x8x4x128, .f32⟩
  | 120 => ⟨S32x8x4x128, .i1⟩
  | 121 => ⟨S32x8x4x128, .f32⟩
  | 122 => ⟨S32x8x4x128, .f32⟩
  | 123 => ⟨S32x8x4x128, .f32⟩
  | 124 => ⟨S32x8x4x128, .f32⟩
  | 125 => ⟨S32x8x4x128, .f32⟩
  | 126 => ⟨S32x8x4x128, .f32⟩
  | 127 => ⟨S32x8x4x128, .f32⟩
  | _ => ⟨S8448x12800, .f32⟩

abbrev hbmTy0_1 (i : Nat) : BufTy := match i % 128 with
  | 0 => ⟨S32x8x4x128, .f32⟩
  | 1 => ⟨S32x8x4x128, .i1⟩
  | 2 => ⟨S32x8x4x128, .f32⟩
  | 3 => ⟨S_, .f32⟩
  | 4 => ⟨S4x128, .f32⟩
  | 5 => ⟨S4x128, .f32⟩
  | 6 => ⟨S32x8x4x128, .f32⟩
  | 7 => ⟨S32x8x4x128, .f32⟩
  | 8 => ⟨S32x8x4x128, .f32⟩
  | 9 => ⟨S_, .f32⟩
  | 10 => ⟨S32x8x4x128, .f32⟩
  | 11 => ⟨S32x8x4x128, .f32⟩
  | 12 => ⟨S_, .f32⟩
  | 13 => ⟨S32x8x4x128, .f32⟩
  | 14 => ⟨S32x8x4x128, .f32⟩
  | 15 => ⟨S1x1x4x128, .f32⟩
  | 16 => ⟨S32x8x4x128, .f32⟩
  | 17 => ⟨S32x8x4x128, .f32⟩
  | 18 => ⟨S32x4x8x128, .f32⟩
  | 19 => ⟨S32x4x8x128, .f32⟩
  | 20 => ⟨S32x4x8x128, .f32⟩
  | 21 => ⟨S32x4x8x128, .f32⟩
  | 22 => ⟨S_, .i1⟩
  | 23 => ⟨S8x8, .i1⟩
  | 24 => ⟨S8x8, .i32⟩
  | 25 => ⟨S_, .i32⟩
  | 26 => ⟨S8x8, .i32⟩
  | 27 => ⟨S8x8, .i32⟩
  | 28 => ⟨S8x8, .i32⟩
  | 29 => ⟨S8x8, .i1⟩
  | 30 => ⟨S_, .i1⟩
  | 31 => ⟨S8x8, .i1⟩
  | 32 => ⟨S8x8, .i1⟩
  | 33 => ⟨S8x8x1, .i1⟩
  | 34 => ⟨S_, .f32⟩
  | 35 => ⟨S_, .f32⟩
  | 36 => ⟨S32x4x8x128, .f32⟩
  | 37 => ⟨S32x4x8x128, .f32⟩
  | 38 => ⟨S32x4x8x128, .f32⟩
  | 39 => ⟨S32x4x8x128, .f32⟩
  | 40 => ⟨S32x4x8x1x128, .f32⟩
  | 41 => ⟨S32x4x1x8x128, .f32⟩
  | 42 => ⟨S32x4x8x8x128, .f32⟩
  | 43 => ⟨S32x4x8x8x128, .f32⟩
  | 44 => ⟨S32x4x8x8x128, .f32⟩
  | 45 => ⟨S_, .f32⟩
  | 46 => ⟨S_, .f32⟩
  | 47 => ⟨S32x4x8x8x128, .i1⟩
  | 48 => ⟨S32x4x8x8x128, .f32⟩
  | 49 => ⟨S32x4x8x8x128, .f32⟩
  | 50 => ⟨S32x4x8x8x128, .f32⟩
  | 51 => ⟨S_, .f32⟩
  | 52 => ⟨S_, .f32⟩
  | 53 => ⟨S32x4x8x8x128, .i1⟩
  | 54 => ⟨S32x4x8x8x128, .f32⟩
  | 55 => ⟨S32x4x8x8x128, .f32⟩
  | 56 => ⟨S32x4x8x1x128, .f32⟩
  | 57 => ⟨S32x4x1x8x128, .f32⟩
  | 58 => ⟨S32x4x8x8x128, .f32⟩
  | 59 => ⟨S32x4x8x8x128, .f32⟩
  | 60 => ⟨S32x4x8x8x128, .f32⟩
  | 61 => ⟨S32x4x8x8x128, .f32⟩
  | 62 => ⟨S_, .f32⟩
  | 63 => ⟨S32x4x8x8, .f32⟩
  | 64 => ⟨S32x4x8x128, .f32⟩
  | 65 => ⟨S32x4x8x128, .f32⟩
  | 66 => ⟨S32x4x1x128, .f32⟩
  | 67 => ⟨S32x4x128, .f32⟩
  | 68 => ⟨S32x4x128, .f32⟩
  | 69 => ⟨S32x4x128x1, .f32⟩
  | 70 => ⟨S32x4x128x128, .f32⟩
  | 71 => ⟨S32x4x128x128, .f32⟩
  | 72 => ⟨S32x4x1x128, .f32⟩
  | 73 => ⟨S32x4x8x128, .f32⟩
  | 74 => ⟨S32x4x8x128, .f32⟩
  | 75 => ⟨S32x4x8x128, .f32⟩
  | 76 => ⟨S32x4x8x128, .f32⟩
  | 77 => ⟨S32x4x128x128, .f32⟩
  | 78 => ⟨S32x4x128x128, .f32⟩
  | 79 => ⟨S32x8x4x128, .f32⟩
  | 80 => ⟨S32x8x4x128, .f32⟩
  | 81 => ⟨S_, .f32⟩
  | 82 => ⟨S32x8x4, .f32⟩
  | 83 => ⟨S32x8x4x1, .f32⟩
  | 84 => ⟨S_, .f32⟩
  | 85 => ⟨S32x8x4x1, .f32⟩
  | 86 => ⟨S32x8x4x1, .f32⟩
  | 87 => ⟨S_, .f32⟩
  | 88 => ⟨S32x8x4x1, .f32⟩
  | 89 => ⟨S32x8x4x1, .f32⟩
  | 90 => ⟨S32x8x4x1, .f32⟩
  | 91 => ⟨S32x8x4x128, .f32⟩
  | 92 => ⟨S32x8x4x128, .f32⟩
  | 93 => ⟨S1x1x1x128, .f32⟩
  | 94 => ⟨S32x8x4x128, .f32⟩
  | 95 => ⟨S32x8x4x128, .f32⟩
  | 96 => ⟨S32x8x512, .f32⟩
  | 97 => ⟨S32x8x512, .f32⟩
  | 98 => ⟨S32x8x512, .f32⟩
  | 99 => ⟨S_, .f32⟩
  | 100 => ⟨S32x8x512, .f32⟩
  | 101 => ⟨S32x8x512, .f32⟩
  | 102 => ⟨S_, .f32⟩
  | 103 => ⟨S32x8x512, .f32⟩
  | 104 => ⟨S32x8x512, .f32⟩
  | 105 => ⟨S32x8x512, .f32⟩
  | 106 => ⟨S32x8x512, .f32⟩
  | 107 => ⟨S8192x512, .f32⟩
  | 108 => ⟨S256x512, .f32⟩
  | 109 => ⟨S8448x512, .f32⟩
  | 110 => ⟨S8192x512, .f32⟩
  | 111 => ⟨S256x512, .f32⟩
  | 112 => ⟨S8448x512, .f32⟩
  | _ => ⟨S8448x12800, .f32⟩

abbrev hbmTy (i : Nat) : BufTy := match i / 128 with
  | 0 => hbmTy0_0 i
  | 1 => hbmTy0_1 i
  | _ => ⟨S8448x12800, .f32⟩

abbrev bufTy : (tb : Table) → Fin (tcTables nBuf tb) → BufTy
  | .hbm, ⟨i, _⟩ => hbmTy i
  | _, _ => ⟨S8448x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_call0_cst : Ref sig .tc := ⟨.hbm, 22, rfl⟩
abbrev main_call0_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_2 : Ref sig .tc := ⟨.hbm, 86, rfl⟩
abbrev main_v65 : Ref sig .tc := ⟨.hbm, 87, rfl⟩
abbrev main_v66 : Ref sig .tc := ⟨.hbm, 88, rfl⟩
abbrev main_cst_3 : Ref sig .tc := ⟨.hbm, 89, rfl⟩
abbrev main_call2_v0 : Ref sig .tc := ⟨.hbm, 90, rfl⟩
abbrev main_call2_v1 : Ref sig .tc := ⟨.hbm, 91, rfl⟩
abbrev main_v67 : Ref sig .tc := ⟨.hbm, 92, rfl⟩
abbrev main_v68 : Ref sig .tc := ⟨.hbm, 93, rfl⟩
abbrev main_call3_v0 : Ref sig .tc := ⟨.hbm, 94, rfl⟩
abbrev main_call3_call0_cst : Ref sig .tc := ⟨.hbm, 95, rfl⟩
abbrev main_call3_call0_v0 : Ref sig .tc := ⟨.hbm, 96, rfl⟩
abbrev main_call3_call0_v1 : Ref sig .tc := ⟨.hbm, 97, rfl⟩
abbrev main_call3_call0_v2 : Ref sig .tc := ⟨.hbm, 98, rfl⟩
abbrev main_call3_call0_v3 : Ref sig .tc := ⟨.hbm, 99, rfl⟩
abbrev main_call3_call0_v4 : Ref sig .tc := ⟨.hbm, 100, rfl⟩
abbrev main_call3_call0_v5 : Ref sig .tc := ⟨.hbm, 101, rfl⟩
abbrev main_call3_call0_v6 : Ref sig .tc := ⟨.hbm, 102, rfl⟩
abbrev main_call3_call0_v7 : Ref sig .tc := ⟨.hbm, 103, rfl⟩
abbrev main_call3_call0_v8 : Ref sig .tc := ⟨.hbm, 104, rfl⟩
abbrev main_call3_call0_v9 : Ref sig .tc := ⟨.hbm, 105, rfl⟩
abbrev main_call3_call0_v10 : Ref sig .tc := ⟨.hbm, 106, rfl⟩
abbrev main_call3_call0_v11 : Ref sig .tc := ⟨.hbm, 107, rfl⟩
abbrev main_call3_v1 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_call4_v0 : Ref sig .tc := ⟨.hbm, 129, rfl⟩
abbrev main_v89 : Ref sig .tc := ⟨.hbm, 130, rfl⟩
abbrev main_cst_4 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_5 : Ref sig .tc := ⟨.hbm, 137, rfl⟩
abbrev main_v95 : Ref sig .tc := ⟨.hbm, 138, rfl⟩
abbrev main_v96 : Ref sig .tc := ⟨.hbm, 139, rfl⟩
abbrev main_cst_6 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c : Ref sig .tc := ⟨.hbm, 150, rfl⟩
abbrev main_v106 : Ref sig .tc := ⟨.hbm, 151, rfl⟩
abbrev main_call5_v0 : Ref sig .tc := ⟨.hbm, 152, rfl⟩
abbrev main_call5_c : Ref sig .tc := ⟨.hbm, 153, rfl⟩
abbrev main_call5_v1 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_call5_c_0 : Ref sig .tc := ⟨.hbm, 158, rfl⟩
abbrev main_call5_v5 : Ref sig .tc := ⟨.hbm, 159, rfl⟩
abbrev main_v107 : Ref sig .tc := ⟨.hbm, 160, rfl⟩
abbrev main_v108 : Ref sig .tc := ⟨.hbm, 161, rfl⟩
abbrev main_call6_call0_cst : Ref sig .tc := ⟨.hbm, 162, rfl⟩
abbrev main_call6_call0_v0 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_7 : Ref sig .tc := ⟨.hbm, 173, rfl⟩
abbrev main_call7_v0 : Ref sig .tc := ⟨.hbm, 174, rfl⟩
abbrev main_call7_v1 : Ref sig .tc := ⟨.hbm, 175, rfl⟩
abbrev main_call7_v2 : Ref sig .tc := ⟨.hbm, 176, rfl⟩
abbrev main_v118 : Ref sig .tc := ⟨.hbm, 177, rfl⟩
abbrev main_v119 : Ref sig .tc := ⟨.hbm, 178, rfl⟩
abbrev main_cst_8 : Ref sig .tc := ⟨.hbm, 179, rfl⟩
abbrev main_call8_v0 : Ref sig .tc := ⟨.hbm, 180, rfl⟩
abbrev main_call8_v1 : Ref sig .tc := ⟨.hbm, 181, rfl⟩
abbrev main_call8_v2 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_9 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_cst_10 : Ref sig .tc := ⟨.hbm, 209, rfl⟩
abbrev main_v145 : Ref sig .tc := ⟨.hbm, 210, rfl⟩
abbrev main_v146 : Ref sig .tc := ⟨.hbm, 211, rfl⟩
abbrev main_cst_11 : Ref sig .tc := ⟨.hbm, 212, rfl⟩
abbrev main_v147 : Ref sig .tc := ⟨.hbm, 213, rfl⟩
abbrev main_v148 : Ref sig .tc := ⟨.hbm, 214, rfl⟩
abbrev main_cst_12 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_call9_v0 : Ref sig .tc := ⟨.hbm, 225, rfl⟩
abbrev main_call9_v1 : Ref sig .tc := ⟨.hbm, 226, rfl⟩
abbrev main_call9_cst : Ref sig .tc := ⟨.hbm, 227, rfl⟩
abbrev main_call9_v2 : Ref sig .tc := ⟨.hbm, 228, rfl⟩
abbrev main_call9_v3 : Ref sig .tc := ⟨.hbm, 229, rfl⟩
abbrev main_call9_cst_0 : Ref sig .tc := ⟨.hbm, 230, rfl⟩
abbrev main_call9_v4 : Ref sig .tc := ⟨.hbm, 231, rfl⟩
abbrev main_call9_v5 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩

abbrev nD : Nat := 1
abbrev τ : Topo := Topo.v7x

variable {F : FTy → Type} [FloatOps F]
-- ==== Proof.FinalNormIdealBody.lean ====
/-
  The last normalisation, in the ideal form: what its body leaves in the two results' buffers, and from it the
  run of the whole call.

  A point normalises one block of 256 rows. Points 0 … 31 store it into the first result's block, point 32 into the second's,
  which point 0 has filled with zeros. The first result's buffer is written back once more at point 32, where the body
  leaves it as point 31 did.
-/
module

public import proofs.«01_k».proof.Proof.Gen.FinalNormIdeal.Frame
public import Idealize.ShloMosaic.Lib.Pipeline.Value
public import Idealize.ShloMosaic.Lib.ValueLayout
public import Idealize.ShloMosaic.Lib.Claim

@[expose] public section

set_option maxRecDepth 16384

noncomputable section

namespace Cert.FinalNormIdeal.Body

open Cert.FinalNormIdeal Cert.FinalNormIdeal.Gen Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The normalised block: each row over the root of its mean square, times the gains. -/
def normed (x : Vec F S256x2048 .f32) (g : Vec F S1x2048 .f32) : FVec F S256x2048 .f32 :=
  have squares : FVec F S256 .f32 := multiReduction .add [1] S256 (mulf x x) 0x00000000#32 reduces_S256x2048_S256 (.inl rfl) rfl
  have mean : FVec F S256x1 .f32 := divf (shapeCast S256x1 squares shapeCasts_S256_S256x1)
    (broadcast S256x1 (Scalar.ofBits .f32 0x45000000#32 : F .f32))
  have scale : FVec F S256x1 .f32 := rsqrt (addf mean (broadcast S256x1 (Scalar.ofBits .f32 0x358637BD#32 : F .f32)))
  mulf (mulf x (broadcastTo S256x2048 scale broadcasts_S256x1_S256x2048))
    (broadcastTo S256x2048 (shapeCast S1x2048 g shapeCasts_S1x2048_S1x2048) broadcasts_S1x2048_S256x2048)

/-- The block of zeros. -/
def zeros : FVec F S256x2048 .f32 := broadcast S256x2048 (Scalar.ofBits .f32 0x00000000#32 : F .f32)

theorem hz : (![0, 0] : Fin 2 → Nat) = fun _ => 0 := funext fun a => by fin_cases a <;> rfl

/-- A whole block, -/
abbrev blk : Rect S256x2048 := Rect.unit (s := S256x2048) ![0, 0] S256x2048.size inb_S256x2048_S256x2048_0_0
/-- and the whole row of gains. -/
abbrev gains : Rect S1x2048 := Rect.unit (s := S1x2048) ![0, 0] S1x2048.size inb_S1x2048_S1x2048_0_0

/-- A block's store reaches every entry. -/
theorem covered (v : Vec F S256x2048 .f32) (y : S256x2048.Idx) :
    ∃ pc ∈ ([⟨blk, v⟩] : List (View.Piece (Elt F) S256x2048 .f32)), y ∈ pc.1.set := by
  refine ⟨_, List.mem_singleton.2 rfl, ?_⟩
  rw [Rect.mem_set_unit]
  intro a
  match a with
  | ⟨0, _⟩ => exact ⟨Nat.zero_le _, by have h : (y 0).val < 256 := (y 0).isLt; show (y 0).val < 0 + 256; omega⟩
  | ⟨1, _⟩ => exact ⟨Nat.zero_le _, by have h : (y 1).val < 2048 := (y 1).isLt; show (y 1).val < 0 + 2048; omega⟩

theorem canon_normed (x : Vec F S256x2048 .f32) (g : Vec F S1x2048 .f32) :
    View.canon ([⟨blk, normed (View.ld x blk) (View.ld g gains)⟩] : List (View.Piece (Elt F) S256x2048 .f32)) = normed x g := by
  rw [View.canon_unit_zero hz, View.ld_unit_zero hz, View.ld_unit_zero hz]

theorem canon_zeros : View.canon ([⟨blk, zeros⟩] : List (View.Piece (Elt F) S256x2048 .f32)) = zeros := by
  rw [View.canon_unit_zero hz]

/-! ## The body's runs -/

set_option maxHeartbeats 1000000 in
/-- At the first point the body stores the normalised block into the first result's buffer and zeros into the second's. -/
theorem run_first (c : Dev nD) (E : Set ℕ) (i : grid0.Coords) (arg1 : Memref sig .tc .vmem S256x2048 .f32) (harg1 : arg1.IsWhole)
    (arg2 : Memref sig .tc .vmem S1x2048 .f32) (harg2 : arg2.IsWhole) (arg3 : Memref sig .tc .vmem S256x2048 .f32) (harg3 : arg3.IsWhole)
    (arg4 : Memref sig .tc .vmem S256x2048 .f32) (harg4 : arg4.IsWhole)
    (h1 : k0_cond1 i = 1#1) (h2 : k0_cond2 i = 1#1) (h3 : ¬ k0_cond3 i = 1#1)
    (x : Vec F S256x2048 .f32) (g : Vec F S1x2048 .f32) (K : PUnit → sProp 𝕄) :
    iprop(owns (c : Thread nD τ) arg1 fullShare x ∗ owns (c : Thread nD τ) arg2 fullShare g
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare g
            ∗ owns (c : Thread nD τ) arg3 fullShare (normed x g) ∗ owns (c : Thread nD τ) arg4 fullShare zeros) -∗ K ⟨⟩))
      ⊢ wp frame (wpE (defs₀ (F := F)) Variants.none c none) E (cc0_rmsnorm_split i arg1 harg1 arg2 harg2 arg3 harg3 arg4 harg4) K := by
  sl_unfold [cc0_rmsnorm_split]
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (View.read_writes_eq_canon _ _ _ (covered _)).trans (canon_normed _ _)
  iexists _; isplitr
  swap; · iexact H3
  ipureintro
  exact (View.read_writes_eq_canon _ _ _ (covered _)).trans canon_zeros

set_option maxHeartbeats 1000000 in
/-- At a later point up to 31 it stores the normalised block into the first result's buffer and does not touch the second's. -/
theorem run_mid (c : Dev nD) (E : Set ℕ) (i : grid0.Coords) (arg1 : Memref sig .tc .vmem S256x2048 .f32) (harg1 : arg1.IsWhole)
    (arg2 : Memref sig .tc .vmem S1x2048 .f32) (harg2 : arg2.IsWhole) (arg3 : Memref sig .tc .vmem S256x2048 .f32) (harg3 : arg3.IsWhole)
    (arg4 : Memref sig .tc .vmem S256x2048 .f32) (harg4 : arg4.IsWhole)
    (h1 : ¬ k0_cond1 i = 1#1) (h2 : k0_cond2 i = 1#1) (h3 : ¬ k0_cond3 i = 1#1)
    (x : Vec F S256x2048 .f32) (g : Vec F S1x2048 .f32) (K : PUnit → sProp 𝕄) :
    iprop(owns (c : Thread nD τ) arg1 fullShare x ∗ owns (c : Thread nD τ) arg2 fullShare g
        ∗ (∃ d, owns (c : Thread nD τ) arg3 fullShare d)
        ∗ (iprop(owns (c : Thread nD τ) arg1 fullShare x ∗ owns (c : Thread nD τ) arg2 fullShare g
            ∗ owns (c : Thread nD τ) arg3 fullShare (normed x g)) -∗ K ⟨⟩))
      ⊢ wp frame (wpE (defs₀ (F := F)) Variants.none c none) E (cc0_rmsnorm_split i arg1 harg1 arg2 harg2 arg3 harg3 arg4 harg4) K := by
  sl_unfold [cc0_rmsnorm_split]
  unfold owns
  iintro ⟨⟨%f0, %hf0, H0⟩, ⟨%f1, %hf1, H1⟩, ⟨%d2, %f2, -, H2⟩, Hk⟩
  subst hf0; subst hf1
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (covered _)).trans (canon_normed _ _)

set_option maxHeartbeats 1000000 in
/-- At point 32 it stores the normalised block into the second result's buffer and does not touch the first's. -/
theorem run_last (c : Dev nD) (E : Set ℕ) (i : grid0.Coords) (arg1 : Memref sig .tc .vmem S256x2048 .f32) (harg1 : arg1.IsWhole)
    (arg2 : Memref sig .tc .vmem S1x2048 .f32) (harg2 : arg2.IsWhole) (arg3 : Memref sig .tc .vmem S256x2048 .f32) (harg3 : arg3.IsWhole)
    (arg4 : Memref sig .tc .vmem S256x2048 .f32) (harg4 : arg4.IsWhole)
    (h1 : ¬ k0_cond1 i = 1#1) (h2 : ¬ k0_cond2 i = 1#1) (h3 : k0_cond3 i = 1#1)
    (x : Vec F S256x2048 .f32) (g : Vec F S1x2048 .f32) (K : PUnit → sProp 𝕄) :
    iprop(owns (c : Thread nD τ) arg1 fullShare x ∗ owns (c : Thread nD τ) arg2 fullShare g
        ∗ (∃ d, owns (c : Thread nD τ) arg4 fullShare d)
        ∗ (iprop(owns (c : Thread nD τ) arg1 fullShare x ∗ owns (c : Thread nD τ) arg2 fullShare g
            ∗ owns (c : Thread nD τ) arg4 fullShare (normed x g)) -∗ K ⟨⟩))
      ⊢ wp frame (wpE (defs₀ (F := F)) Variants.none c none) E (cc0_rmsnorm_split i arg1 harg1 arg2 harg2 arg3 harg3 arg4 harg4) K := by
  sl_unfold [cc0_rmsnorm_split]
  unfold owns
  iintro ⟨⟨%f0, %hf0, H0⟩, ⟨%f1, %hf1, H1⟩, ⟨%d3, %f3, -, H3⟩, Hk⟩
  subst hf0; subst hf1
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  exact (View.read_writes_eq_canon _ _ _ (covered _)).trans (canon_normed _ _)

/-! ## The conditions and the write-backs, point by point -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val < 32 :=
  (by decide +kernel : ∀ t : Fin grid0.N, k0_cond2 (grid0.coords t) = 1#1 ↔ t.val < 32)
theorem cond3_iff : ∀ t : Fin cfg0.N, k0_cond3 (grid0.coords t) = 1#1 ↔ ¬ t.val < 32 :=
  (by decide +kernel : ∀ t : Fin grid0.N, k0_cond3 (grid0.coords t) = 1#1 ↔ ¬ t.val < 32)
theorem idle2 : ∀ t : Fin cfg0.N, cfg0.idle 2 (cfg0.grid.coords t) = decide (t.val = 32) :=
  (by decide +kernel : ∀ t : Fin grid0.N, idle0 2 (grid0.coords t) = decide (t.val = 32))
theorem idle3 : ∀ t : Fin cfg0.N, cfg0.idle 3 (cfg0.grid.coords t) = (decide (t.val ≠ 0) && decide (t.val ≠ 32)) :=
  (by decide +kernel : ∀ t : Fin grid0.N, idle0 3 (grid0.coords t) = (decide (t.val ≠ 0) && decide (t.val ≠ 32)))
/-- The first result's block is written back at every point but 31. -/
theorem flush2 : ∀ t : Fin cfg0.N, (cfg0.win 2).flush t = decide (t.val ≠ 31) :=
  (by decide +kernel : ∀ t : Fin grid0.N, win0_2.flush t = decide (t.val ≠ 31))
theorem flush3 : ∀ t : Fin cfg0.N, (cfg0.win 3).flush t = decide (t.val = 32) :=
  (by decide +kernel : ∀ t : Fin grid0.N, win0_3.flush t = decide (t.val = 32))

theorem lt_N (t : Fin cfg0.N) : t.val < 33 := Nat.lt_of_lt_of_eq t.isLt N_0

/-! ## The whole call -/

/-- The last point at or before `t` that stores the first result's block. -/
def upto (t : Fin cfg0.N) : Fin cfg0.N := ⟨min t.val 31, Nat.lt_of_le_of_lt (Nat.min_le_left _ _) t.isLt⟩

/-- The normalised block of point `t`. -/
abbrev Y (c : Dev nD) (t : Fin cfg0.N) : FVec F S256x2048 .f32 := normed (iblk m c 0 t) (iblk m c 1 t)

/-- What is known of the buffers: the arrays as the call finds them, and after the body the inputs' blocks as read, the first
    result's block that of the last storing point, the second's zeros and at point 32 the normalised block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Y m c (upto t)
    | ⟨3, _⟩ => if t.val < 32 then zeros else Y m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = Y m c (upto t) := by dsimp only [dats]
theorem after0_3 (c : Dev nD) (t : Fin cfg0.N) : (dats m 0 c).after 3 t = if t.val < 32 then zeros else Y m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem upto_lt (t : Fin cfg0.N) (h : t.val < 32) : upto t = t := Fin.ext (Nat.min_eq_left (by omega))

/-- The first result's buffer at point 32 holds what point 31 left. -/
theorem before_last (c : Dev nD) (t : Fin cfg0.N) (h : t.val = 32) (d) : (dats m 0 c).before 2 t d = Y m c (upto t) := by
  have ht : t.val ≠ 0 := by omega
  have hp : (⟨t.val - 1, Nat.lt_of_le_of_lt (Nat.sub_le _ _) t.isLt⟩ : Fin cfg0.N).val = 31 := by show t.val - 1 = 31; omega
  rw [(dats m 0 c).before_of_pos 2 t ht ((cfg0.win 2).fetch_out rfl t), flush2, hp, if_neg (by decide)]
  unfold Dat.left
  rw [idle2, hp]
  show (dats m 0 c).kept 2 _ d = _
  unfold Dat.kept
  rw [Pipeline.fill_of_clip_none 2 _ (fun _ => rfl) d ((dats m 0 c).after 2 _), Window.fill_cut, after0_2]
  congr 1
  exact Fin.ext (by show min (t.val - 1) 31 = min t.val 31; omega)

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (dats m 0 c).leavesExact 2 t ∗ (dats m 0 c).leavesExact 3 t)

theorem leaves2 (c : Dev nD) (t : Fin cfg0.N) :
    (dats m 0 c).leavesExact 2 t = owns (c : Thread nD τ) (st0_2 t) fullShare (Y m c (upto t)) := by
  have hlt := lt_N t
  rw [← after0_2]
  by_cases h : t.val = 32
  · unfold Dat.leavesExact; rw [idle2, flush2, h]; rfl
  · unfold Dat.leavesExact; rw [idle2, decide_eq_false h]
theorem leaves3 (c : Dev nD) (t : Fin cfg0.N) (h : t.val = 0 ∨ t.val = 32) :
    (dats m 0 c).leavesExact 3 t = owns (c : Thread nD τ) (st0_3 t) fullShare (if t.val < 32 then zeros else Y m c t) := by
  rw [← after0_3]
  unfold Dat.leavesExact
  rcases h with h | h <;> (rw [idle3, h]; rfl)
theorem leaves3_idle (c : Dev nD) (t : Fin cfg0.N) (h0 : t.val ≠ 0) (h : t.val < 32) :
    (dats m 0 c).leavesExact 3 t = iprop(∃ d, owns (c : Thread nD τ) (st0_3 t) fullShare ((dats m 0 c).before 3 t d)) :=
  (dats m 0 c).leavesExact_idle 3 t (by rw [idle3, decide_eq_true h0, decide_eq_true (by omega : t.val ≠ 32)]; rfl)
    (by rw [flush3, decide_eq_false (by omega)])

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  have hlt := lt_N t
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl, after0_0, after0_1, leaves2]
  by_cases h0 : t.val = 0
  · rw [leaves3 m c t (.inl h0), if_pos (by omega : t.val < 32), upto_lt t (by omega)]
    iintro ⟨HΦ, Ho, ⟨%d0, H0⟩, ⟨%d1, H1⟩, ⟨%d2, H2⟩, ⟨%d3, H3⟩⟩
    iapply (run_first c Set.univ (grid0.coords t) _ _ _ _ _ _ _ _ ((cond1_iff t).2 h0) ((cond2_iff t).2 (by omega))
      (fun h => (cond3_iff t).1 h (by omega)) (iblk m c 0 t) (iblk m c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  by_cases h : t.val < 32
  · rw [leaves3_idle m c t h0 h, upto_lt t h]
    iintro ⟨HΦ, Ho, ⟨%d0, H0⟩, ⟨%d1, H1⟩, ⟨%d2, H2⟩, H3⟩
    iapply (run_mid c Set.univ (grid0.coords t) _ _ _ _ _ _ _ _ (fun h' => h0 ((cond1_iff t).1 h')) ((cond2_iff t).2 h)
      (fun h' => (cond3_iff t).1 h' h) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    isplitl [H2]; · iexact H2
    iexact H3
  · have h32 : t.val = 32 := by omega
    rw [leaves3 m c t (.inr h32), if_neg h]
    simp only [before_last m c t h32]
    iintro ⟨HΦ, Ho, ⟨%d0, H0⟩, ⟨%d1, H1⟩, ⟨%d2, H2⟩, ⟨%d3, H3⟩⟩
    iapply (run_last c Set.univ (grid0.coords t) _ _ _ _ _ _ _ _ (fun h' => h0 ((cond1_iff t).1 h')) (fun h' => h ((cond2_iff t).1 h'))
      ((cond3_iff t).2 h) (iblk m c 0 t) (iblk m c 1 t) _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The call runs to its end, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

/-- The run with the results' arrays named, the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2, (h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.FinalNormIdeal.Body

end
-- ==== Proof.KvPromptIdealBody.lean ====
/-
  The call that writes the key and value rows of the prompts, in the ideal form: what its body leaves in the result's buffer,
  and from it the run of the whole call.

  A point reads a block of 512 rows of 8 times 128 columns and stores the columns 128·k … 128·k + 127 into the rows k,
  k + 8, k + 16, … of its block of 4096 rows of 128: row 8·i + k of the result's block is the k-th part of row i.
-/
module

public import proofs.«01_k».proof.Proof.Gen.KvPromptIdeal.Frame
public import Idealize.ShloMosaic.Lib.Pipeline.Value
public import Idealize.ShloMosaic.Lib.ValueLayout
public import Idealize.ShloMosaic.Lib.Claim

@[expose] public section

set_option maxRecDepth 16384

noncomputable section

namespace Cert.KvPromptIdeal.Body

open Cert.KvPromptIdeal Cert.KvPromptIdeal.Gen Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The result's block from the input's: row 8·i + k holds the columns 128·k … of row i. -/
def rowsOf (x : Vec F S512x1024 .f32) : Vec F S4096x128 .f32 := fun y =>
  x (ix2 ⟨(y 0).val / 8, by have h : (y 0).val < 4096 := (y 0).isLt; show (y 0).val / 8 < 512; omega⟩
    ⟨(y 0).val % 8 * 128 + (y 1).val, by have h : (y 1).val < 128 := (y 1).isLt; show (y 0).val % 8 * 128 + (y 1).val < 1024; omega⟩)

/-- Row 0 of every group of 8 rows of a block. -/
abbrev row0 : Rect S4096x128 := ⟨(⟨![0, 0], S512x128.size, ![8, 1], inb_S4096x128_S512x128_0_0_s_8_1⟩ : LoadRect S4096x128), spos_8_1⟩
/-- Columns 0 … 127 of the input's block. -/
abbrev col0 : Rect S512x1024 := Rect.unit (s := S512x1024) ![0, 0] S512x128.size inb_S512x1024_S512x128_0_0
/-- Row 1 of every group of 8 rows of a block. -/
abbrev row1 : Rect S4096x128 := ⟨(⟨![1, 0], S512x128.size, ![8, 1], inb_S4096x128_S512x128_1_0_s_8_1⟩ : LoadRect S4096x128), spos_8_1⟩
/-- Columns 128 … 255 of the input's block. -/
abbrev col1 : Rect S512x1024 := Rect.unit (s := S512x1024) ![0, 128] S512x128.size inb_S512x1024_S512x128_0_128
/-- Row 2 of every group of 8 rows of a block. -/
abbrev row2 : Rect S4096x128 := ⟨(⟨![2, 0], S512x128.size, ![8, 1], inb_S4096x128_S512x128_2_0_s_8_1⟩ : LoadRect S4096x128), spos_8_1⟩
/-- Columns 256 … 383 of the input's block. -/
abbrev col2 : Rect S512x1024 := Rect.unit (s := S512x1024) ![0, 256] S512x128.size inb_S512x1024_S512x128_0_256
/-- Row 3 of every group of 8 rows of a block. -/
abbrev row3 : Rect S4096x128 := ⟨(⟨![3, 0], S512x128.size, ![8, 1], inb_S4096x128_S512x128_3_0_s_8_1⟩ : LoadRect S4096x128), spos_8_1⟩
/-- Columns 384 … 511 of the input's block. -/
abbrev col3 : Rect S512x1024 := Rect.unit (s := S512x1024) ![0, 384] S512x128.size inb_S512x1024_S512x128_0_384
/-- Row 4 of every group of 8 rows of a block. -/
abbrev row4 : Rect S4096x128 := ⟨(⟨![4, 0], S512x128.size, ![8, 1], inb_S4096x128_S512x128_4_0_s_8_1⟩ : LoadRect S4096x128), spos_8_1⟩
/-- Columns 512 … 639 of the input's block. -/
abbrev col4 : Rect S512x1024 := Rect.unit (s := S512x1024) ![0, 512] S512x128.size inb_S512x1024_S512x128_0_512
/-- Row 5 of every group of 8 rows of a block. -/
abbrev row5 : Rect S4096x128 := ⟨(⟨![5, 0], S512x128.size, ![8, 1], inb_S4096x128_S512x128_5_0_s_8_1⟩ : LoadRect S4096x128), spos_8_1⟩
/-- Columns 640 … 767 of the input's block. -/
abbrev col5 : Rect S512x1024 := Rect.unit (s := S512x1024) ![0, 640] S512x128.size inb_S512x1024_S512x128_0_640
/-- Row 6 of every group of 8 rows of a block. -/
abbrev row6 : Rect S4096x128 := ⟨(⟨![6, 0], S512x128.size, ![8, 1], inb_S4096x128_S512x128_6_0_s_8_1⟩ : LoadRect S4096x128), spos_8_1⟩
/-- Columns 768 … 895 of the input's block. -/
abbrev col6 : Rect S512x1024 := Rect.unit (s := S512x1024) ![0, 768] S512x128.size inb_S512x1024_S512x128_0_768
/-- Row 7 of every group of 8 rows of a block. -/
abbrev row7 : Rect S4096x128 := ⟨(⟨![7, 0], S512x128.size, ![8, 1], inb_S4096x128_S512x128_7_0_s_8_1⟩ : LoadRect S4096x128), spos_8_1⟩
/-- Columns 896 … 1023 of the input's block. -/
abbrev col7 : Rect S512x1024 := Rect.unit (s := S512x1024) ![0, 896] S512x128.size inb_S512x1024_S512x128_0_896

/-- The body's stores, the last one first. -/
abbrev pieces (x : Vec F S512x1024 .f32) : List (View.Piece (Elt F) S4096x128 .f32) :=
  [⟨row7, View.ld x col7⟩, ⟨row6, View.ld x col6⟩, ⟨row5, View.ld x col5⟩, ⟨row4, View.ld x col4⟩, ⟨row3, View.ld x col3⟩, ⟨row2, View.ld x col2⟩, ⟨row1, View.ld x col1⟩, ⟨row0, View.ld x col0⟩]

/-- Stores k, with k below 8, reach every row. -/
theorem covered (x : Vec F S512x1024 .f32) (y : S4096x128.Idx) : ∃ pc ∈ pieces x, y ∈ pc.1.set := by
  have h0 : (y 0).val < 4096 := (y 0).isLt
  have h1 : (y 1).val < 128 := (y 1).isLt
  have hk : (y 0).val % 8 < 8 := Nat.mod_lt _ (by decide)
  generalize hr : (y 0).val % 8 = r at hk
  rcases (by omega : r = 0 ∨ r = 1 ∨ r = 2 ∨ r = 3 ∨ r = 4 ∨ r = 5 ∨ r = 6 ∨ r = 7) with rfl | rfl | rfl | rfl | rfl | rfl | rfl | rfl
  · refine ⟨⟨row0, View.ld x col0⟩, by simp [pieces], ?_⟩
    rw [LoadRect.mem_set]
    intro a
    match a with
    | ⟨0, _⟩ => exact ⟨(y 0).val / 8, by show (y 0).val / 8 < 512; omega, by show (y 0).val = 0 + 8 * ((y 0).val / 8); omega⟩
    | ⟨1, _⟩ => exact ⟨(y 1).val, h1, by show (y 1).val = 0 + 1 * (y 1).val; omega⟩
  · refine ⟨⟨row1, View.ld x col1⟩, by simp [pieces], ?_⟩
    rw [LoadRect.mem_set]
    intro a
    match a with
    | ⟨0, _⟩ => exact ⟨(y 0).val / 8, by show (y 0).val / 8 < 512; omega, by show (y 0).val = 1 + 8 * ((y 0).val / 8); omega⟩
    | ⟨1, _⟩ => exact ⟨(y 1).val, h1, by show (y 1).val = 0 + 1 * (y 1).val; omega⟩
  · refine ⟨⟨row2, View.ld x col2⟩, by simp [pieces], ?_⟩
    rw [LoadRect.mem_set]
    intro a
    match a with
    | ⟨0, _⟩ => exact ⟨(y 0).val / 8, by show (y 0).val / 8 < 512; omega, by show (y 0).val = 2 + 8 * ((y 0).val / 8); omega⟩
    | ⟨1, _⟩ => exact ⟨(y 1).val, h1, by show (y 1).val = 0 + 1 * (y 1).val; omega⟩
  · refine ⟨⟨row3, View.ld x col3⟩, by simp [pieces], ?_⟩
    rw [LoadRect.mem_set]
    intro a
    match a with
    | ⟨0, _⟩ => exact ⟨(y 0).val / 8, by show (y 0).val / 8 < 512; omega, by show (y 0).val = 3 + 8 * ((y 0).val / 8); omega⟩
    | ⟨1, _⟩ => exact ⟨(y 1).val, h1, by show (y 1).val = 0 + 1 * (y 1).val; omega⟩
  · refine ⟨⟨row4, View.ld x col4⟩, by simp [pieces], ?_⟩
    rw [LoadRect.mem_set]
    intro a
    match a with
    | ⟨0, _⟩ => exact ⟨(y 0).val / 8, by show (y 0).val / 8 < 512; omega, by show (y 0).val = 4 + 8 * ((y 0).val / 8); omega⟩
    | ⟨1, _⟩ => exact ⟨(y 1).val, h1, by show (y 1).val = 0 + 1 * (y 1).val; omega⟩
  · refine ⟨⟨row5, View.ld x col5⟩, by simp [pieces], ?_⟩
    rw [LoadRect.mem_set]
    intro a
    match a with
    | ⟨0, _⟩ => exact ⟨(y 0).val / 8, by show (y 0).val / 8 < 512; omega, by show (y 0).val = 5 + 8 * ((y 0).val / 8); omega⟩
    | ⟨1, _⟩ => exact ⟨(y 1).val, h1, by show (y 1).val = 0 + 1 * (y 1).val; omega⟩
  · refine ⟨⟨row6, View.ld x col6⟩, by simp [pieces], ?_⟩
    rw [LoadRect.mem_set]
    intro a
    match a with
    | ⟨0, _⟩ => exact ⟨(y 0).val / 8, by show (y 0).val / 8 < 512; omega, by show (y 0).val = 6 + 8 * ((y 0).val / 8); omega⟩
    | ⟨1, _⟩ => exact ⟨(y 1).val, h1, by show (y 1).val = 0 + 1 * (y 1).val; omega⟩
  · refine ⟨⟨row7, View.ld x col7⟩, by simp [pieces], ?_⟩
    rw [LoadRect.mem_set]
    intro a
    match a with
    | ⟨0, _⟩ => exact ⟨(y 0).val / 8, by show (y 0).val / 8 < 512; omega, by show (y 0).val = 7 + 8 * ((y 0).val / 8); omega⟩
    | ⟨1, _⟩ => exact ⟨(y 1).val, h1, by show (y 1).val = 0 + 1 * (y 1).val; omega⟩

/-- So the stores leave `rowsOf` of the input's block. -/
theorem canon_rows (x : Vec F S512x1024 .f32) : View.canon (pieces x) = rowsOf x := by
  funext y
  refine View.canon_apply_of_pieces (rowsOf x) (pieces x) ?_ y (covered x y)
  intro p hp z
  simp only [pieces, List.mem_cons, List.not_mem_nil, or_false] at hp
  rcases hp with rfl | rfl | rfl | rfl | rfl | rfl | rfl | rfl
  · have h0 : (z 0).val < 512 := (z 0).isLt
    have h1 : (z 1).val < 128 := (z 1).isLt
    refine congrArg x (funext fun a => Fin.ext ?_)
    match a with
    | ⟨0, _⟩ => show 0 + 1 * (z 0).val = (7 + 8 * (z 0).val) / 8; omega
    | ⟨1, _⟩ => show 896 + 1 * (z 1).val = (7 + 8 * (z 0).val) % 8 * 128 + (0 + 1 * (z 1).val); omega
  · have h0 : (z 0).val < 512 := (z 0).isLt
    have h1 : (z 1).val < 128 := (z 1).isLt
    refine congrArg x (funext fun a => Fin.ext ?_)
    match a with
    | ⟨0, _⟩ => show 0 + 1 * (z 0).val = (6 + 8 * (z 0).val) / 8; omega
    | ⟨1, _⟩ => show 768 + 1 * (z 1).val = (6 + 8 * (z 0).val) % 8 * 128 + (0 + 1 * (z 1).val); omega
  · have h0 : (z 0).val < 512 := (z 0).isLt
    have h1 : (z 1).val < 128 := (z 1).isLt
    refine congrArg x (funext fun a => Fin.ext ?_)
    match a with
    | ⟨0, _⟩ => show 0 + 1 * (z 0).val = (5 + 8 * (z 0).val) / 8; omega
    | ⟨1, _⟩ => show 640 + 1 * (z 1).val = (5 + 8 * (z 0).val) % 8 * 128 + (0 + 1 * (z 1).val); omega
  · have h0 : (z 0).val < 512 := (z 0).isLt
    have h1 : (z 1).val < 128 := (z 1).isLt
    refine congrArg x (funext fun a => Fin.ext ?_)
    match a with
    | ⟨0, _⟩ => show 0 + 1 * (z 0).val = (4 + 8 * (z 0).val) / 8; omega
    | ⟨1, _⟩ => show 512 + 1 * (z 1).val = (4 + 8 * (z 0).val) % 8 * 128 + (0 + 1 * (z 1).val); omega
  · have h0 : (z 0).val < 512 := (z 0).isLt
    have h1 : (z 1).val < 128 := (z 1).isLt
    refine congrArg x (funext fun a => Fin.ext ?_)
    match a with
    | ⟨0, _⟩ => show 0 + 1 * (z 0).val = (3 + 8 * (z 0).val) / 8; omega
    | ⟨1, _⟩ => show 384 + 1 * (z 1).val = (3 + 8 * (z 0).val) % 8 * 128 + (0 + 1 * (z 1).val); omega
  · have h0 : (z 0).val < 512 := (z 0).isLt
    have h1 : (z 1).val < 128 := (z 1).isLt
    refine congrArg x (funext fun a => Fin.ext ?_)
    match a with
    | ⟨0, _⟩ => show 0 + 1 * (z 0).val = (2 + 8 * (z 0).val) / 8; omega
    | ⟨1, _⟩ => show 256 + 1 * (z 1).val = (2 + 8 * (z 0).val) % 8 * 128 + (0 + 1 * (z 1).val); omega
  · have h0 : (z 0).val < 512 := (z 0).isLt
    have h1 : (z 1).val < 128 := (z 1).isLt
    refine congrArg x (funext fun a => Fin.ext ?_)
    match a with
    | ⟨0, _⟩ => show 0 + 1 * (z 0).val = (1 + 8 * (z 0).val) / 8; omega
    | ⟨1, _⟩ => show 128 + 1 * (z 1).val = (1 + 8 * (z 0).val) % 8 * 128 + (0 + 1 * (z 1).val); omega
  · have h0 : (z 0).val < 512 := (z 0).isLt
    have h1 : (z 1).val < 128 := (z 1).isLt
    refine congrArg x (funext fun a => Fin.ext ?_)
    match a with
    | ⟨0, _⟩ => show 0 + 1 * (z 0).val = (0 + 8 * (z 0).val) / 8; omega
    | ⟨1, _⟩ => show 0 + 1 * (z 1).val = (0 + 8 * (z 0).val) % 8 * 128 + (0 + 1 * (z 1).val); omega

/-! ## The body's run -/

set_option maxHeartbeats 1000000 in
/-- The body on whole buffers runs and leaves the input as it was and `rowsOf` of it in the result's. -/
theorem sound_kernel (c : Dev nD) (E : Set ℕ) (i : grid0.Coords) (arg2 : Memref sig .tc .vmem S512x1024 .f32) (harg2 : arg2.IsWhole)
    (arg3 : Memref sig .tc .hbm S131072x128 .f32) (harg3 : arg3.IsWhole) (arg4 : Memref sig .tc .vmem S4096x128 .f32) (harg4 : arg4.IsWhole)
    (x0 : Vec F S512x1024 .f32) (K : PUnit → sProp 𝕄) :
    iprop(owns (c : Thread nD τ) arg2 fullShare x0 ∗ (∃ d, owns (c : Thread nD τ) arg4 fullShare d)
        ∗ (iprop(owns (c : Thread nD τ) arg2 fullShare x0 ∗ owns (c : Thread nD τ) arg4 fullShare (rowsOf x0)) -∗ K ⟨⟩))
      ⊢ wp frame (wpE (defs₀ (F := F)) Variants.none c none) E (cc0_kv_rows_prompt i arg2 harg2 arg3 harg3 arg4 harg4) K := by
  sl_unfold [cc0_kv_rows_prompt]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact (View.read_writes_eq_canon _ _ _ (covered _)).trans (canon_rows _)

/-! ## The whole call -/

/-- What is known of the buffers: the arrays as the call finds them, and after the body the input's block as read, the result's
    `rowsOf` of it. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => rowsOf (X0_0 m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = X0_0 m c t := by dsimp only [dats]
theorem after0_1 (c : Dev nD) (t : Fin cfg0.N) : (dats m 0 c).after 1 t = rowsOf (X0_0 m c t) := by dsimp only [dats]
theorem before0_0 (c : Dev nD) (t : Fin cfg0.N) (d) : (dats m 0 c).before 0 t d = X0_0 m c t :=
  before0_0_of m (dats m 0 c) (A_eq m c 0) (after0_0 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, after0_0, after0_1]
  iintro ⟨HΦ, Ho, ⟨%d0, H0⟩, ⟨%d1, H1⟩⟩
  iapply (sound_kernel c Set.univ (grid0.coords t) _ _ _ _ _ _ (X0_0 m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The call runs to its end, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

/-- The run with the result's array named, the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 1,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KvPromptIdeal.Body

end
-- ==== Proof.KvSampleIdealBody.lean ====
/-
  The call that writes the key and value rows of the samples, in the ideal form: what its body leaves in the result's buffer,
  and from it the run of the whole call.

  A point reads a block of 256 rows of 8 times 128 columns and stores the columns 128·k … 128·k + 127 into the rows k,
  k + 8, k + 16, … of its block of 2048 rows of 128: row 8·i + k of the result's block is the k-th part of row i.
-/
module

public import proofs.«01_k».proof.Proof.Gen.KvSampleIdeal.Frame
public import Idealize.ShloMosaic.Lib.Pipeline.Value
public import Idealize.ShloMosaic.Lib.ValueLayout
public import Idealize.ShloMosaic.Lib.Claim

@[expose] public section

set_option maxRecDepth 16384

noncomputable section

namespace Cert.KvSampleIdeal.Body

open Cert.KvSampleIdeal Cert.KvSampleIdeal.Gen Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The result's block from the input's: row 8·i + k holds the columns 128·k … of row i. -/
def rowsOf (x : Vec F S256x1024 .f32) : Vec F S2048x128 .f32 := fun y =>
  x (ix2 ⟨(y 0).val / 8, by have h : (y 0).val < 2048 := (y 0).isLt; show (y 0).val / 8 < 256; omega⟩
    ⟨(y 0).val % 8 * 128 + (y 1).val, by have h : (y 1).val < 128 := (y 1).isLt; show (y 0).val % 8 * 128 + (y 1).val < 1024; omega⟩)

/-- Row 0 of every group of 8 rows of a block. -/
abbrev row0 : Rect S2048x128 := ⟨(⟨![0, 0], S256x128.size, ![8, 1], inb_S2048x128_S256x128_0_0_s_8_1⟩ : LoadRect S2048x128), spos_8_1⟩
/-- Columns 0 … 127 of the input's block. -/
abbrev col0 : Rect S256x1024 := Rect.unit (s := S256x1024) ![0, 0] S256x128.size inb_S256x1024_S256x128_0_0
/-- Row 1 of every group of 8 rows of a block. -/
abbrev row1 : Rect S2048x128 := ⟨(⟨![1, 0], S256x128.size, ![8, 1], inb_S2048x128_S256x128_1_0_s_8_1⟩ : LoadRect S2048x128), spos_8_1⟩
/-- Columns 128 … 255 of the input's block. -/
abbrev col1 : Rect S256x1024 := Rect.unit (s := S256x1024) ![0, 128] S256x128.size inb_S256x1024_S256x128_0_128
/-- Row 2 of every group of 8 rows of a block. -/
abbrev row2 : Rect S2048x128 := ⟨(⟨![2, 0], S256x128.size, ![8, 1], inb_S2048x128_S256x128_2_0_s_8_1⟩ : LoadRect S2048x128), spos_8_1⟩
/-- Columns 256 … 383 of the input's block. -/
abbrev col2 : Rect S256x1024 := Rect.unit (s := S256x1024) ![0, 256] S256x128.size inb_S256x1024_S256x128_0_256
/-- Row 3 of every group of 8 rows of a block. -/
abbrev row3 : Rect S2048x128 := ⟨(⟨![3, 0], S256x128.size, ![8, 1], inb_S2048x128_S256x128_3_0_s_8_1⟩ : LoadRect S2048x128), spos_8_1⟩
/-- Columns 384 … 511 of the input's block. -/
abbrev col3 : Rect S256x1024 := Rect.unit (s := S256x1024) ![0, 384] S256x128.size inb_S256x1024_S256x128_0_384
/-- Row 4 of every group of 8 rows of a block. -/
abbrev row4 : Rect S2048x128 := ⟨(⟨![4, 0], S256x128.size, ![8, 1], inb_S2048x128_S256x128_4_0_s_8_1⟩ : LoadRect S2048x128), spos_8_1⟩
/-- Columns 512 … 639 of the input's block. -/
abbrev col4 : Rect S256x1024 := Rect.unit (s := S256x1024) ![0, 512] S256x128.size inb_S256x1024_S256x128_0_512
/-- Row 5 of every group of 8 rows of a block. -/
abbrev row5 : Rect S2048x128 := ⟨(⟨![5, 0], S256x128.size, ![8, 1], inb_S2048x128_S256x128_5_0_s_8_1⟩ : LoadRect S2048x128), spos_8_1⟩
/-- Columns 640 … 767 of the input's block. -/
abbrev col5 : Rect S256x1024 := Rect.unit (s := S256x1024) ![0, 640] S256x128.size inb_S256x1024_S256x128_0_640
/-- Row 6 of every group of 8 rows of a block. -/
abbrev row6 : Rect S2048x128 := ⟨(⟨![6, 0], S256x128.size, ![8, 1], inb_S2048x128_S256x128_6_0_s_8_1⟩ : LoadRect S2048x128), spos_8_1⟩
/-- Columns 768 … 895 of the input's block. -/
abbrev col6 : Rect S256x1024 := Rect.unit (s := S256x1024) ![0, 768] S256x128.size inb_S256x1024_S256x128_0_768
/-- Row 7 of every group of 8 rows of a block. -/
abbrev row7 : Rect S2048x128 := ⟨(⟨![7, 0], S256x128.size, ![8, 1], inb_S2048x128_S256x128_7_0_s_8_1⟩ : LoadRect S2048x128), spos_8_1⟩
/-- Columns 896 … 1023 of the input's block. -/
abbrev col7 : Rect S256x1024 := Rect.unit (s := S256x1024) ![0, 896] S256x128.size inb_S256x1024_S256x128_0_896

/-- The body's stores, the last one first. -/
abbrev pieces (x : Vec F S256x1024 .f32) : List (View.Piece (Elt F) S2048x128 .f32) :=
  [⟨row7, View.ld x col7⟩, ⟨row6, View.ld x col6⟩, ⟨row5, View.ld x col5⟩, ⟨row4, View.ld x col4⟩, ⟨row3, View.ld x col3⟩, ⟨row2, View.ld x col2⟩, ⟨row1, View.ld x col1⟩, ⟨row0, View.ld x col0⟩]

/-- Stores k, with k below 8, reach every row. -/
theorem covered (x : Vec F S256x1024 .f32) (y : S2048x128.Idx) : ∃ pc ∈ pieces x, y ∈ pc.1.set := by
  have h0 : (y 0).val < 2048 := (y 0).isLt
  have h1 : (y 1).val < 128 := (y 1).isLt
  have hk : (y 0).val % 8 < 8 := Nat.mod_lt _ (by decide)
  generalize hr : (y 0).val % 8 = r at hk
  rcases (by omega : r = 0 ∨ r = 1 ∨ r = 2 ∨ r = 3 ∨ r = 4 ∨ r = 5 ∨ r = 6 ∨ r = 7) with rfl | rfl | rfl | rfl | rfl | rfl | rfl | rfl
  · refine ⟨⟨row0, View.ld x col0⟩, by simp [pieces], ?_⟩
    rw [LoadRect.mem_set]
    intro a
    match a with
    | ⟨0, _⟩ => exact ⟨(y 0).val / 8, by show (y 0).val / 8 < 256; omega, by show (y 0).val = 0 + 8 * ((y 0).val / 8); omega⟩
    | ⟨1, _⟩ => exact ⟨(y 1).val, h1, by show (y 1).val = 0 + 1 * (y 1).val; omega⟩
  · refine ⟨⟨row1, View.ld x col1⟩, by simp [pieces], ?_⟩
    rw [LoadRect.mem_set]
    intro a
    match a with
    | ⟨0, _⟩ => exact ⟨(y 0).val / 8, by show (y 0).val / 8 < 256; omega, by show (y 0).val = 1 + 8 * ((y 0).val / 8); omega⟩
    | ⟨1, _⟩ => exact ⟨(y 1).val, h1, by show (y 1).val = 0 + 1 * (y 1).val; omega⟩
  · refine ⟨⟨row2, View.ld x col2⟩, by simp [pieces], ?_⟩
    rw [LoadRect.mem_set]
    intro a
    match a with
    | ⟨0, _⟩ => exact ⟨(y 0).val / 8, by show (y 0).val / 8 < 256; omega, by show (y 0).val = 2 + 8 * ((y 0).val / 8); omega⟩
    | ⟨1, _⟩ => exact ⟨(y 1).val, h1, by show (y 1).val = 0 + 1 * (y 1).val; omega⟩
  · refine ⟨⟨row3, View.ld x col3⟩, by simp [pieces], ?_⟩
    rw [LoadRect.mem_set]
    intro a
    match a with
    | ⟨0, _⟩ => exact ⟨(y 0).val / 8, by show (y 0).val / 8 < 256; omega, by show (y 0).val = 3 + 8 * ((y 0).val / 8); omega⟩
    | ⟨1, _⟩ => exact ⟨(y 1).val, h1, by show (y 1).val = 0 + 1 * (y 1).val; omega⟩
  · refine ⟨⟨row4, View.ld x col4⟩, by simp [pieces], ?_⟩
    rw [LoadRect.mem_set]
    intro a
    match a with
    | ⟨0, _⟩ => exact ⟨(y 0).val / 8, by show (y 0).val / 8 < 256; omega, by show (y 0).val = 4 + 8 * ((y 0).val / 8); omega⟩
    | ⟨1, _⟩ => exact ⟨(y 1).val, h1, by show (y 1).val = 0 + 1 * (y 1).val; omega⟩
  · refine ⟨⟨row5, View.ld x col5⟩, by simp [pieces], ?_⟩
    rw [LoadRect.mem_set]
    intro a
    match a with
    | ⟨0, _⟩ => exact ⟨(y 0).val / 8, by show (y 0).val / 8 < 256; omega, by show (y 0).val = 5 + 8 * ((y 0).val / 8); omega⟩
    | ⟨1, _⟩ => exact ⟨(y 1).val, h1, by show (y 1).val = 0 + 1 * (y 1).val; omega⟩
  · refine ⟨⟨row6, View.ld x col6⟩, by simp [pieces], ?_⟩
    rw [LoadRect.mem_set]
    intro a
    match a with
    | ⟨0, _⟩ => exact ⟨(y 0).val / 8, by show (y 0).val / 8 < 256; omega, by show (y 0).val = 6 + 8 * ((y 0).val / 8); omega⟩
    | ⟨1, _⟩ => exact ⟨(y 1).val, h1, by show (y 1).val = 0 + 1 * (y 1).val; omega⟩
  · refine ⟨⟨row7, View.ld x col7⟩, by simp [pieces], ?_⟩
    rw [LoadRect.mem_set]
    intro a
    match a with
    | ⟨0, _⟩ => exact ⟨(y 0).val / 8, by show (y 0).val / 8 < 256; omega, by show (y 0).val = 7 + 8 * ((y 0).val / 8); omega⟩
    | ⟨1, _⟩ => exact ⟨(y 1).val, h1, by show (y 1).val = 0 + 1 * (y 1).val; omega⟩

/-- So the stores leave `rowsOf` of the input's block. -/
theorem canon_rows (x : Vec F S256x1024 .f32) : View.canon (pieces x) = rowsOf x := by
  funext y
  refine View.canon_apply_of_pieces (rowsOf x) (pieces x) ?_ y (covered x y)
  intro p hp z
  simp only [pieces, List.mem_cons, List.not_mem_nil, or_false] at hp
  rcases hp with rfl | rfl | rfl | rfl | rfl | rfl | rfl | rfl
  · have h0 : (z 0).val < 256 := (z 0).isLt
    have h1 : (z 1).val < 128 := (z 1).isLt
    refine congrArg x (funext fun a => Fin.ext ?_)
    match a with
    | ⟨0, _⟩ => show 0 + 1 * (z 0).val = (7 + 8 * (z 0).val) / 8; omega
    | ⟨1, _⟩ => show 896 + 1 * (z 1).val = (7 + 8 * (z 0).val) % 8 * 128 + (0 + 1 * (z 1).val); omega
  · have h0 : (z 0).val < 256 := (z 0).isLt
    have h1 : (z 1).val < 128 := (z 1).isLt
    refine congrArg x (funext fun a => Fin.ext ?_)
    match a with
    | ⟨0, _⟩ => show 0 + 1 * (z 0).val = (6 + 8 * (z 0).val) / 8; omega
    | ⟨1, _⟩ => show 768 + 1 * (z 1).val = (6 + 8 * (z 0).val) % 8 * 128 + (0 + 1 * (z 1).val); omega
  · have h0 : (z 0).val < 256 := (z 0).isLt
    have h1 : (z 1).val < 128 := (z 1).isLt
    refine congrArg x (funext fun a => Fin.ext ?_)
    match a with
    | ⟨0, _⟩ => show 0 + 1 * (z 0).val = (5 + 8 * (z 0).val) / 8; omega
    | ⟨1, _⟩ => show 640 + 1 * (z 1).val = (5 + 8 * (z 0).val) % 8 * 128 + (0 + 1 * (z 1).val); omega
  · have h0 : (z 0).val < 256 := (z 0).isLt
    have h1 : (z 1).val < 128 := (z 1).isLt
    refine congrArg x (funext fun a => Fin.ext ?_)
    match a with
    | ⟨0, _⟩ => show 0 + 1 * (z 0).val = (4 + 8 * (z 0).val) / 8; omega
    | ⟨1, _⟩ => show 512 + 1 * (z 1).val = (4 + 8 * (z 0).val) % 8 * 128 + (0 + 1 * (z 1).val); omega
  · have h0 : (z 0).val < 256 := (z 0).isLt
    have h1 : (z 1).val < 128 := (z 1).isLt
    refine congrArg x (funext fun a => Fin.ext ?_)
    match a with
    | ⟨0, _⟩ => show 0 + 1 * (z 0).val = (3 + 8 * (z 0).val) / 8; omega
    | ⟨1, _⟩ => show 384 + 1 * (z 1).val = (3 + 8 * (z 0).val) % 8 * 128 + (0 + 1 * (z 1).val); omega
  · have h0 : (z 0).val < 256 := (z 0).isLt
    have h1 : (z 1).val < 128 := (z 1).isLt
    refine congrArg x (funext fun a => Fin.ext ?_)
    match a with
    | ⟨0, _⟩ => show 0 + 1 * (z 0).val = (2 + 8 * (z 0).val) / 8; omega
    | ⟨1, _⟩ => show 256 + 1 * (z 1).val = (2 + 8 * (z 0).val) % 8 * 128 + (0 + 1 * (z 1).val); omega
  · have h0 : (z 0).val < 256 := (z 0).isLt
    have h1 : (z 1).val < 128 := (z 1).isLt
    refine congrArg x (funext fun a => Fin.ext ?_)
    match a with
    | ⟨0, _⟩ => show 0 + 1 * (z 0).val = (1 + 8 * (z 0).val) / 8; omega
    | ⟨1, _⟩ => show 128 + 1 * (z 1).val = (1 + 8 * (z 0).val) % 8 * 128 + (0 + 1 * (z 1).val); omega
  · have h0 : (z 0).val < 256 := (z 0).isLt
    have h1 : (z 1).val < 128 := (z 1).isLt
    refine congrArg x (funext fun a => Fin.ext ?_)
    match a with
    | ⟨0, _⟩ => show 0 + 1 * (z 0).val = (0 + 8 * (z 0).val) / 8; omega
    | ⟨1, _⟩ => show 0 + 1 * (z 1).val = (0 + 8 * (z 0).val) % 8 * 128 + (0 + 1 * (z 1).val); omega

/-! ## The body's run -/

set_option maxHeartbeats 1000000 in
/-- The body on whole buffers runs and leaves the input as it was and `rowsOf` of it in the result's. -/
theorem sound_kernel (c : Dev nD) (E : Set ℕ) (i : grid0.Coords) (arg2 : Memref sig .tc .vmem S256x1024 .f32) (harg2 : arg2.IsWhole)
    (arg3 : Memref sig .tc .hbm S4096x128 .f32) (harg3 : arg3.IsWhole) (arg4 : Memref sig .tc .vmem S2048x128 .f32) (harg4 : arg4.IsWhole)
    (x0 : Vec F S256x1024 .f32) (K : PUnit → sProp 𝕄) :
    iprop(owns (c : Thread nD τ) arg2 fullShare x0 ∗ (∃ d, owns (c : Thread nD τ) arg4 fullShare d)
        ∗ (iprop(owns (c : Thread nD τ) arg2 fullShare x0 ∗ owns (c : Thread nD τ) arg4 fullShare (rowsOf x0)) -∗ K ⟨⟩))
      ⊢ wp frame (wpE (defs₀ (F := F)) Variants.none c none) E (cc0_kv_rows_sample i arg2 harg2 arg3 harg3 arg4 harg4) K := by
  sl_unfold [cc0_kv_rows_sample]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact (View.read_writes_eq_canon _ _ _ (covered _)).trans (canon_rows _)

/-! ## The whole call -/

/-- What is known of the buffers: the arrays as the call finds them, and after the body the input's block as read, the result's
    `rowsOf` of it. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => rowsOf (X0_0 m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = X0_0 m c t := by dsimp only [dats]
theorem after0_1 (c : Dev nD) (t : Fin cfg0.N) : (dats m 0 c).after 1 t = rowsOf (X0_0 m c t) := by dsimp only [dats]
theorem before0_0 (c : Dev nD) (t : Fin cfg0.N) (d) : (dats m 0 c).before 0 t d = X0_0 m c t :=
  before0_0_of m (dats m 0 c) (A_eq m c 0) (after0_0 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, after0_0, after0_1]
  iintro ⟨HΦ, Ho, ⟨%d0, H0⟩, ⟨%d1, H1⟩⟩
  iapply (sound_kernel c Set.univ (grid0.coords t) _ _ _ _ _ _ (X0_0 m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The call runs to its end, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

/-- The run with the result's array named, the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 1,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KvSampleIdeal.Body

end
-- ==== Proof.WinPromptIdealBody.lean ====
/-
  The call that writes the window rows of the prompts, in the ideal form: what its body leaves in the result's buffer,
  and from it the run of the whole call.

  A point reads a block of 512 rows of 4 times 128 columns and stores the columns 128·k … 128·k + 127 into the rows k,
  k + 4, k + 8, … of its block of 2048 rows of 128: row 4·i + k of the result's block is the k-th part of row i.
-/
module

public import proofs.«01_k».proof.Proof.Gen.WinPromptIdeal.Frame
public import Idealize.ShloMosaic.Lib.Pipeline.Value
public import Idealize.ShloMosaic.Lib.ValueLayout
public import Idealize.ShloMosaic.Lib.Claim

@[expose] public section

set_option maxRecDepth 16384

noncomputable section

namespace Cert.WinPromptIdeal.Body

open Cert.WinPromptIdeal Cert.WinPromptIdeal.Gen Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The result's block from the input's: row 4·i + k holds the columns 128·k … of row i. -/
def rowsOf (x : Vec F S512x512 .f32) : Vec F S2048x128 .f32 := fun y =>
  x (ix2 ⟨(y 0).val / 4, by have h : (y 0).val < 2048 := (y 0).isLt; show (y 0).val / 4 < 512; omega⟩
    ⟨(y 0).val % 4 * 128 + (y 1).val, by have h : (y 1).val < 128 := (y 1).isLt; show (y 0).val % 4 * 128 + (y 1).val < 512; omega⟩)

/-- Row 0 of every group of 4 rows of a block. -/
abbrev row0 : Rect S2048x128 := ⟨(⟨![0, 0], S512x128.size, ![4, 1], inb_S2048x128_S512x128_0_0_s_4_1⟩ : LoadRect S2048x128), spos_4_1⟩
/-- Columns 0 … 127 of the input's block. -/
abbrev col0 : Rect S512x512 := Rect.unit (s := S512x512) ![0, 0] S512x128.size inb_S512x512_S512x128_0_0
/-- Row 1 of every group of 4 rows of a block. -/
abbrev row1 : Rect S2048x128 := ⟨(⟨![1, 0], S512x128.size, ![4, 1], inb_S2048x128_S512x128_1_0_s_4_1⟩ : LoadRect S2048x128), spos_4_1⟩
/-- Columns 128 … 255 of the input's block. -/
abbrev col1 : Rect S512x512 := Rect.unit (s := S512x512) ![0, 128] S512x128.size inb_S512x512_S512x128_0_128
/-- Row 2 of every group of 4 rows of a block. -/
abbrev row2 : Rect S2048x128 := ⟨(⟨![2, 0], S512x128.size, ![4, 1], inb_S2048x128_S512x128_2_0_s_4_1⟩ : LoadRect S2048x128), spos_4_1⟩
/-- Columns 256 … 383 of the input's block. -/
abbrev col2 : Rect S512x512 := Rect.unit (s := S512x512) ![0, 256] S512x128.size inb_S512x512_S512x128_0_256
/-- Row 3 of every group of 4 rows of a block. -/
abbrev row3 : Rect S2048x128 := ⟨(⟨![3, 0], S512x128.size, ![4, 1], inb_S2048x128_S512x128_3_0_s_4_1⟩ : LoadRect S2048x128), spos_4_1⟩
/-- Columns 384 … 511 of the input's block. -/
abbrev col3 : Rect S512x512 := Rect.unit (s := S512x512) ![0, 384] S512x128.size inb_S512x512_S512x128_0_384

/-- The body's stores, the last one first. -/
abbrev pieces (x : Vec F S512x512 .f32) : List (View.Piece (Elt F) S2048x128 .f32) :=
  [⟨row3, View.ld x col3⟩, ⟨row2, View.ld x col2⟩, ⟨row1, View.ld x col1⟩, ⟨row0, View.ld x col0⟩]

/-- Stores k, with k below 4, reach every row. -/
theorem covered (x : Vec F S512x512 .f32) (y : S2048x128.Idx) : ∃ pc ∈ pieces x, y ∈ pc.1.set := by
  have h0 : (y 0).val < 2048 := (y 0).isLt
  have h1 : (y 1).val < 128 := (y 1).isLt
  have hk : (y 0).val % 4 < 4 := Nat.mod_lt _ (by decide)
  generalize hr : (y 0).val % 4 = r at hk
  rcases (by omega : r = 0 ∨ r = 1 ∨ r = 2 ∨ r = 3) with rfl | rfl | rfl | rfl
  · refine ⟨⟨row0, View.ld x col0⟩, by simp [pieces], ?_⟩
    rw [LoadRect.mem_set]
    intro a
    match a with
    | ⟨0, _⟩ => exact ⟨(y 0).val / 4, by show (y 0).val / 4 < 512; omega, by show (y 0).val = 0 + 4 * ((y 0).val / 4); omega⟩
    | ⟨1, _⟩ => exact ⟨(y 1).val, h1, by show (y 1).val = 0 + 1 * (y 1).val; omega⟩
  · refine ⟨⟨row1, View.ld x col1⟩, by simp [pieces], ?_⟩
    rw [LoadRect.mem_set]
    intro a
    match a with
    | ⟨0, _⟩ => exact ⟨(y 0).val / 4, by show (y 0).val / 4 < 512; omega, by show (y 0).val = 1 + 4 * ((y 0).val / 4); omega⟩
    | ⟨1, _⟩ => exact ⟨(y 1).val, h1, by show (y 1).val = 0 + 1 * (y 1).val; omega⟩
  · refine ⟨⟨row2, View.ld x col2⟩, by simp [pieces], ?_⟩
    rw [LoadRect.mem_set]
    intro a
    match a with
    | ⟨0, _⟩ => exact ⟨(y 0).val / 4, by show (y 0).val / 4 < 512; omega, by show (y 0).val = 2 + 4 * ((y 0).val / 4); omega⟩
    | ⟨1, _⟩ => exact ⟨(y 1).val, h1, by show (y 1).val = 0 + 1 * (y 1).val; omega⟩
  · refine ⟨⟨row3, View.ld x col3⟩, by simp [pieces], ?_⟩
    rw [LoadRect.mem_set]
    intro a
    match a with
    | ⟨0, _⟩ => exact ⟨(y 0).val / 4, by show (y 0).val / 4 < 512; omega, by show (y 0).val = 3 + 4 * ((y 0).val / 4); omega⟩
    | ⟨1, _⟩ => exact ⟨(y 1).val, h1, by show (y 1).val = 0 + 1 * (y 1).val; omega⟩

/-- So the stores leave `rowsOf` of the input's block. -/
theorem canon_rows (x : Vec F S512x512 .f32) : View.canon (pieces x) = rowsOf x := by
  funext y
  refine View.canon_apply_of_pieces (rowsOf x) (pieces x) ?_ y (covered x y)
  intro p hp z
  simp only [pieces, List.mem_cons, List.not_mem_nil, or_false] at hp
  rcases hp with rfl | rfl | rfl | rfl
  · have h0 : (z 0).val < 512 := (z 0).isLt
    have h1 : (z 1).val < 128 := (z 1).isLt
    refine congrArg x (funext fun a => Fin.ext ?_)
    match a with
    | ⟨0, _⟩ => show 0 + 1 * (z 0).val = (3 + 4 * (z 0).val) / 4; omega
    | ⟨1, _⟩ => show 384 + 1 * (z 1).val = (3 + 4 * (z 0).val) % 4 * 128 + (0 + 1 * (z 1).val); omega
  · have h0 : (z 0).val < 512 := (z 0).isLt
    have h1 : (z 1).val < 128 := (z 1).isLt
    refine congrArg x (funext fun a => Fin.ext ?_)
    match a with
    | ⟨0, _⟩ => show 0 + 1 * (z 0).val = (2 + 4 * (z 0).val) / 4; omega
    | ⟨1, _⟩ => show 256 + 1 * (z 1).val = (2 + 4 * (z 0).val) % 4 * 128 + (0 + 1 * (z 1).val); omega
  · have h0 : (z 0).val < 512 := (z 0).isLt
    have h1 : (z 1).val < 128 := (z 1).isLt
    refine congrArg x (funext fun a => Fin.ext ?_)
    match a with
    | ⟨0, _⟩ => show 0 + 1 * (z 0).val = (1 + 4 * (z 0).val) / 4; omega
    | ⟨1, _⟩ => show 128 + 1 * (z 1).val = (1 + 4 * (z 0).val) % 4 * 128 + (0 + 1 * (z 1).val); omega
  · have h0 : (z 0).val < 512 := (z 0).isLt
    have h1 : (z 1).val < 128 := (z 1).isLt
    refine congrArg x (funext fun a => Fin.ext ?_)
    match a with
    | ⟨0, _⟩ => show 0 + 1 * (z 0).val = (0 + 4 * (z 0).val) / 4; omega
    | ⟨1, _⟩ => show 0 + 1 * (z 1).val = (0 + 4 * (z 0).val) % 4 * 128 + (0 + 1 * (z 1).val); omega

/-! ## The body's run -/

set_option maxHeartbeats 1000000 in
/-- The body on whole buffers runs and leaves the input as it was and `rowsOf` of it in the result's. -/
theorem sound_kernel (c : Dev nD) (E : Set ℕ) (i : grid0.Coords) (arg2 : Memref sig .tc .vmem S512x512 .f32) (harg2 : arg2.IsWhole)
    (arg3 : Memref sig .tc .hbm S8192x128 .f32) (harg3 : arg3.IsWhole) (arg4 : Memref sig .tc .vmem S2048x128 .f32) (harg4 : arg4.IsWhole)
    (x0 : Vec F S512x512 .f32) (K : PUnit → sProp 𝕄) :
    iprop(owns (c : Thread nD τ) arg2 fullShare x0 ∗ (∃ d, owns (c : Thread nD τ) arg4 fullShare d)
        ∗ (iprop(owns (c : Thread nD τ) arg2 fullShare x0 ∗ owns (c : Thread nD τ) arg4 fullShare (rowsOf x0)) -∗ K ⟨⟩))
      ⊢ wp frame (wpE (defs₀ (F := F)) Variants.none c none) E (cc0_win_rows_prompt i arg2 harg2 arg3 harg3 arg4 harg4) K := by
  sl_unfold [cc0_win_rows_prompt]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact (View.read_writes_eq_canon _ _ _ (covered _)).trans (canon_rows _)

/-! ## The whole call -/

/-- What is known of the buffers: the arrays as the call finds them, and after the body the input's block as read, the result's
    `rowsOf` of it. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => rowsOf (X0_0 m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = X0_0 m c t := by dsimp only [dats]
theorem after0_1 (c : Dev nD) (t : Fin cfg0.N) : (dats m 0 c).after 1 t = rowsOf (X0_0 m c t) := by dsimp only [dats]
theorem before0_0 (c : Dev nD) (t : Fin cfg0.N) (d) : (dats m 0 c).before 0 t d = X0_0 m c t :=
  before0_0_of m (dats m 0 c) (A_eq m c 0) (after0_0 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, after0_0, after0_1]
  iintro ⟨HΦ, Ho, ⟨%d0, H0⟩, ⟨%d1, H1⟩⟩
  iapply (sound_kernel c Set.univ (grid0.coords t) _ _ _ _ _ _ (X0_0 m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The call runs to its end, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

/-- The run with the result's array named, the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 1,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.WinPromptIdeal.Body

end
-- ==== Proof.FfnUp.lean ====
/-
  The feed-forward block's way up, `silu(xf @ w_gate[1]) * (xf @ w_up[1])`.

  The kernel runs over the columns and, within a group of columns, over the rows; it turns the group's weights to the
  narrow format at the group's first point and keeps them for the other points. `kept` says what it keeps, by induction
  over the points. `spec` writes the mathematics down. `kernel_value` shows that the kernel leaves `spec` of its
  arguments in the result array, `reference_value` that the plain program does.
-/
module

public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pointwise
public import Idealize.ShloMosaic.Lib.Claim

@[expose] public section

noncomputable section

open Idealize.ShloMosaic Idealize.ShloMosaic.TcCoe Idealize.SL.Sem
open Idealize.ShloMosaic.Pipeline (Dat)

namespace Cert.FfnUpIdeal.Math

open Cert.FfnUpIdeal Cert.FfnUpIdeal.Gen

/-- The result, entry by entry: the gated product of the two projections. -/
def spec (x : S8448x2048.Idx → EReal) (wg wu : S2x2048x5632.Idx → EReal) : S8448x5632.Idx → EReal :=
  fun i => (∑ k : Fin 2048, x (ix2 (i 0) k) * wg (ix3 1 k (i 1)))
    * Ideal.logistic (∑ k : Fin 2048, x (ix2 (i 0) k) * wg (ix3 1 k (i 1)))
    * ∑ k : Fin 2048, x (ix2 (i 0) k) * wu (ix3 1 k (i 1))

/-- Layer 1's weights in the column group of point `n`. -/
def panel (w : S2x2048x5632.Idx → EReal) (n : Nat) (hn : n < cfg0.N) : S2048x512.Idx → EReal :=
  fun y => w (ix3 1 (y 0) ⟨n / 11 * 512 + (y 1).val, by
    have h : n < 121 := hn
    have h1 : (y 1).val < 512 := (y 1).isLt
    omega⟩)

/-- The body's last stored value at an entry of the block. -/
theorem pay_apply (x0 : Vec Ideal S768x2048 .bf16) (x1 x2 : Vec Ideal S2048x512 .bf16) (j : S768x512.Idx) :
    k0_pay3 x0 x1 x2 j = (∑ k : Fin 2048, x0 (ix2 (j 0) k) * x1 (ix2 k (j 1)))
      * Ideal.logistic (∑ k : Fin 2048, x0 (ix2 (j 0) k) * x1 (ix2 k (j 1)))
      * ∑ k : Fin 2048, x0 (ix2 (j 0) k) * x2 (ix2 k (j 1)) := by
  pointwise [k0_pay3]

/-- The same with the block's row and the weights' columns named. -/
theorem pay_named (x0 : Vec Ideal S768x2048 .bf16) (x1 x2 : Vec Ideal S2048x512 .bf16) (j : S768x512.Idx)
    (X W U : Fin 2048 → EReal) (hX : ∀ k, x0 (ix2 (j 0) k) = X k) (hW : ∀ k, x1 (ix2 k (j 1)) = W k)
    (hU : ∀ k, x2 (ix2 k (j 1)) = U k) :
    k0_pay3 x0 x1 x2 j = (∑ k, X k * W k) * Ideal.logistic (∑ k, X k * W k) * ∑ k, X k * U k := by
  rw [pay_apply]
  simp only [hX, hW, hU]

variable (m : (ℓ : Loc nD τ sig) → Buf (Elt Ideal) ℓ) (ρ : Dev nD → PrngReg)

/-- The gate's weights as the kernel finds them: both layers' rows one under the other, layer 1's from row 2048 on. -/
theorem gate_weights_apply (c : Dev nD) (k : Fin 2048) (n : Fin 5632) :
    (V m c main_v0 : S4096x5632.Idx → EReal) (ix2 ⟨2048 + k.val, by omega⟩ n)
      = (m ((c : Thread nD τ).loc main_arg1) : S2x2048x5632.Idx → EReal) (ix3 1 k n) := by
  have e : V m c main_v0 = shapeCast (α := EReal) S4096x5632
      (m ((c : Thread nD τ).loc main_arg1)) shapeCasts_S2x2048x5632_S4096x5632 := by
    unfold_abbrev_sides
    after_results <;> rfl
  rw [e]
  refine shapeCast_apply _ shapeCasts_S2x2048x5632_S4096x5632 (ix2 ⟨2048 + k.val, by omega⟩ n) (ix3 1 k n) ?_
  rewrite [Shape.rowMajor_val_three, Shape.rowMajor_val_two]
  show (1 * 2048 + k.val) * 5632 + n.val = (2048 + k.val) * 5632 + n.val
  omega

/-- The other weights likewise. -/
theorem up_weights_apply (c : Dev nD) (k : Fin 2048) (n : Fin 5632) :
    (V m c main_v1 : S4096x5632.Idx → EReal) (ix2 ⟨2048 + k.val, by omega⟩ n)
      = (m ((c : Thread nD τ).loc main_arg2) : S2x2048x5632.Idx → EReal) (ix3 1 k n) := by
  have e : V m c main_v1 = shapeCast (α := EReal) S4096x5632
      (m ((c : Thread nD τ).loc main_arg2)) shapeCasts_S2x2048x5632_S4096x5632 := by
    unfold_abbrev_sides
    after_results <;> rfl
  rw [e]
  refine shapeCast_apply _ shapeCasts_S2x2048x5632_S4096x5632 (ix2 ⟨2048 + k.val, by omega⟩ n) (ix3 1 k n) ?_
  rewrite [Shape.rowMajor_val_three, Shape.rowMajor_val_two]
  show (1 * 2048 + k.val) * 5632 + n.val = (2048 + k.val) * 5632 + n.val
  omega

/-- How the blocks of the arrays move together over the grid. -/
theorem idx_facts : ∀ t : Fin cfg0.N, win0_0.index t (0 : Fin 2) = win0_3.index t (0 : Fin 2) ∧ win0_0.index t (1 : Fin 2) = 0
    ∧ win0_1.index t (0 : Fin 2) = 1 ∧ win0_1.index t (1 : Fin 2) = t.val / 11
    ∧ win0_2.index t (0 : Fin 2) = 1 ∧ win0_2.index t (1 : Fin 2) = t.val / 11
    ∧ win0_3.index t (1 : Fin 2) = t.val / 11 :=
  (by decide +kernel : ∀ t : Fin grid0.N, _)

theorem pay1_apply (x : Vec Ideal S2048x512 .f32) (y : S2048x512.Idx) : k0_pay1 x y = x y := by
  pointwise [k0_pay1]

theorem pay2_apply (x : Vec Ideal S2048x512 .f32) (y : S2048x512.Idx) : k0_pay2 x y = x y := by
  pointwise [k0_pay2]

/-- What the body keeps of window 1's block at point `t`: column group `t / 11` of layer 1's weights. -/
theorem kept1 (c : Dev nD) (t : Fin cfg0.N) : k0_pay1 (iblk m c 1 t)
    = panel (m ((c : Thread nD τ).loc main_arg1)) t.val t.isLt := by
  obtain ⟨-, -, e0, e1, f0, f1, -⟩ := idx_facts t
  funext y
  refine (pay1_apply _ y).trans ?_
  · refine Eq.trans ?_ (gate_weights_apply m c (y 0) _)
    show V m c main_v0 (((cfg0.win 1).blk t).view.emb y) = _
    congr 1
    funext a; apply Fin.ext
    match a with
    | ⟨0, _⟩ => show win0_1.index t (0 : Fin 2) * 2048 + 1 * (y 0).val = 2048 + (y 0).val; rw [e0]; omega
    | ⟨1, _⟩ => show win0_1.index t (1 : Fin 2) * 512 + 1 * (y 1).val = t.val / 11 * 512 + (y 1).val; rw [e1]; omega

/-- What the body keeps of window 2's block at point `t`: column group `t / 11` of layer 1's weights. -/
theorem kept2 (c : Dev nD) (t : Fin cfg0.N) : k0_pay2 (iblk m c 2 t)
    = panel (m ((c : Thread nD τ).loc main_arg2)) t.val t.isLt := by
  obtain ⟨-, -, e0, e1, f0, f1, -⟩ := idx_facts t
  funext y
  refine (pay2_apply _ y).trans ?_
  · refine Eq.trans ?_ (up_weights_apply m c (y 0) _)
    show V m c main_v1 (((cfg0.win 2).blk t).view.emb y) = _
    congr 1
    funext a; apply Fin.ext
    match a with
    | ⟨0, _⟩ => show win0_2.index t (0 : Fin 2) * 2048 + 1 * (y 0).val = 2048 + (y 0).val; rw [f0]; omega
    | ⟨1, _⟩ => show win0_2.index t (1 : Fin 2) * 512 + 1 * (y 1).val = t.val / 11 * 512 + (y 1).val; rw [f1]; omega

theorem hz : (![0, 0] : Fin 2 → Nat) = fun _ => 0 := funext fun a => by fin_cases a <;> rfl

/-- At the first point of a column group the body keeps the group's gate weights, -/
theorem first_kept0 (c : Dev nD) (t : Fin cfg0.N) (h0 : t.val % 11 = 0) :
    (outsAt0 m c t.val t.isLt).2.1 = k0_pay1 (iblk m c 1 t) := by
  rw [outsAt0_A m c t h0]
  dsimp only
  unfold sout0_A_0
  rw [View.read_writes_eq_canon _ _ _ (scover0_A_0 c _ _ _ _ _ _ _ _ _ _ _ _ _ _ _ _ _)]
  unfold kernelRun0_A
  dsimp only
  sl_unfold_words
  rw [View.canon_unit_zero hz]
  simp only [View.readAt_eq_ld, (hs0_1 t).read_unread]
  rw [View.ld_unit_zero hz]

/-- the group's other weights, -/
theorem first_kept1 (c : Dev nD) (t : Fin cfg0.N) (h0 : t.val % 11 = 0) :
    (outsAt0 m c t.val t.isLt).2.2 = k0_pay2 (iblk m c 2 t) := by
  rw [outsAt0_A m c t h0]
  dsimp only
  unfold sout0_A_1
  rw [View.read_writes_eq_canon _ _ _ (scover0_A_1 c _ _ _ _ _ _ _ _ _ _ _ _ _ _ _ _ _)]
  unfold kernelRun0_A
  dsimp only
  sl_unfold_words
  rw [View.canon_unit_zero hz]
  simp only [View.readAt_eq_ld, (hs0_2 t).read_unread]
  rw [View.ld_unit_zero hz]

/-- and stores the product with both. -/
theorem first_out (c : Dev nD) (t : Fin cfg0.N) (h0 : t.val % 11 = 0) :
    (outsAt0 m c t.val t.isLt).1 = k0_pay3 (iblk m c 0 t) (k0_pay1 (iblk m c 1 t)) (k0_pay2 (iblk m c 2 t)) := by
  rw [outsAt0_A m c t h0]
  dsimp only
  unfold out0_A_3
  rw [View.read_writes_eq_canon _ _ _ (cover0_A_3 c _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread]
  rw [View.readCov_unit_zero _ hz, View.readCov_unit_zero _ hz]
  iterate 3 rw [View.ld_unit_zero hz]

/-- At the group's other points it stores the product with the weights the point before left. -/
theorem later_out (c : Dev nD) (t : Fin cfg0.N) (h0 : ¬t.val % 11 = 0) :
    (outsAt0 m c t.val t.isLt).1 = k0_pay3 (iblk m c 0 t)
      (outsAt0 m c (t.val - 1) (Nat.lt_of_le_of_lt (Nat.sub_le _ _) t.isLt)).2.1
      (outsAt0 m c (t.val - 1) (Nat.lt_of_le_of_lt (Nat.sub_le _ _) t.isLt)).2.2 := by
  rw [outsAt0_B m c t h0]
  dsimp only
  unfold out0_B_3
  rw [View.read_writes_eq_canon _ _ _ (cover0_B_3 c _ _ _ _ _ _ _ _ _ _ _ _ _ _ _ _ _ _ _)]
  unfold kernelRun0_B
  dsimp only
  sl_unfold_words
  rw [View.canon_unit_zero hz]
  simp only [View.readAt_eq_ld, (hs0_0 t).read_unread, (Memref.isWhole_whole _).read_unread]
  iterate 3 rw [View.ld_unit_zero hz]

/-- After every point the kept weights are those of the point's column group. -/
theorem kept (c : Dev nD) : ∀ (n : Nat) (hn : n < cfg0.N),
    (outsAt0 m c n hn).2.1 = panel (m ((c : Thread nD τ).loc main_arg1)) n hn
      ∧ (outsAt0 m c n hn).2.2 = panel (m ((c : Thread nD τ).loc main_arg2)) n hn := by
  intro n
  induction n with
  | zero =>
    intro hn
    exact ⟨(first_kept0 m c ⟨0, hn⟩ rfl).trans (kept1 m c ⟨0, hn⟩), (first_kept1 m c ⟨0, hn⟩ rfl).trans (kept2 m c ⟨0, hn⟩)⟩
  | succ n ih =>
    intro hn
    by_cases h0 : (n + 1) % 11 = 0
    · exact ⟨(first_kept0 m c ⟨n + 1, hn⟩ h0).trans (kept1 m c ⟨n + 1, hn⟩),
        (first_kept1 m c ⟨n + 1, hn⟩ h0).trans (kept2 m c ⟨n + 1, hn⟩)⟩
    · have same : ∀ w : S2x2048x5632.Idx → EReal, panel w n (Nat.lt_of_succ_lt hn) = panel w (n + 1) hn := by
        intro w
        funext y
        unfold panel
        congr 2
        apply Fin.ext
        show n / 11 * 512 + (y 1).val = (n + 1) / 11 * 512 + (y 1).val
        omega
      obtain ⟨i0, i1⟩ := ih (Nat.lt_of_succ_lt hn)
      have hB := outsAt0_B m c ⟨n + 1, hn⟩ h0
      exact ⟨(congrArg (fun s => s.2.1) hB).trans (i0.trans (same _)), (congrArg (fun s => s.2.2) hB).trans (i1.trans (same _))⟩

/-- So the stored block is always the product with the weights of the point's column group. -/
theorem out_eq (c : Dev nD) (t : Fin cfg0.N) : (outsAt0 m c t.val t.isLt).1
    = k0_pay3 (iblk m c 0 t) (panel (m ((c : Thread nD τ).loc main_arg1)) t.val t.isLt)
      (panel (m ((c : Thread nD τ).loc main_arg2)) t.val t.isLt) := by
  by_cases h0 : t.val % 11 = 0
  · rw [first_out m c t h0, kept1, kept2]
  · have hk := kept m c t.val t.isLt
    rw [outsAt0_B m c t h0] at hk
    rw [later_out m c t h0]
    exact congrArg₂ (k0_pay3 (iblk m c 0 t)) hk.1 hk.2

/-- The result of the whole call on device `c`. -/
abbrev G (c : Dev nD) : Buf (Elt Ideal) ((c : Thread nD τ).loc main_v2) :=
  spec (m ((c : Thread nD τ).loc main_arg0)) (m ((c : Thread nD τ).loc main_arg1)) (m ((c : Thread nD τ).loc main_arg2))

/-- What point `t` writes back is its block of `G`. -/
theorem flushed_eq (c : Dev nD) (t : Fin cfg0.N) :
    (dats m 0 c).flushed 3 t = ((cfg0.win 3).blk t).view.read (Elt Ideal) (G m c) := by
  rw [Value.flushed3, out_eq]
  obtain ⟨a0, a1, -, -, -, -, b1⟩ := idx_facts t
  funext y
  have rows : ∀ k : Fin 2048, iblk m c 0 t (ix2 (y 0) k) = (m ((c : Thread nD τ).loc main_arg0) : S8448x2048.Idx → EReal)
      (ix2 (((cfg0.win 3).blk t).view.emb y 0) k) := by
    intro k
    show V m c main_arg0 (((cfg0.win 0).blk t).view.emb (ix2 (y 0) k)) = _
    rw [V_main_arg0]
    congr 1
    funext a; apply Fin.ext
    match a with
    | ⟨0, _⟩ => show win0_0.index t (0 : Fin 2) * 768 + 1 * (y 0).val = win0_3.index t (0 : Fin 2) * 768 + 1 * (y 0).val; rw [a0]
    | ⟨1, _⟩ => show win0_0.index t (1 : Fin 2) * 2048 + 1 * k.val = k.val; rw [a1]; omega
  have cols : ∀ (w : S2x2048x5632.Idx → EReal) (k : Fin 2048), panel w t.val t.isLt (ix2 k (y 1))
      = w (ix3 1 k (((cfg0.win 3).blk t).view.emb y 1)) := by
    intro w k
    unfold panel
    refine congrArg (fun n : Fin 5632 => w (ix3 1 k n)) (Fin.ext ?_)
    show t.val / 11 * 512 + (y 1).val = win0_3.index t (1 : Fin 2) * 512 + 1 * (y 1).val
    rw [b1]; omega
  show k0_pay3 (iblk m c 0 t) (panel (m ((c : Thread nD τ).loc main_arg1)) t.val t.isLt)
      (panel (m ((c : Thread nD τ).loc main_arg2)) t.val t.isLt) y = G m c (((cfg0.win 3).blk t).view.emb y)
  exact pay_named _ _ _ y _ _ _ rows (cols _) (cols _)

/-- Every block of the result is some point's. -/
theorem idx_onto : ∀ (p : Fin 11) (q : Fin 11), ∃ t : Fin cfg0.N, win0_3.index t (0 : Fin 2) = p.val ∧ win0_3.index t (1 : Fin 2) = q.val :=
  (by decide +kernel : ∀ (p : Fin 11) (q : Fin 11), ∃ t : Fin grid0.N, win0_3.index t (0 : Fin 2) = p.val ∧ win0_3.index t (1 : Fin 2) = q.val)

/-- An entry of the result lies in point `t`'s block when each coordinate lies in the block's range. -/
theorem mem_blk (t : Fin cfg0.N) (i : S8448x5632.Idx) :
    i ∈ ((cfg0.win 3).blk t).view.set ↔ ∀ a : Fin 2, win0_3.index t a * S768x512.size a ≤ (i a).val ∧ (i a).val < win0_3.index t a * S768x512.size a + S768x512.size a := by
  show i ∈ ((View.whole main_v2).slice (win0_3.rect t)).set ↔ _
  rw [View.set_slice_whole, Rect.mem_set_unit]
  exact Iff.rfl

/-- The blocks fill the result. -/
theorem cover (i : S8448x5632.Idx) :
    ∃ t : Fin cfg0.N, (cfg0.win 3).flush t = true ∧ i ∈ ((cfg0.win 3).blk t).view.set := by
  have h0 : (i 0).val < 8448 := (i 0).isLt
  have h1 : (i 1).val < 5632 := (i 1).isLt
  obtain ⟨t, e0, e1⟩ := idx_onto ⟨(i 0).val / 768, by omega⟩ ⟨(i 1).val / 512, by omega⟩
  refine ⟨t, flush0_3 t, (mem_blk t i).2 fun a => ?_⟩
  match a with
  | ⟨0, _⟩ => show win0_3.index t (0 : Fin 2) * 768 ≤ (i 0).val ∧ (i 0).val < win0_3.index t (0 : Fin 2) * 768 + 768; dsimp only at e0; omega
  | ⟨1, _⟩ => show win0_3.index t (1 : Fin 2) * 512 ≤ (i 1).val ∧ (i 1).val < win0_3.index t (1 : Fin 2) * 512 + 512; dsimp only at e1; omega

/-- The kernel's result array ends holding `spec` of its arguments. -/
theorem kernel_value (c : Dev nD) : (dats m 0 c).arrAt 3 cfg0.N = G m c :=
  (dats m 0 c).arrAt_eq_of_cover 3 (G m c) (fun t _ => flushed_eq m c t) cover

end Cert.FfnUpIdeal.Math

namespace Cert.FfnUpRefIdeal.Math

open Cert.FfnUpRefIdeal Cert.FfnUpRefIdeal.Read

/-- The plain program's gate is the logistic function of its argument. -/
theorem gate_apply (x : EReal) :
    FloatOps.hostDivf (F := Ideal) (φ := .f32) (FloatOps.ofBits .f32 0x3F800000#32)
      (FloatOps.addf (F := Ideal) (φ := .f32) (FloatOps.ofBits .f32 0x3F800000#32)
        (FloatOps.hostUnary (F := Ideal) (φ := .f32) .exp (FloatOps.hostNegf (F := Ideal) (φ := .f32) x)))
      = Ideal.logistic x := by
  show Ideal.div (Ideal.ofBits .f32 0x3F800000#32) (Ideal.ofBits .f32 0x3F800000#32 + Ideal.exp (-x)) = _
  rw [Ideal.ofBits_one_f32]
  rfl

/-- The gate's projection at an entry. -/
theorem gate_dot (x0 : S8448x2048.Idx → EReal) (x1 : S2x2048x5632.Idx → EReal) (i : S8448x5632.Idx) :
    val_main_v2 (F := Ideal) x0 x1 i = ∑ k : Fin 2048, x0 (ix2 (i 0) k) * x1 (ix3 1 k (i 1)) := by
  rw [val_main_v2_apply]
  refine Finset.sum_congr rfl fun k _ => ?_
  rw [val_main_v1_apply, val_main_v0_apply]
  congr 2
  · funext a; match a with
    | ⟨0, _⟩ => rfl
    | ⟨1, _⟩ => rfl
  · funext a; apply Fin.ext
    have hk := k.isLt
    have hi : (i 1).val < 5632 := (i 1).isLt
    match a with
    | ⟨0, _⟩ => rfl
    | ⟨1, _⟩ => show (k.val * 5632 + (i 1).val) / 5632 % 2048 = k.val; omega
    | ⟨2, _⟩ => show (k.val * 5632 + (i 1).val) % 5632 = (i 1).val; omega

/-- The other projection at an entry. -/
theorem up_dot (x0 : S8448x2048.Idx → EReal) (x2 : S2x2048x5632.Idx → EReal) (i : S8448x5632.Idx) :
    val_main_v6 (F := Ideal) x0 x2 i = ∑ k : Fin 2048, x0 (ix2 (i 0) k) * x2 (ix3 1 k (i 1)) := by
  rw [val_main_v6_apply]
  refine Finset.sum_congr rfl fun k _ => ?_
  rw [val_main_v5_apply, val_main_v4_apply]
  congr 2
  · funext a; match a with
    | ⟨0, _⟩ => rfl
    | ⟨1, _⟩ => rfl
  · funext a; apply Fin.ext
    have hk := k.isLt
    have hi : (i 1).val < 5632 := (i 1).isLt
    match a with
    | ⟨0, _⟩ => rfl
    | ⟨1, _⟩ => show (k.val * 5632 + (i 1).val) / 5632 % 2048 = k.val; omega
    | ⟨2, _⟩ => show (k.val * 5632 + (i 1).val) % 5632 = (i 1).val; omega

/-- The plain program's result is `spec` of its arguments. -/
theorem reference_value (x0 : S8448x2048.Idx → EReal) (x1 x2 : S2x2048x5632.Idx → EReal) :
    val_main_v8 (F := Ideal) x0 x1 x2 = Cert.FfnUpIdeal.Math.spec x0 x1 x2 := by
  funext i
  rw [val_main_v8_apply, val_main_v7_apply, val_main_v3_apply, val_main_call0_v5_apply, val_main_call0_v4_apply,
    val_main_call0_cst_0_apply, val_main_call0_v3_apply, val_main_call0_v2_apply, val_main_call0_cst_apply,
    val_main_call0_v1_apply, val_main_call0_v0_apply, up_dot, gate_dot]
  exact congrArg (· * _) (congrArg (_ * ·) (gate_apply _))

end Cert.FfnUpRefIdeal.Math

end
-- ==== Proof.FfnDown.lean ====
/-
  The feed-forward block's second multiplication, `h + act @ w_down[1]`.

  `spec` writes the mathematics down: each entry of the result is the residual's entry plus the sum over the 5632
  hidden features. `kernel_value` shows that the tiled kernel leaves `spec` of its arguments in the result array,
  `reference_value` that the plain program does.
-/
module

public import proofs.«01_k».proof.Proof.Gen.FfnDownIdeal.Value
public import proofs.«01_k».proof.Proof.Gen.FfnDownRefIdeal.Run
public import proofs.«01_k».proof.Proof.Gen.FfnDownRefIdeal.Read
public import Idealize.ShloMosaic.Lib.Pointwise
public import Idealize.ShloMosaic.Lib.Claim

@[expose] public section

noncomputable section

open Idealize.ShloMosaic Idealize.ShloMosaic.TcCoe Idealize.SL.Sem
open Idealize.ShloMosaic.Pipeline (Dat)

namespace Cert.FfnDownIdeal.Math

open Cert.FfnDownIdeal Cert.FfnDownIdeal.Gen

/-- The result, entry by entry: the residual plus the product of the activations with the second layer's weights. -/
def spec (act : S8448x5632.Idx → EReal) (w : S2x5632x2048.Idx → EReal) (h : S8448x2048.Idx → EReal) :
    S8448x2048.Idx → EReal :=
  fun i => h i + ∑ k : Fin 5632, act (ix2 (i 0) k) * w (ix3 1 k (i 1))

/-- The body's one stored value at an entry of the block. -/
theorem pay_apply (x0 : Vec Ideal S768x5632 .bf16) (x1 : Vec Ideal S5632x1024 .bf16) (x2 : Vec Ideal S768x1024 .f32)
    (j : S768x1024.Idx) :
    k0_pay1 x0 x1 x2 j = x2 j + ∑ k : Fin 5632, x0 (ix2 (j 0) k) * x1 (ix2 k (j 1)) := by
  pointwise [k0_pay1]

variable (m : (ℓ : Loc nD τ sig) → Buf (Elt Ideal) ℓ) (ρ : Dev nD → PrngReg)

/-- The weights as the kernel finds them: layer 1 of the array, the format change having no effect on the value. -/
theorem weights_apply (c : Dev nD) (k : Fin 5632) (n : Fin 2048) :
    (V m c main_v2 : S5632x2048.Idx → EReal) (ix2 k n)
      = (m ((c : Thread nD τ).loc main_arg1) : S2x5632x2048.Idx → EReal) (ix3 1 k n) := by
  have e : V m c main_v2 = truncf (F := Ideal) .bf16 (shapeCast S5632x2048 (extractStridedSlice (α := EReal) S1x5632x2048 ![1, 0, 0]
      (m ((c : Thread nD τ).loc main_arg1)) slices_S2x5632x2048_S1x5632x2048_1_0_0)
      shapeCasts_S1x5632x2048_S5632x2048) bitsLt_bf16_f32 := by
    unfold_abbrev_sides
    after_results <;> rfl
  rw [e]
  pointwise

/-- The result of the whole call on device `c`. -/
abbrev G (c : Dev nD) : Buf (Elt Ideal) ((c : Thread nD τ).loc main_v3) :=
  spec (m ((c : Thread nD τ).loc main_arg0)) (m ((c : Thread nD τ).loc main_arg1)) (m ((c : Thread nD τ).loc main_arg2))

/-- How the blocks of the four arrays move together over the grid. -/
theorem idx_facts : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = win0_3.index t (0 : Fin 2) ∧ win0_2.index t (1 : Fin 2) = win0_3.index t (1 : Fin 2) :=
  (by decide +kernel : ∀ t : Fin grid0.N, _)

/-- Every block of the result is some point's. -/
theorem idx_onto : ∀ (p : Fin 11) (q : Fin 2), ∃ t : Fin cfg0.N, win0_3.index t (0 : Fin 2) = p.val ∧ win0_3.index t (1 : Fin 2) = q.val :=
  (by decide +kernel : ∀ (p : Fin 11) (q : Fin 2), ∃ t : Fin grid0.N, win0_3.index t (0 : Fin 2) = p.val ∧ win0_3.index t (1 : Fin 2) = q.val)

theorem hz : (![0, 0] : Fin 2 → Nat) = fun _ => 0 := funext fun a => by fin_cases a <;> rfl

/-- What point `t` writes back is its block of `G`. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz, View.ld_unit_zero hz, View.ld_unit_zero hz, View.ld_unit_zero hz]
  obtain ⟨a0, a1, b0, b1, c0, c1⟩ := idx_facts t
  funext y
  have hy0 : (y 0).val < 768 := (y 0).isLt
  have hy1 : (y 1).val < 1024 := (y 1).isLt
  show k0_pay1 (iblk m c 0 t) (iblk m c 1 t) (iblk m c 2 t) y = G m c (((cfg0.win 3).blk t).view.emb y)
  refine (pay_apply _ _ _ y).trans ?_
  refine congrArg₂ (· + ·) ?_ (Finset.sum_congr rfl fun k _ => congrArg₂ (· * ·) ?_ ?_)
  · show V m c main_arg2 (((cfg0.win 2).blk t).view.emb y) = _
    rw [V_main_arg2]
    congr 1
    funext a; apply Fin.ext
    match a with
    | ⟨0, _⟩ => show win0_2.index t (0 : Fin 2) * 768 + 1 * (y 0).val = win0_3.index t (0 : Fin 2) * 768 + 1 * (y 0).val; rw [c0]
    | ⟨1, _⟩ => show win0_2.index t (1 : Fin 2) * 1024 + 1 * (y 1).val = win0_3.index t (1 : Fin 2) * 1024 + 1 * (y 1).val; rw [c1]
  · show V m c main_arg0 (((cfg0.win 0).blk t).view.emb (ix2 (y 0) k)) = _
    rw [V_main_arg0]
    congr 1
    funext a; apply Fin.ext
    match a with
    | ⟨0, _⟩ => show win0_0.index t (0 : Fin 2) * 768 + 1 * (y 0).val = win0_3.index t (0 : Fin 2) * 768 + 1 * (y 0).val; rw [a0]
    | ⟨1, _⟩ => show win0_0.index t (1 : Fin 2) * 5632 + 1 * k.val = k.val; rw [a1]; omega
  · refine Eq.trans ?_ (weights_apply m c k _)
    show V m c main_v2 (((cfg0.win 1).blk t).view.emb (ix2 k (y 1))) = _
    congr 1
    funext a; apply Fin.ext
    match a with
    | ⟨0, _⟩ => show win0_1.index t (0 : Fin 2) * 5632 + 1 * k.val = k.val; rw [b0]; omega
    | ⟨1, _⟩ => show win0_1.index t (1 : Fin 2) * 1024 + 1 * (y 1).val = win0_3.index t (1 : Fin 2) * 1024 + 1 * (y 1).val; rw [b1]

/-- An entry of the result lies in point `t`'s block when each coordinate lies in the block's range. -/
theorem mem_blk (t : Fin cfg0.N) (i : S8448x2048.Idx) :
    i ∈ ((cfg0.win 3).blk t).view.set ↔ ∀ a : Fin 2, win0_3.index t a * S768x1024.size a ≤ (i a).val ∧ (i a).val < win0_3.index t a * S768x1024.size a + S768x1024.size a := by
  show i ∈ ((View.whole main_v3).slice (win0_3.rect t)).set ↔ _
  rw [View.set_slice_whole, Rect.mem_set_unit]
  exact Iff.rfl

/-- The blocks fill the result. -/
theorem cover (i : S8448x2048.Idx) :
    ∃ t : Fin cfg0.N, (cfg0.win 3).flush t = true ∧ i ∈ ((cfg0.win 3).blk t).view.set := by
  have h0 : (i 0).val < 8448 := (i 0).isLt
  have h1 : (i 1).val < 2048 := (i 1).isLt
  obtain ⟨t, e0, e1⟩ := idx_onto ⟨(i 0).val / 768, by omega⟩ ⟨(i 1).val / 1024, by omega⟩
  refine ⟨t, flush0_3 t, (mem_blk t i).2 fun a => ?_⟩
  match a with
  | ⟨0, _⟩ => show win0_3.index t (0 : Fin 2) * 768 ≤ (i 0).val ∧ (i 0).val < win0_3.index t (0 : Fin 2) * 768 + 768; dsimp only at e0; omega
  | ⟨1, _⟩ => show win0_3.index t (1 : Fin 2) * 1024 ≤ (i 1).val ∧ (i 1).val < win0_3.index t (1 : Fin 2) * 1024 + 1024; dsimp only at e1; omega

/-- The kernel's result array ends holding `spec` of its arguments. -/
theorem kernel_value (c : Dev nD) : (dats m 0 c).arrAt 3 cfg0.N = G m c :=
  (dats m 0 c).arrAt_eq_of_cover 3 (G m c) (fun t _ => flushed_eq m c t) cover

end Cert.FfnDownIdeal.Math

namespace Cert.FfnDownRefIdeal.Math

open Cert.FfnDownRefIdeal Cert.FfnDownRefIdeal.Read

/-- The plain program's result is `spec` of its arguments. -/
theorem reference_value (x0 : S8448x5632.Idx → EReal) (x1 : S2x5632x2048.Idx → EReal) (x2 : S8448x2048.Idx → EReal) :
    val_main_v3 (F := Ideal) x0 x1 x2 = Cert.FfnDownIdeal.Math.spec x0 x1 x2 := by
  funext i
  rw [val_main_v3_apply, val_main_v2_apply]
  show _ = x2 i + ∑ k : Fin 5632, _
  refine congrArg (x2 i + ·) (Finset.sum_congr rfl fun k _ => ?_)
  rw [val_main_v1_apply, val_main_v0_apply]
  congr 2
  · funext a; match a with
    | ⟨0, _⟩ => rfl
    | ⟨1, _⟩ => rfl
  · funext a; apply Fin.ext
    have hk := k.isLt
    have hi : (i 1).val < 2048 := (i 1).isLt
    match a with
    | ⟨0, _⟩ => rfl
    | ⟨1, _⟩ => show (k.val * 2048 + (i 1).val) / 2048 % 5632 = k.val; omega
    | ⟨2, _⟩ => show (k.val * 2048 + (i 1).val) % 2048 = (i 1).val; omega

end Cert.FfnDownRefIdeal.Math

end
-- ==== Proof.InProj.lean ====
/-
  The layer's input projection, `xn @ w_in_t.T`, by far the widest multiplication of the layer.

  `spec` writes the mathematics down: each entry of the result is a row of the activations times a row of the
  transposed weights, summed over the 2048 features. `kernel_value` shows that the tiled kernel leaves `spec` of its
  arguments in the result array, `reference_value` that the plain program does.
-/
module

public import proofs.«01_k».proof.Proof.Gen.InProjIdeal.Value
public import proofs.«01_k».proof.Proof.Gen.InProjRefIdeal.Run
public import proofs.«01_k».proof.Proof.Gen.InProjRefIdeal.Read
public import Idealize.ShloMosaic.Lib.Pointwise
public import Idealize.ShloMosaic.Lib.Claim

@[expose] public section

noncomputable section

open Idealize.ShloMosaic Idealize.ShloMosaic.TcCoe Idealize.SL.Sem
open Idealize.ShloMosaic.Pipeline (Dat)

namespace Cert.InProjIdeal.Math

open Cert.InProjIdeal Cert.InProjIdeal.Gen

/-- The result, entry by entry: a row of the activations times a row of the transposed weights. -/
def spec (x : S8448x2048.Idx → EReal) (w : S12800x2048.Idx → EReal) : S8448x12800.Idx → EReal :=
  fun i => ∑ k : Fin 2048, x (ix2 (i 0) k) * w (ix2 (i 1) k)

/-- The body's one stored value at an entry of the block. -/
theorem pay_apply (x0 : Vec Ideal S768x2048 .bf16) (x1 : Vec Ideal S2560x2048 .bf16) (j : S768x2560.Idx) :
    k0_pay1 x0 x1 j = ∑ k : Fin 2048, x0 (ix2 (j 0) k) * x1 (ix2 (j 1) k) := by
  pointwise [k0_pay1]

variable (m : (ℓ : Loc nD τ sig) → Buf (Elt Ideal) ℓ) (ρ : Dev nD → PrngReg)

/-- The result of the whole call on device `c`. -/
abbrev G (c : Dev nD) : Buf (Elt Ideal) ((c : Thread nD τ).loc main_v0) :=
  spec (m ((c : Thread nD τ).loc main_arg0)) (m ((c : Thread nD τ).loc main_arg1))

/-- How the blocks of the three arrays move together over the grid. -/
theorem idx_facts : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

theorem hz : (![0, 0] : Fin 2 → Nat) = fun _ => 0 := funext fun a => by fin_cases a <;> rfl

/-- What point `t` writes back is its block of `G`. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  obtain ⟨a0, a1, b0, b1⟩ := idx_facts t
  funext y
  show k0_pay1 (iblk m c 0 t) (iblk m c 1 t) y = G m c (((cfg0.win 2).blk t).view.emb y)
  refine (pay_apply _ _ y).trans ?_
  refine Finset.sum_congr rfl fun k _ => congrArg₂ (· * ·) ?_ ?_
  · show m ((c : Thread nD τ).loc main_arg0) (((cfg0.win 0).blk t).view.emb (ix2 (y 0) k)) = _
    congr 1
    funext a; apply Fin.ext
    match a with
    | ⟨0, _⟩ => show win0_0.index t (0 : Fin 2) * 768 + 1 * (y 0).val = win0_2.index t (0 : Fin 2) * 768 + 1 * (y 0).val; rw [a0]
    | ⟨1, _⟩ => show win0_0.index t (1 : Fin 2) * 2048 + 1 * k.val = k.val; rw [a1]; omega
  · show m ((c : Thread nD τ).loc main_arg1) (((cfg0.win 1).blk t).view.emb (ix2 (y 1) k)) = _
    congr 1
    funext a; apply Fin.ext
    match a with
    | ⟨0, _⟩ => show win0_1.index t (0 : Fin 2) * 2560 + 1 * (y 1).val = win0_2.index t (1 : Fin 2) * 2560 + 1 * (y 1).val; rw [b0]
    | ⟨1, _⟩ => show win0_1.index t (1 : Fin 2) * 2048 + 1 * k.val = k.val; rw [b1]; omega

/-- Every block of the result is some point's. -/
theorem idx_onto : ∀ (p : Fin 11) (q : Fin 5), ∃ t : Fin cfg0.N, win0_2.index t (0 : Fin 2) = p.val ∧ win0_2.index t (1 : Fin 2) = q.val :=
  (by decide +kernel : ∀ (p : Fin 11) (q : Fin 5), ∃ t : Fin grid0.N, win0_2.index t (0 : Fin 2) = p.val ∧ win0_2.index t (1 : Fin 2) = q.val)

/-- An entry of the result lies in point `t`'s block when each coordinate lies in the block's range. -/
theorem mem_blk (t : Fin cfg0.N) (i : S8448x12800.Idx) :
    i ∈ ((cfg0.win 2).blk t).view.set ↔ ∀ a : Fin 2, win0_2.index t a * S768x2560.size a ≤ (i a).val ∧ (i a).val < win0_2.index t a * S768x2560.size a + S768x2560.size a := by
  show i ∈ ((View.whole main_v0).slice (win0_2.rect t)).set ↔ _
  rw [View.set_slice_whole, Rect.mem_set_unit]
  exact Iff.rfl

/-- The blocks fill the result. -/
theorem cover (i : S8448x12800.Idx) :
    ∃ t : Fin cfg0.N, (cfg0.win 2).flush t = true ∧ i ∈ ((cfg0.win 2).blk t).view.set := by
  have h0 : (i 0).val < 8448 := (i 0).isLt
  have h1 : (i 1).val < 12800 := (i 1).isLt
  obtain ⟨t, e0, e1⟩ := idx_onto ⟨(i 0).val / 768, by omega⟩ ⟨(i 1).val / 2560, by omega⟩
  refine ⟨t, flush0_2 t, (mem_blk t i).2 fun a => ?_⟩
  match a with
  | ⟨0, _⟩ => show win0_2.index t (0 : Fin 2) * 768 ≤ (i 0).val ∧ (i 0).val < win0_2.index t (0 : Fin 2) * 768 + 768; dsimp only at e0; omega
  | ⟨1, _⟩ => show win0_2.index t (1 : Fin 2) * 2560 ≤ (i 1).val ∧ (i 1).val < win0_2.index t (1 : Fin 2) * 2560 + 2560; dsimp only at e1; omega

/-- The kernel's result array ends holding `spec` of its arguments. -/
theorem kernel_value (c : Dev nD) : (dats m 0 c).arrAt 2 cfg0.N = G m c :=
  (dats m 0 c).arrAt_eq_of_cover 2 (G m c) (fun t _ => flushed_eq m c t) cover

end Cert.InProjIdeal.Math

namespace Cert.InProjRefIdeal.Math

open Cert.InProjRefIdeal Cert.InProjRefIdeal.Read

/-- The plain program's result is `spec` of its arguments. -/
theorem reference_value (x0 : S8448x2048.Idx → EReal) (x1 : S12800x2048.Idx → EReal) :
    val_main_v1 (F := Ideal) x0 x1 = Cert.InProjIdeal.Math.spec x0 x1 := by
  funext i
  rw [val_main_v1_apply]
  refine Finset.sum_congr rfl fun k _ => ?_
  rw [val_main_v0_apply]
  congr 2
  · funext a; match a with
    | ⟨0, _⟩ => rfl
    | ⟨1, _⟩ => rfl
  · funext a; match a with
    | ⟨0, _⟩ => rfl
    | ⟨1, _⟩ => rfl

end Cert.InProjRefIdeal.Math

end
-- ==== Proof.MixProj.lean ====
/-
  The gated mixing of the layer's three branches, `g_a * (ya @ w_pa[1]) + g_b * (yb @ w_pb[1]) + g_c * (yc @ w_pc[1])`
  with the gates `sigmoid` of three column ranges of the wide input projection.

  `spec` writes the mathematics down. `kernel_value` shows that the tiled kernel leaves `spec` of its arguments in the
  result array, `reference_value` that the plain program does.
-/
module

public import proofs.«01_k».proof.Proof.Gen.MixProjIdeal.Value
public import proofs.«01_k».proof.Proof.Gen.MixProjRefIdeal.Run
public import proofs.«01_k».proof.Proof.Gen.MixProjRefIdeal.Read
public import Idealize.ShloMosaic.Lib.Pointwise
public import Idealize.ShloMosaic.Lib.Claim

@[expose] public section

noncomputable section

open Idealize.ShloMosaic Idealize.ShloMosaic.TcCoe Idealize.SL.Sem
open Idealize.ShloMosaic.Pipeline (Dat)

namespace Cert.MixProjIdeal.Math

open Cert.MixProjIdeal Cert.MixProjIdeal.Gen

/-- Column `n` of the gate that starts at column `o` of the wide projection. -/
def gateCol (o : Nat) (h : o + 2048 ≤ 12800) (n : Fin 2048) : Fin 12800 := ⟨o + n.val, by omega⟩

/-- The result, entry by entry: the sum over the three branches of the gate times the branch's projection. -/
def spec (ya : S8448x1024.Idx → EReal) (yb yc : S8448x512.Idx → EReal) (wa : S2x1024x2048.Idx → EReal)
    (wb wc : S2x512x2048.Idx → EReal) (z : S8448x12800.Idx → EReal) : S8448x2048.Idx → EReal :=
  fun i => Ideal.logistic (z (ix2 (i 0) (gateCol 6144 (by decide) (i 1)))) * (∑ k : Fin 1024, ya (ix2 (i 0) k) * wa (ix3 1 k (i 1)))
    + Ideal.logistic (z (ix2 (i 0) (gateCol 8192 (by decide) (i 1)))) * (∑ k : Fin 512, yb (ix2 (i 0) k) * wb (ix3 1 k (i 1)))
    + Ideal.logistic (z (ix2 (i 0) (gateCol 10240 (by decide) (i 1)))) * (∑ k : Fin 512, yc (ix2 (i 0) k) * wc (ix3 1 k (i 1)))

/-- The body's one stored value at an entry of the block. -/
theorem pay_apply (x0 : Vec Ideal S768x1024 .f32) (x1 x2 : Vec Ideal S768x512 .f32) (x3 : Vec Ideal S1024x1024 .bf16)
    (x4 x5 : Vec Ideal S512x1024 .bf16) (x6 x7 x8 : Vec Ideal S768x1024 .f32) (j : S768x1024.Idx) :
    k0_pay1 x0 x1 x2 x3 x4 x5 x6 x7 x8 j
      = Ideal.logistic (x6 j) * (∑ k : Fin 1024, x0 (ix2 (j 0) k) * x3 (ix2 k (j 1)))
        + Ideal.logistic (x7 j) * (∑ k : Fin 512, x1 (ix2 (j 0) k) * x4 (ix2 k (j 1)))
        + Ideal.logistic (x8 j) * (∑ k : Fin 512, x2 (ix2 (j 0) k) * x5 (ix2 k (j 1))) := by
  pointwise [k0_pay1]

variable (m : (ℓ : Loc nD τ sig) → Buf (Elt Ideal) ℓ) (ρ : Dev nD → PrngReg)

/-- The first branch's weights as the kernel finds them: both layers' rows one under the other, layer 1's from row 1024 on. -/
theorem wa_apply (c : Dev nD) (k : Fin 1024) (n : Fin 2048) :
    (V m c main_v1 : S2048x2048.Idx → EReal) (ix2 ⟨1024 + k.val, by omega⟩ n)
      = (m ((c : Thread nD τ).loc main_arg3) : S2x1024x2048.Idx → EReal) (ix3 1 k n) := by
  have e : V m c main_v1 = truncf (F := Ideal) .bf16 (shapeCast (α := EReal) S2048x2048
      (m ((c : Thread nD τ).loc main_arg3)) shapeCasts_S2x1024x2048_S2048x2048) bitsLt_bf16_f32 := by
    unfold_abbrev_sides
    after_results <;> rfl
  rw [e]
  refine shapeCast_apply _ shapeCasts_S2x1024x2048_S2048x2048 (ix2 ⟨1024 + k.val, by omega⟩ n) (ix3 1 k n) ?_
  rewrite [Shape.rowMajor_val_three, Shape.rowMajor_val_two]
  show (1 * 1024 + k.val) * 2048 + n.val = (1024 + k.val) * 2048 + n.val
  omega

/-- The second branch's weights likewise, layer 1's from row 512 on. -/
theorem wb_apply (c : Dev nD) (k : Fin 512) (n : Fin 2048) :
    (V m c main_v3 : S1024x2048.Idx → EReal) (ix2 ⟨512 + k.val, by omega⟩ n)
      = (m ((c : Thread nD τ).loc main_arg4) : S2x512x2048.Idx → EReal) (ix3 1 k n) := by
  have e : V m c main_v3 = truncf (F := Ideal) .bf16 (shapeCast (α := EReal) S1024x2048
      (m ((c : Thread nD τ).loc main_arg4)) shapeCasts_S2x512x2048_S1024x2048) bitsLt_bf16_f32 := by
    unfold_abbrev_sides
    after_results <;> rfl
  rw [e]
  refine shapeCast_apply _ shapeCasts_S2x512x2048_S1024x2048 (ix2 ⟨512 + k.val, by omega⟩ n) (ix3 1 k n) ?_
  rewrite [Shape.rowMajor_val_three, Shape.rowMajor_val_two]
  show (1 * 512 + k.val) * 2048 + n.val = (512 + k.val) * 2048 + n.val
  omega

/-- The third branch's weights likewise. -/
theorem wc_apply (c : Dev nD) (k : Fin 512) (n : Fin 2048) :
    (V m c main_v5 : S1024x2048.Idx → EReal) (ix2 ⟨512 + k.val, by omega⟩ n)
      = (m ((c : Thread nD τ).loc main_arg5) : S2x512x2048.Idx → EReal) (ix3 1 k n) := by
  have e : V m c main_v5 = truncf (F := Ideal) .bf16 (shapeCast (α := EReal) S1024x2048
      (m ((c : Thread nD τ).loc main_arg5)) shapeCasts_S2x512x2048_S1024x2048) bitsLt_bf16_f32 := by
    unfold_abbrev_sides
    after_results <;> rfl
  rw [e]
  refine shapeCast_apply _ shapeCasts_S2x512x2048_S1024x2048 (ix2 ⟨512 + k.val, by omega⟩ n) (ix3 1 k n) ?_
  rewrite [Shape.rowMajor_val_three, Shape.rowMajor_val_two]
  show (1 * 512 + k.val) * 2048 + n.val = (512 + k.val) * 2048 + n.val
  omega

/-! How the blocks of the arrays move together over the grid. -/

theorem gate_facts6 : ∀ t : Fin cfg0.N, win0_6.index t (0 : Fin 2) = win0_9.index t (0 : Fin 2)
    ∧ win0_6.index t (1 : Fin 2) = 6 + win0_9.index t (1 : Fin 2) :=
  (by decide +kernel : ∀ t : Fin grid0.N, _)
theorem gate_facts7 : ∀ t : Fin cfg0.N, win0_7.index t (0 : Fin 2) = win0_9.index t (0 : Fin 2)
    ∧ win0_7.index t (1 : Fin 2) = 8 + win0_9.index t (1 : Fin 2) :=
  (by decide +kernel : ∀ t : Fin grid0.N, _)
theorem gate_facts8 : ∀ t : Fin cfg0.N, win0_8.index t (0 : Fin 2) = win0_9.index t (0 : Fin 2)
    ∧ win0_8.index t (1 : Fin 2) = 10 + win0_9.index t (1 : Fin 2) :=
  (by decide +kernel : ∀ t : Fin grid0.N, _)
theorem lhs_facts0 : ∀ t : Fin cfg0.N, win0_0.index t (0 : Fin 2) = win0_9.index t (0 : Fin 2) ∧ win0_0.index t (1 : Fin 2) = 0 :=
  (by decide +kernel : ∀ t : Fin grid0.N, _)
theorem lhs_facts1 : ∀ t : Fin cfg0.N, win0_1.index t (0 : Fin 2) = win0_9.index t (0 : Fin 2) ∧ win0_1.index t (1 : Fin 2) = 0 :=
  (by decide +kernel : ∀ t : Fin grid0.N, _)
theorem lhs_facts2 : ∀ t : Fin cfg0.N, win0_2.index t (0 : Fin 2) = win0_9.index t (0 : Fin 2) ∧ win0_2.index t (1 : Fin 2) = 0 :=
  (by decide +kernel : ∀ t : Fin grid0.N, _)
theorem rhs_facts3 : ∀ t : Fin cfg0.N, win0_3.index t (0 : Fin 2) = 1 ∧ win0_3.index t (1 : Fin 2) = win0_9.index t (1 : Fin 2) :=
  (by decide +kernel : ∀ t : Fin grid0.N, _)
theorem rhs_facts4 : ∀ t : Fin cfg0.N, win0_4.index t (0 : Fin 2) = 1 ∧ win0_4.index t (1 : Fin 2) = win0_9.index t (1 : Fin 2) :=
  (by decide +kernel : ∀ t : Fin grid0.N, _)
theorem rhs_facts5 : ∀ t : Fin cfg0.N, win0_5.index t (0 : Fin 2) = 1 ∧ win0_5.index t (1 : Fin 2) = win0_9.index t (1 : Fin 2) :=
  (by decide +kernel : ∀ t : Fin grid0.N, _)

/-- The gate block of window 6 at an entry: column 6144 and up of the wide projection. -/
theorem gate6_apply (c : Dev nD) (t : Fin cfg0.N) (y : S768x1024.Idx) :
    X0_6 m c t y = (m ((c : Thread nD τ).loc main_arg6) : S8448x12800.Idx → EReal)
      (ix2 (((cfg0.win 9).blk t).view.emb y 0) (gateCol 6144 (by decide) (((cfg0.win 9).blk t).view.emb y 1))) := by
  obtain ⟨e0, e1⟩ := gate_facts6 t
  unfold X0_6
  rw [Pipeline.Window.fill, dif_pos (moved0_6 t y)]
  show V m c main_arg6 (((cfg0.win 6).blk t).view.emb _) = _
  rw [V_main_arg6]
  congr 1
  funext a; apply Fin.ext
  match a with
  | ⟨0, _⟩ => show win0_6.index t (0 : Fin 2) * 768 + 1 * (y 0).val = win0_9.index t (0 : Fin 2) * 768 + 1 * (y 0).val; rw [e0]
  | ⟨1, _⟩ => show win0_6.index t (1 : Fin 2) * 1024 + 1 * (y 1).val = 6144 + (win0_9.index t (1 : Fin 2) * 1024 + 1 * (y 1).val); rw [e1]; omega

/-- The gate block of window 7 at an entry: column 8192 and up of the wide projection. -/
theorem gate7_apply (c : Dev nD) (t : Fin cfg0.N) (y : S768x1024.Idx) :
    X0_7 m c t y = (m ((c : Thread nD τ).loc main_arg6) : S8448x12800.Idx → EReal)
      (ix2 (((cfg0.win 9).blk t).view.emb y 0) (gateCol 8192 (by decide) (((cfg0.win 9).blk t).view.emb y 1))) := by
  obtain ⟨e0, e1⟩ := gate_facts7 t
  unfold X0_7
  rw [Pipeline.Window.fill, dif_pos (moved0_7 t y)]
  show V m c main_arg6 (((cfg0.win 7).blk t).view.emb _) = _
  rw [V_main_arg6]
  congr 1
  funext a; apply Fin.ext
  match a with
  | ⟨0, _⟩ => show win0_7.index t (0 : Fin 2) * 768 + 1 * (y 0).val = win0_9.index t (0 : Fin 2) * 768 + 1 * (y 0).val; rw [e0]
  | ⟨1, _⟩ => show win0_7.index t (1 : Fin 2) * 1024 + 1 * (y 1).val = 8192 + (win0_9.index t (1 : Fin 2) * 1024 + 1 * (y 1).val); rw [e1]; omega

/-- The gate block of window 8 at an entry: column 10240 and up of the wide projection. -/
theorem gate8_apply (c : Dev nD) (t : Fin cfg0.N) (y : S768x1024.Idx) :
    X0_8 m c t y = (m ((c : Thread nD τ).loc main_arg6) : S8448x12800.Idx → EReal)
      (ix2 (((cfg0.win 9).blk t).view.emb y 0) (gateCol 10240 (by decide) (((cfg0.win 9).blk t).view.emb y 1))) := by
  obtain ⟨e0, e1⟩ := gate_facts8 t
  unfold X0_8
  rw [Pipeline.Window.fill, dif_pos (moved0_8 t y)]
  show V m c main_arg6 (((cfg0.win 8).blk t).view.emb _) = _
  rw [V_main_arg6]
  congr 1
  funext a; apply Fin.ext
  match a with
  | ⟨0, _⟩ => show win0_8.index t (0 : Fin 2) * 768 + 1 * (y 0).val = win0_9.index t (0 : Fin 2) * 768 + 1 * (y 0).val; rw [e0]
  | ⟨1, _⟩ => show win0_8.index t (1 : Fin 2) * 1024 + 1 * (y 1).val = 10240 + (win0_9.index t (1 : Fin 2) * 1024 + 1 * (y 1).val); rw [e1]; omega

/-- The result of the whole call on device `c`. -/
abbrev G (c : Dev nD) : Buf (Elt Ideal) ((c : Thread nD τ).loc main_v6) :=
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem hz : (![0, 0] : Fin 2 → Nat) = fun _ => 0 := funext fun a => by fin_cases a <;> rfl

/-- What the body leaves in the result's block at point `t`: its one stored value of the point's blocks. -/
theorem outsAt_eq (c : Dev nD) (t : Fin cfg0.N) :
    outsAt0 m c t = k0_pay1 (iblk m c 0 t) (iblk m c 1 t) (iblk m c 2 t) (iblk m c 3 t) (iblk m c 4 t) (iblk m c 5 t)
      (X0_6 m c t) (X0_7 m c t) (X0_8 m c t) := by
  unfold outsAt0 out0_A_9
  rw [View.read_writes_eq_canon _ _ _ (cover0_A_9 c _ _ _ _ _ _ _ _ _ _ _ _ _ _ _ _ _ _ _ _ _ _ _ _ _ _ _ _ _ _)]
  unfold kernelRun0_A
  dsimp only
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread]
  iterate 9 rw [View.ld_unit_zero hz]

/-- What point `t` writes back is its block of `G`. -/
theorem flushed_eq (c : Dev nD) (t : Fin cfg0.N) :
    (dats m 0 c).flushed 9 t = ((cfg0.win 9).blk t).view.read (Elt Ideal) (G m c) := by
  rw [Value.flushed9, outsAt_eq]
  funext y
  show k0_pay1 (iblk m c 0 t) (iblk m c 1 t) (iblk m c 2 t) (iblk m c 3 t) (iblk m c 4 t) (iblk m c 5 t)
      (X0_6 m c t) (X0_7 m c t) (X0_8 m c t) y = G m c (((cfg0.win 9).blk t).view.emb y)
  refine (pay_apply _ _ _ _ _ _ _ _ _ y).trans ?_
  refine congrArg₂ (· + ·) (congrArg₂ (· + ·) (congrArg₂ (· * ·) (congrArg Ideal.logistic ?_) (Finset.sum_congr rfl fun k _ => congrArg₂ (· * ·) ?_ ?_))
    (congrArg₂ (· * ·) (congrArg Ideal.logistic ?_) (Finset.sum_congr rfl fun k _ => congrArg₂ (· * ·) ?_ ?_)))
    (congrArg₂ (· * ·) (congrArg Ideal.logistic ?_) (Finset.sum_congr rfl fun k _ => congrArg₂ (· * ·) ?_ ?_))
  · exact gate6_apply m c t y
  · show V m c main_arg0 (((cfg0.win 0).blk t).view.emb (ix2 (y 0) k)) = _
    rw [V_main_arg0]
    congr 1
    obtain ⟨f0, f1⟩ := lhs_facts0 t
    funext a; apply Fin.ext
    match a with
    | ⟨0, _⟩ => show win0_0.index t (0 : Fin 2) * 768 + 1 * (y 0).val = win0_9.index t (0 : Fin 2) * 768 + 1 * (y 0).val; rw [f0]
    | ⟨1, _⟩ => show win0_0.index t (1 : Fin 2) * 1024 + 1 * k.val = k.val; rw [f1]; omega
  · refine Eq.trans ?_ (wa_apply m c k _)
    show V m c main_v1 (((cfg0.win 3).blk t).view.emb (ix2 k (y 1))) = _
    congr 1
    obtain ⟨f0, f1⟩ := rhs_facts3 t
    funext a; apply Fin.ext
    match a with
    | ⟨0, _⟩ => show win0_3.index t (0 : Fin 2) * 1024 + 1 * k.val = 1024 + k.val; rw [f0]; omega
    | ⟨1, _⟩ => show win0_3.index t (1 : Fin 2) * 1024 + 1 * (y 1).val = win0_9.index t (1 : Fin 2) * 1024 + 1 * (y 1).val; rw [f1]
  · exact gate7_apply m c t y
  · show V m c main_arg1 (((cfg0.win 1).blk t).view.emb (ix2 (y 0) k)) = _
    rw [V_main_arg1]
    congr 1
    obtain ⟨f0, f1⟩ := lhs_facts1 t
    funext a; apply Fin.ext
    match a with
    | ⟨0, _⟩ => show win0_1.index t (0 : Fin 2) * 768 + 1 * (y 0).val = win0_9.index t (0 : Fin 2) * 768 + 1 * (y 0).val; rw [f0]
    | ⟨1, _⟩ => show win0_1.index t (1 : Fin 2) * 512 + 1 * k.val = k.val; rw [f1]; omega
  · refine Eq.trans ?_ (wb_apply m c k _)
    show V m c main_v3 (((cfg0.win 4).blk t).view.emb (ix2 k (y 1))) = _
    congr 1
    obtain ⟨f0, f1⟩ := rhs_facts4 t
    funext a; apply Fin.ext
    match a with
    | ⟨0, _⟩ => show win0_4.index t (0 : Fin 2) * 512 + 1 * k.val = 512 + k.val; rw [f0]; omega
    | ⟨1, _⟩ => show win0_4.index t (1 : Fin 2) * 1024 + 1 * (y 1).val = win0_9.index t (1 : Fin 2) * 1024 + 1 * (y 1).val; rw [f1]
  · exact gate8_apply m c t y
  · show V m c main_arg2 (((cfg0.win 2).blk t).view.emb (ix2 (y 0) k)) = _
    rw [V_main_arg2]
    congr 1
    obtain ⟨f0, f1⟩ := lhs_facts2 t
    funext a; apply Fin.ext
    match a with
    | ⟨0, _⟩ => show win0_2.index t (0 : Fin 2) * 768 + 1 * (y 0).val = win0_9.index t (0 : Fin 2) * 768 + 1 * (y 0).val; rw [f0]
    | ⟨1, _⟩ => show win0_2.index t (1 : Fin 2) * 512 + 1 * k.val = k.val; rw [f1]; omega
  · refine Eq.trans ?_ (wc_apply m c k _)
    show V m c main_v5 (((cfg0.win 5).blk t).view.emb (ix2 k (y 1))) = _
    congr 1
    obtain ⟨f0, f1⟩ := rhs_facts5 t
    funext a; apply Fin.ext
    match a with
    | ⟨0, _⟩ => show win0_5.index t (0 : Fin 2) * 512 + 1 * k.val = 512 + k.val; rw [f0]; omega
    | ⟨1, _⟩ => show win0_5.index t (1 : Fin 2) * 1024 + 1 * (y 1).val = win0_9.index t (1 : Fin 2) * 1024 + 1 * (y 1).val; rw [f1]

/-- Every block of the result is some point's. -/
theorem idx_onto : ∀ (p : Fin 11) (q : Fin 2), ∃ t : Fin cfg0.N, win0_9.index t (0 : Fin 2) = p.val ∧ win0_9.index t (1 : Fin 2) = q.val :=
  (by decide +kernel : ∀ (p : Fin 11) (q : Fin 2), ∃ t : Fin grid0.N, win0_9.index t (0 : Fin 2) = p.val ∧ win0_9.index t (1 : Fin 2) = q.val)

/-- An entry of the result lies in point `t`'s block when each coordinate lies in the block's range. -/
theorem mem_blk (t : Fin cfg0.N) (i : S8448x2048.Idx) :
    i ∈ ((cfg0.win 9).blk t).view.set ↔ ∀ a : Fin 2, win0_9.index t a * S768x1024.size a ≤ (i a).val ∧ (i a).val < win0_9.index t a * S768x1024.size a + S768x1024.size a := by
  show i ∈ ((View.whole main_v6).slice (win0_9.rect t)).set ↔ _
  rw [View.set_slice_whole, Rect.mem_set_unit]
  exact Iff.rfl

/-- The blocks fill the result. -/
theorem cover (i : S8448x2048.Idx) :
    ∃ t : Fin cfg0.N, (cfg0.win 9).flush t = true ∧ i ∈ ((cfg0.win 9).blk t).view.set := by
  have h0 : (i 0).val < 8448 := (i 0).isLt
  have h1 : (i 1).val < 2048 := (i 1).isLt
  obtain ⟨t, e0, e1⟩ := idx_onto ⟨(i 0).val / 768, by omega⟩ ⟨(i 1).val / 1024, by omega⟩
  refine ⟨t, flush0_9 t, (mem_blk t i).2 fun a => ?_⟩
  match a with
  | ⟨0, _⟩ => show win0_9.index t (0 : Fin 2) * 768 ≤ (i 0).val ∧ (i 0).val < win0_9.index t (0 : Fin 2) * 768 + 768; dsimp only at e0; omega
  | ⟨1, _⟩ => show win0_9.index t (1 : Fin 2) * 1024 ≤ (i 1).val ∧ (i 1).val < win0_9.index t (1 : Fin 2) * 1024 + 1024; dsimp only at e1; omega

/-- The kernel's result array ends holding `spec` of its arguments. -/
theorem kernel_value (c : Dev nD) : (dats m 0 c).arrAt 9 cfg0.N = G m c :=
  (dats m 0 c).arrAt_eq_of_cover 9 (G m c) (fun t _ => flushed_eq m c t) cover

end Cert.MixProjIdeal.Math

namespace Cert.MixProjRefIdeal.Math

open Cert.MixProjRefIdeal Cert.MixProjRefIdeal.Read

/-- The plain program's gate is the logistic function of its argument. -/
theorem gate_apply (x : EReal) :
    FloatOps.hostDivf (F := Ideal) (φ := .f32) (FloatOps.ofBits .f32 0x3F800000#32)
      (FloatOps.addf (F := Ideal) (φ := .f32) (FloatOps.ofBits .f32 0x3F800000#32)
        (FloatOps.hostUnary (F := Ideal) (φ := .f32) .exp (FloatOps.hostNegf (F := Ideal) (φ := .f32) x)))
      = Ideal.logistic x := by
  show Ideal.div (Ideal.ofBits .f32 0x3F800000#32) (Ideal.ofBits .f32 0x3F800000#32 + Ideal.exp (-x)) = _
  rw [Ideal.ofBits_one_f32]
  rfl

/-- The gate of the plain program at an entry. -/
theorem gate_v7_apply (x6 : S8448x12800.Idx → EReal) (i : S8448x2048.Idx) :
    val_main_v7 (F := Ideal) x6 i = Ideal.logistic (x6 (ix2 (i 0) (Cert.MixProjIdeal.Math.gateCol 6144 (by decide) (i 1)))) := by
  rw [val_main_v7_apply, val_main_v6_apply, val_main_v5_apply, val_main_v4_apply, val_main_v3_apply,
    val_main_v2_apply, val_main_v1_apply, val_main_v0_apply]
  refine (gate_apply _).trans (congrArg Ideal.logistic (congrArg x6 ?_))
  funext a; apply Fin.ext
  match a with
  | ⟨0, _⟩ => rfl
  | ⟨1, _⟩ => show 6144 + (i 1).val = 6144 + (i 1).val; omega

/-- The gate of the plain program at an entry. -/
theorem gate_v8_apply (x6 : S8448x12800.Idx → EReal) (i : S8448x2048.Idx) :
    val_main_v8 (F := Ideal) x6 i = Ideal.logistic (x6 (ix2 (i 0) (Cert.MixProjIdeal.Math.gateCol 8192 (by decide) (i 1)))) := by
  rw [val_main_v8_apply, val_main_v6_apply, val_main_v5_apply, val_main_v4_apply, val_main_v3_apply,
    val_main_v2_apply, val_main_v1_apply, val_main_v0_apply]
  refine (gate_apply _).trans (congrArg Ideal.logistic (congrArg x6 ?_))
  funext a; apply Fin.ext
  match a with
  | ⟨0, _⟩ => rfl
  | ⟨1, _⟩ => show 6144 + (2048 + (i 1).val) = 8192 + (i 1).val; omega

/-- The gate of the plain program at an entry. -/
theorem gate_v9_apply (x6 : S8448x12800.Idx → EReal) (i : S8448x2048.Idx) :
    val_main_v9 (F := Ideal) x6 i = Ideal.logistic (x6 (ix2 (i 0) (Cert.MixProjIdeal.Math.gateCol 10240 (by decide) (i 1)))) := by
  rw [val_main_v9_apply, val_main_v6_apply, val_main_v5_apply, val_main_v4_apply, val_main_v3_apply,
    val_main_v2_apply, val_main_v1_apply, val_main_v0_apply]
  refine (gate_apply _).trans (congrArg Ideal.logistic (congrArg x6 ?_))
  funext a; apply Fin.ext
  match a with
  | ⟨0, _⟩ => rfl
  | ⟨1, _⟩ => show 6144 + (4096 + (i 1).val) = 10240 + (i 1).val; omega

/-- The plain program's result is `spec` of its arguments. -/
theorem reference_value (x0 : S8448x1024.Idx → EReal) (x1 x2 : S8448x512.Idx → EReal) (x3 : S2x1024x2048.Idx → EReal)
    (x4 x5 : S2x512x2048.Idx → EReal) (x6 : S8448x12800.Idx → EReal) :
    val_main_v24 (F := Ideal) x0 x1 x2 x3 x4 x5 x6 = Cert.MixProjIdeal.Math.spec x0 x1 x2 x3 x4 x5 x6 := by
  funext i
  rw [val_main_v24_apply, val_main_v23_apply, val_main_v18_apply, val_main_v13_apply, val_main_v17_apply, val_main_v22_apply,
    val_main_v12_apply, val_main_v16_apply, val_main_v21_apply, gate_v7_apply, gate_v8_apply, gate_v9_apply]
  refine congrArg₂ (· + ·) (congrArg₂ (· + ·) (congrArg (_ * ·) (Finset.sum_congr rfl fun k _ => ?_))
    (congrArg (_ * ·) (Finset.sum_congr rfl fun k _ => ?_))) (congrArg (_ * ·) (Finset.sum_congr rfl fun k _ => ?_))
  · rw [val_main_v11_apply, val_main_v10_apply]
    congr 2
    · funext a; match a with
      | ⟨0, _⟩ => rfl
      | ⟨1, _⟩ => rfl
    · funext a; apply Fin.ext
      have hk := k.isLt
      have hi : (i 1).val < 2048 := (i 1).isLt
      match a with
      | ⟨0, _⟩ => rfl
      | ⟨1, _⟩ => show (k.val * 2048 + (i 1).val) / 2048 % 1024 = k.val; omega
      | ⟨2, _⟩ => show (k.val * 2048 + (i 1).val) % 2048 = (i 1).val; omega
  · rw [val_main_v15_apply, val_main_v14_apply]
    congr 2
    · funext a; match a with
      | ⟨0, _⟩ => rfl
      | ⟨1, _⟩ => rfl
    · funext a; apply Fin.ext
      have hk := k.isLt
      have hi : (i 1).val < 2048 := (i 1).isLt
      match a with
      | ⟨0, _⟩ => rfl
      | ⟨1, _⟩ => show (k.val * 2048 + (i 1).val) / 2048 % 512 = k.val; omega
      | ⟨2, _⟩ => show (k.val * 2048 + (i 1).val) % 2048 = (i 1).val; omega
  · rw [val_main_v20_apply, val_main_v19_apply]
    congr 2
    · funext a; match a with
      | ⟨0, _⟩ => rfl
      | ⟨1, _⟩ => rfl
    · funext a; apply Fin.ext
      have hk := k.isLt
      have hi : (i 1).val < 2048 := (i 1).isLt
      match a with
      | ⟨0, _⟩ => rfl
      | ⟨1, _⟩ => show (k.val * 2048 + (i 1).val) / 2048 % 512 = k.val; omega
      | ⟨2, _⟩ => show (k.val * 2048 + (i 1).val) % 2048 = (i 1).val; omega

end Cert.MixProjRefIdeal.Math

end
-- ==== Proof.OutProj.lean ====
/-
  The output projection of the mixed branches, `h + mixed @ w_o[1]`.

  `spec` writes the mathematics down: each entry of the result is the residual's entry plus a row of the mixed branches
  times a column of layer 1's weights. `kernel_value` shows that the tiled kernel leaves `spec` of its arguments in the
  result array, `reference_value` that the plain program does.
-/
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pointwise
public import Idealize.ShloMosaic.Lib.Claim

@[expose] public section

noncomputable section

open Idealize.ShloMosaic Idealize.ShloMosaic.TcCoe Idealize.SL.Sem
open Idealize.ShloMosaic.Pipeline (Dat)

namespace Cert.OutProjIdeal.Math

open Cert.OutProjIdeal Cert.OutProjIdeal.Gen

/-- The result, entry by entry: the residual plus the product with layer 1's weights. -/
def spec (x : S8448x2048.Idx → EReal) (w : S2x2048x2048.Idx → EReal) (h : S8448x2048.Idx → EReal) :
    S8448x2048.Idx → EReal :=
  fun i => h i + ∑ k : Fin 2048, x (ix2 (i 0) k) * w (ix3 1 k (i 1))

/-- The body's one stored value at an entry of the block. -/
theorem pay_apply (x0 : Vec Ideal S768x2048 .bf16) (x1 : Vec Ideal S2048x2048 .bf16) (x2 : Vec Ideal S768x2048 .f32)
    (j : S768x2048.Idx) :
    k0_pay1 x0 x1 x2 j = x2 j + ∑ k : Fin 2048, x0 (ix2 (j 0) k) * x1 (ix2 k (j 1)) := by
  pointwise [k0_pay1]

variable (m : (ℓ : Loc nD τ sig) → Buf (Elt Ideal) ℓ) (ρ : Dev nD → PrngReg)

/-- The weights as the kernel finds them: both layers' rows one under the other, layer 1's from row 2048 on. -/
theorem weights_apply (c : Dev nD) (k : Fin 2048) (n : Fin 2048) :
    (V m c main_v1 : S4096x2048.Idx → EReal) (ix2 ⟨2048 + k.val, by omega⟩ n)
      = (m ((c : Thread nD τ).loc main_arg1) : S2x2048x2048.Idx → EReal) (ix3 1 k n) := by
  have e : V m c main_v1 = truncf (F := Ideal) .bf16 (shapeCast (α := EReal) S4096x2048
      (m ((c : Thread nD τ).loc main_arg1)) shapeCasts_S2x2048x2048_S4096x2048) bitsLt_bf16_f32 := by
    unfold_abbrev_sides
    after_results <;> rfl
  rw [e]
  refine shapeCast_apply _ shapeCasts_S2x2048x2048_S4096x2048 (ix2 ⟨2048 + k.val, by omega⟩ n) (ix3 1 k n) ?_
  rewrite [Shape.rowMajor_val_three, Shape.rowMajor_val_two]
  show (1 * 2048 + k.val) * 2048 + n.val = (2048 + k.val) * 2048 + n.val
  omega

/-- The result of the whole call on device `c`. -/
abbrev G (c : Dev nD) : Buf (Elt Ideal) ((c : Thread nD τ).loc main_v2) :=
  spec (m ((c : Thread nD τ).loc main_arg0)) (m ((c : Thread nD τ).loc main_arg1)) (m ((c : Thread nD τ).loc main_arg2))

/-- How the blocks of the four arrays move together over the grid. -/
theorem idx_facts : ∀ t : Fin cfg0.N, win0_0.index t (0 : Fin 2) = win0_3.index t (0 : Fin 2) ∧ win0_0.index t (1 : Fin 2) = 0
    ∧ win0_1.index t (0 : Fin 2) = 1 ∧ win0_1.index t (1 : Fin 2) = win0_3.index t (1 : Fin 2)
    ∧ win0_2.index t (0 : Fin 2) = win0_3.index t (0 : Fin 2) ∧ win0_2.index t (1 : Fin 2) = win0_3.index t (1 : Fin 2) :=
  (by decide +kernel : ∀ t : Fin grid0.N, _)

theorem hz : (![0, 0] : Fin 2 → Nat) = fun _ => 0 := funext fun a => by fin_cases a <;> rfl

/-- What point `t` writes back is its block of `G`. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz, View.ld_unit_zero hz, View.ld_unit_zero hz, View.ld_unit_zero hz]
  obtain ⟨a0, a1, b0, b1, c0, c1⟩ := idx_facts t
  funext y
  show k0_pay1 (iblk m c 0 t) (iblk m c 1 t) (iblk m c 2 t) y = G m c (((cfg0.win 3).blk t).view.emb y)
  refine (pay_apply _ _ _ y).trans ?_
  refine congrArg₂ (· + ·) ?_ (Finset.sum_congr rfl fun k _ => congrArg₂ (· * ·) ?_ ?_)
  · show V m c main_arg2 (((cfg0.win 2).blk t).view.emb y) = _
    rw [V_main_arg2]
    congr 1
    funext a; apply Fin.ext
    match a with
    | ⟨0, _⟩ => show win0_2.index t (0 : Fin 2) * 768 + 1 * (y 0).val = win0_3.index t (0 : Fin 2) * 768 + 1 * (y 0).val; rw [c0]
    | ⟨1, _⟩ => show win0_2.index t (1 : Fin 2) * 2048 + 1 * (y 1).val = win0_3.index t (1 : Fin 2) * 2048 + 1 * (y 1).val; rw [c1]
  · show V m c main_arg0 (((cfg0.win 0).blk t).view.emb (ix2 (y 0) k)) = _
    rw [V_main_arg0]
    congr 1
    funext a; apply Fin.ext
    match a with
    | ⟨0, _⟩ => show win0_0.index t (0 : Fin 2) * 768 + 1 * (y 0).val = win0_3.index t (0 : Fin 2) * 768 + 1 * (y 0).val; rw [a0]
    | ⟨1, _⟩ => show win0_0.index t (1 : Fin 2) * 2048 + 1 * k.val = k.val; rw [a1]; omega
  · refine Eq.trans ?_ (weights_apply m c k _)
    show V m c main_v1 (((cfg0.win 1).blk t).view.emb (ix2 k (y 1))) = _
    congr 1
    funext a; apply Fin.ext
    match a with
    | ⟨0, _⟩ => show win0_1.index t (0 : Fin 2) * 2048 + 1 * k.val = 2048 + k.val; rw [b0]; omega
    | ⟨1, _⟩ => show win0_1.index t (1 : Fin 2) * 2048 + 1 * (y 1).val = win0_3.index t (1 : Fin 2) * 2048 + 1 * (y 1).val; rw [b1]

/-- Every block of the result is some point's. -/
theorem idx_onto : ∀ (p : Fin 11) (q : Fin 1), ∃ t : Fin cfg0.N, win0_3.index t (0 : Fin 2) = p.val ∧ win0_3.index t (1 : Fin 2) = q.val :=
  (by decide +kernel : ∀ (p : Fin 11) (q : Fin 1), ∃ t : Fin grid0.N, win0_3.index t (0 : Fin 2) = p.val ∧ win0_3.index t (1 : Fin 2) = q.val)

/-- An entry of the result lies in point `t`'s block when each coordinate lies in the block's range. -/
theorem mem_blk (t : Fin cfg0.N) (i : S8448x2048.Idx) :
    i ∈ ((cfg0.win 3).blk t).view.set ↔ ∀ a : Fin 2, win0_3.index t a * S768x2048.size a ≤ (i a).val ∧ (i a).val < win0_3.index t a * S768x2048.size a + S768x2048.size a := by
  show i ∈ ((View.whole main_v2).slice (win0_3.rect t)).set ↔ _
  rw [View.set_slice_whole, Rect.mem_set_unit]
  exact Iff.rfl

/-- The blocks fill the result. -/
theorem cover (i : S8448x2048.Idx) :
    ∃ t : Fin cfg0.N, (cfg0.win 3).flush t = true ∧ i ∈ ((cfg0.win 3).blk t).view.set := by
  have h0 : (i 0).val < 8448 := (i 0).isLt
  have h1 : (i 1).val < 2048 := (i 1).isLt
  obtain ⟨t, e0, e1⟩ := idx_onto ⟨(i 0).val / 768, by omega⟩ ⟨(i 1).val / 2048, by omega⟩
  refine ⟨t, flush0_3 t, (mem_blk t i).2 fun a => ?_⟩
  match a with
  | ⟨0, _⟩ => show win0_3.index t (0 : Fin 2) * 768 ≤ (i 0).val ∧ (i 0).val < win0_3.index t (0 : Fin 2) * 768 + 768; dsimp only at e0; omega
  | ⟨1, _⟩ => show win0_3.index t (1 : Fin 2) * 2048 ≤ (i 1).val ∧ (i 1).val < win0_3.index t (1 : Fin 2) * 2048 + 2048; dsimp only at e1; omega

/-- The kernel's result array ends holding `spec` of its arguments. -/
theorem kernel_value (c : Dev nD) : (dats m 0 c).arrAt 3 cfg0.N = G m c :=
  (dats m 0 c).arrAt_eq_of_cover 3 (G m c) (fun t _ => flushed_eq m c t) cover

end Cert.OutProjIdeal.Math

namespace Cert.OutProjRefIdeal.Math

open Cert.OutProjRefIdeal Cert.OutProjRefIdeal.Read

/-- The plain program's result is `spec` of its arguments. -/
theorem reference_value (x0 : S8448x2048.Idx → EReal) (x1 : S2x2048x2048.Idx → EReal) (x2 : S8448x2048.Idx → EReal) :
    val_main_v3 (F := Ideal) x0 x1 x2 = Cert.OutProjIdeal.Math.spec x0 x1 x2 := by
  funext i
  rw [val_main_v3_apply, val_main_v2_apply]
  refine congrArg (x2 i + ·) (Finset.sum_congr rfl fun k _ => ?_)
  rw [val_main_v1_apply, val_main_v0_apply]
  congr 2
  · funext a; match a with
    | ⟨0, _⟩ => rfl
    | ⟨1, _⟩ => rfl
  · funext a; apply Fin.ext
    have hk := k.isLt
    have hi : (i 1).val < 2048 := (i 1).isLt
    match a with
    | ⟨0, _⟩ => rfl
    | ⟨1, _⟩ => show (k.val * 2048 + (i 1).val) / 2048 % 2048 = k.val; omega
    | ⟨2, _⟩ => show (k.val * 2048 + (i 1).val) % 2048 = (i 1).val; omega

end Cert.OutProjRefIdeal.Math

end
-- ==== Proof.Ple.lean ====
/-
  The per-layer embedding's call, `h + sigmoid(h @ w_pg[1]) * (p_l @ w_pp[1])`, where `p_l` is layer 1's embedding of
  all 8448 tokens, the prompt's rows followed by the samples'.

  `spec` writes the mathematics down. `kernel_value` shows that the tiled kernel leaves `spec` of its arguments in the
  result array, `reference_value` that the plain program does.
-/
module

public import proofs.«01_k».proof.Proof.Gen.PleIdeal.Value
public import proofs.«01_k».proof.Proof.Gen.PleRefIdeal.Run
public import proofs.«01_k».proof.Proof.Gen.PleRefIdeal.Read
public import Idealize.ShloMosaic.Lib.Pointwise
public import Idealize.ShloMosaic.Lib.Claim

@[expose] public section

noncomputable section

open Idealize.ShloMosaic Idealize.ShloMosaic.TcCoe Idealize.SL.Sem
open Idealize.ShloMosaic.Pipeline (Dat)

namespace Cert.PleIdeal.Math

open Cert.PleIdeal Cert.PleIdeal.Gen

/-- Layer 1's embedding of every token: the prompt's 8192 rows, then the samples' 256. -/
def tokens (pp : S2x2x4096x256.Idx → EReal) (ps : S2x32x8x256.Idx → EReal) : S8448x256.Idx → EReal :=
  concatenate (α := EReal) S8448x256 0
    [⟨S8192x256, shapeCast _ (shapeCast S2x4096x256 (extractStridedSlice S1x2x4096x256 ![1, 0, 0, 0] pp
        slices_S2x2x4096x256_S1x2x4096x256_1_0_0_0) shapeCasts_S1x2x4096x256_S2x4096x256) shapeCasts_S2x4096x256_S8192x256⟩,
     ⟨S256x256, shapeCast _ (shapeCast S32x8x256 (extractStridedSlice S1x32x8x256 ![1, 0, 0, 0] ps
        slices_S2x32x8x256_S1x32x8x256_1_0_0_0) shapeCasts_S1x32x8x256_S32x8x256) shapeCasts_S32x8x256_S256x256⟩]
    concatenates_S8192x256_S256x256_S8448x256_d0

/-- The result, entry by entry: the stream, plus the gate of the stream times the projected embedding. -/
def spec (h : S8448x2048.Idx → EReal) (p : S8448x256.Idx → EReal) (wg : S2x2048x2048.Idx → EReal)
    (wp : S2x256x2048.Idx → EReal) : S8448x2048.Idx → EReal :=
  fun i => h i + Ideal.logistic (∑ k : Fin 2048, h (ix2 (i 0) k) * wg (ix3 1 k (i 1)))
    * ∑ k : Fin 256, p (ix2 (i 0) k) * wp (ix3 1 k (i 1))

/-- The body's one stored value at an entry of the block. -/
theorem pay_apply (x0 : Vec Ideal S768x2048 .f32) (x1 : Vec Ideal S768x256 .f32) (x2 : Vec Ideal S2048x2048 .bf16)
    (x3 : Vec Ideal S256x2048 .bf16) (x4 : Vec Ideal S768x2048 .f32) (j : S768x2048.Idx) :
    k0_pay1 x0 x1 x2 x3 x4 j = x4 j + Ideal.logistic (∑ k : Fin 2048, x0 (ix2 (j 0) k) * x2 (ix2 k (j 1)))
      * ∑ k : Fin 256, x1 (ix2 (j 0) k) * x3 (ix2 k (j 1)) := by
  pointwise [k0_pay1]

variable (m : (ℓ : Loc nD τ sig) → Buf (Elt Ideal) ℓ) (ρ : Dev nD → PrngReg)

/-- The embedding as the kernel finds it. -/
theorem tokens_eq (c : Dev nD) : (V m c main_v6 : S8448x256.Idx → EReal)
    = tokens (m ((c : Thread nD τ).loc main_arg1)) (m ((c : Thread nD τ).loc main_arg2)) := by
  unfold_abbrev_sides
  after_results <;> rfl

/-- The gate's weights as the kernel finds them: both layers' rows one under the other, layer 1's from row 2048 on. -/
theorem gate_weights_apply (c : Dev nD) (k : Fin 2048) (n : Fin 2048) :
    (V m c main_v8 : S4096x2048.Idx → EReal) (ix2 ⟨2048 + k.val, by omega⟩ n)
      = (m ((c : Thread nD τ).loc main_arg3) : S2x2048x2048.Idx → EReal) (ix3 1 k n) := by
  have e : V m c main_v8 = truncf (F := Ideal) .bf16 (shapeCast (α := EReal) S4096x2048
      (m ((c : Thread nD τ).loc main_arg3)) shapeCasts_S2x2048x2048_S4096x2048) bitsLt_bf16_f32 := by
    unfold_abbrev_sides
    after_results <;> rfl
  rw [e]
  refine shapeCast_apply _ shapeCasts_S2x2048x2048_S4096x2048 (ix2 ⟨2048 + k.val, by omega⟩ n) (ix3 1 k n) ?_
  rewrite [Shape.rowMajor_val_three, Shape.rowMajor_val_two]
  show (1 * 2048 + k.val) * 2048 + n.val = (2048 + k.val) * 2048 + n.val
  omega

/-- The embedding's weights likewise, layer 1's from row 256 on. -/
theorem proj_weights_apply (c : Dev nD) (k : Fin 256) (n : Fin 2048) :
    (V m c main_v10 : S512x2048.Idx → EReal) (ix2 ⟨256 + k.val, by omega⟩ n)
      = (m ((c : Thread nD τ).loc main_arg4) : S2x256x2048.Idx → EReal) (ix3 1 k n) := by
  have e : V m c main_v10 = truncf (F := Ideal) .bf16 (shapeCast (α := EReal) S512x2048
      (m ((c : Thread nD τ).loc main_arg4)) shapeCasts_S2x256x2048_S512x2048) bitsLt_bf16_f32 := by
    unfold_abbrev_sides
    after_results <;> rfl
  rw [e]
  refine shapeCast_apply _ shapeCasts_S2x256x2048_S512x2048 (ix2 ⟨256 + k.val, by omega⟩ n) (ix3 1 k n) ?_
  rewrite [Shape.rowMajor_val_three, Shape.rowMajor_val_two]
  show (1 * 256 + k.val) * 2048 + n.val = (256 + k.val) * 2048 + n.val
  omega

/-- The result of the whole call on device `c`. -/
abbrev G (c : Dev nD) : Buf (Elt Ideal) ((c : Thread nD τ).loc main_v11) :=
  spec (m ((c : Thread nD τ).loc main_arg0)) (tokens (m ((c : Thread nD τ).loc main_arg1)) (m ((c : Thread nD τ).loc main_arg2)))
    (m ((c : Thread nD τ).loc main_arg3)) (m ((c : Thread nD τ).loc main_arg4))

/-- How the blocks of the arrays move together over the grid. -/
theorem idx_facts : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 1 ∧ win0_2.index t (1 : Fin 2) = win0_5.index t (1 : Fin 2)
    ∧ win0_3.index t (0 : Fin 2) = 1 ∧ win0_3.index t (1 : Fin 2) = win0_5.index t (1 : Fin 2)
    ∧ win0_4.index t (0 : Fin 2) = win0_5.index t (0 : Fin 2) ∧ win0_4.index t (1 : Fin 2) = win0_5.index t (1 : Fin 2) :=
  (by decide +kernel : ∀ t : Fin grid0.N, _)

theorem hz : (![0, 0] : Fin 2 → Nat) = fun _ => 0 := funext fun a => by fin_cases a <;> rfl

/-- What point `t` writes back is its block of `G`. -/
theorem flushed_eq (c : Dev nD) (t : Fin cfg0.N) :
    (dats m 0 c).flushed 5 t = ((cfg0.win 5).blk t).view.read (Elt Ideal) (G m c) := by
  rw [Value.flushed5]
  unfold out0_5
  rw [View.canon_unit_zero hz, View.ld_unit_zero hz, View.ld_unit_zero hz, View.ld_unit_zero hz, View.ld_unit_zero hz,
    View.ld_unit_zero hz]
  obtain ⟨a0, a1, b0, b1, c0, c1, d0, d1, e0, e1⟩ := idx_facts t
  funext y
  show k0_pay1 (iblk m c 0 t) (iblk m c 1 t) (iblk m c 2 t) (iblk m c 3 t) (iblk m c 4 t) y = G m c (((cfg0.win 5).blk t).view.emb y)
  refine (pay_apply _ _ _ _ _ y).trans ?_
  refine congrArg₂ (· + ·) ?_ (congrArg₂ (· * ·)
    (congrArg Ideal.logistic (Finset.sum_congr rfl fun k _ => congrArg₂ (· * ·) ?_ ?_))
    (Finset.sum_congr rfl fun k _ => congrArg₂ (· * ·) ?_ ?_))
  · show V m c main_arg0 (((cfg0.win 4).blk t).view.emb y) = _
    rw [V_main_arg0]
    congr 1
    funext a; apply Fin.ext
    match a with
    | ⟨0, _⟩ => show win0_4.index t (0 : Fin 2) * 768 + 1 * (y 0).val = win0_5.index t (0 : Fin 2) * 768 + 1 * (y 0).val; rw [e0]
    | ⟨1, _⟩ => show win0_4.index t (1 : Fin 2) * 2048 + 1 * (y 1).val = win0_5.index t (1 : Fin 2) * 2048 + 1 * (y 1).val; rw [e1]
  · show V m c main_arg0 (((cfg0.win 0).blk t).view.emb (ix2 (y 0) k)) = _
    rw [V_main_arg0]
    congr 1
    funext a; apply Fin.ext
    match a with
    | ⟨0, _⟩ => show win0_0.index t (0 : Fin 2) * 768 + 1 * (y 0).val = win0_5.index t (0 : Fin 2) * 768 + 1 * (y 0).val; rw [a0]
    | ⟨1, _⟩ => show win0_0.index t (1 : Fin 2) * 2048 + 1 * k.val = k.val; rw [a1]; omega
  · refine Eq.trans ?_ (gate_weights_apply m c k _)
    show V m c main_v8 (((cfg0.win 2).blk t).view.emb (ix2 k (y 1))) = _
    congr 1
    funext a; apply Fin.ext
    match a with
    | ⟨0, _⟩ => show win0_2.index t (0 : Fin 2) * 2048 + 1 * k.val = 2048 + k.val; rw [c0]; omega
    | ⟨1, _⟩ => show win0_2.index t (1 : Fin 2) * 2048 + 1 * (y 1).val = win0_5.index t (1 : Fin 2) * 2048 + 1 * (y 1).val; rw [c1]
  · show (V m c main_v6 : S8448x256.Idx → EReal) (((cfg0.win 1).blk t).view.emb (ix2 (y 0) k)) = _
    rw [tokens_eq]
    congr 1
    funext a; apply Fin.ext
    match a with
    | ⟨0, _⟩ => show win0_1.index t (0 : Fin 2) * 768 + 1 * (y 0).val = win0_5.index t (0 : Fin 2) * 768 + 1 * (y 0).val; rw [b0]
    | ⟨1, _⟩ => show win0_1.index t (1 : Fin 2) * 256 + 1 * k.val = k.val; rw [b1]; omega
  · refine Eq.trans ?_ (proj_weights_apply m c k _)
    show V m c main_v10 (((cfg0.win 3).blk t).view.emb (ix2 k (y 1))) = _
    congr 1
    funext a; apply Fin.ext
    match a with
    | ⟨0, _⟩ => show win0_3.index t (0 : Fin 2) * 256 + 1 * k.val = 256 + k.val; rw [d0]; omega
    | ⟨1, _⟩ => show win0_3.index t (1 : Fin 2) * 2048 + 1 * (y 1).val = win0_5.index t (1 : Fin 2) * 2048 + 1 * (y 1).val; rw [d1]

/-- Every block of the result is some point's. -/
theorem idx_onto : ∀ (p : Fin 11) (q : Fin 1), ∃ t : Fin cfg0.N, win0_5.index t (0 : Fin 2) = p.val ∧ win0_5.index t (1 : Fin 2) = q.val :=
  (by decide +kernel : ∀ (p : Fin 11) (q : Fin 1), ∃ t : Fin grid0.N, win0_5.index t (0 : Fin 2) = p.val ∧ win0_5.index t (1 : Fin 2) = q.val)

/-- An entry of the result lies in point `t`'s block when each coordinate lies in the block's range. -/
theorem mem_blk (t : Fin cfg0.N) (i : S8448x2048.Idx) :
    i ∈ ((cfg0.win 5).blk t).view.set ↔ ∀ a : Fin 2, win0_5.index t a * S768x2048.size a ≤ (i a).val ∧ (i a).val < win0_5.index t a * S768x2048.size a + S768x2048.size a := by
  show i ∈ ((View.whole main_v11).slice (win0_5.rect t)).set ↔ _
  rw [View.set_slice_whole, Rect.mem_set_unit]
  exact Iff.rfl

/-- The blocks fill the result. -/
theorem cover (i : S8448x2048.Idx) :
    ∃ t : Fin cfg0.N, (cfg0.win 5).flush t = true ∧ i ∈ ((cfg0.win 5).blk t).view.set := by
  have h0 : (i 0).val < 8448 := (i 0).isLt
  have h1 : (i 1).val < 2048 := (i 1).isLt
  obtain ⟨t, e0, e1⟩ := idx_onto ⟨(i 0).val / 768, by omega⟩ ⟨(i 1).val / 2048, by omega⟩
  refine ⟨t, flush0_5 t, (mem_blk t i).2 fun a => ?_⟩
  match a with
  | ⟨0, _⟩ => show win0_5.index t (0 : Fin 2) * 768 ≤ (i 0).val ∧ (i 0).val < win0_5.index t (0 : Fin 2) * 768 + 768; dsimp only at e0; omega
  | ⟨1, _⟩ => show win0_5.index t (1 : Fin 2) * 2048 ≤ (i 1).val ∧ (i 1).val < win0_5.index t (1 : Fin 2) * 2048 + 2048; dsimp only at e1; omega

/-- The kernel's result array ends holding `spec` of its arguments. -/
theorem kernel_value (c : Dev nD) : (dats m 0 c).arrAt 5 cfg0.N = G m c :=
  (dats m 0 c).arrAt_eq_of_cover 5 (G m c) (fun t _ => flushed_eq m c t) cover

end Cert.PleIdeal.Math

namespace Cert.PleRefIdeal.Math

open Cert.PleRefIdeal Cert.PleRefIdeal.Read

/-- The plain program's gate is the logistic function of its argument. -/
theorem gate_apply (x : EReal) :
    FloatOps.hostDivf (F := Ideal) (φ := .f32) (FloatOps.ofBits .f32 0x3F800000#32)
      (FloatOps.addf (F := Ideal) (φ := .f32) (FloatOps.ofBits .f32 0x3F800000#32)
        (FloatOps.hostUnary (F := Ideal) (φ := .f32) .exp (FloatOps.hostNegf (F := Ideal) (φ := .f32) x)))
      = Ideal.logistic x := by
  show Ideal.div (Ideal.ofBits .f32 0x3F800000#32) (Ideal.ofBits .f32 0x3F800000#32 + Ideal.exp (-x)) = _
  rw [Ideal.ofBits_one_f32]
  rfl

/-- The plain program's result is `spec` of its arguments. -/
theorem reference_value (x0 : S8448x2048.Idx → EReal) (x1 : S2x2x4096x256.Idx → EReal) (x2 : S2x32x8x256.Idx → EReal)
    (x3 : S2x2048x2048.Idx → EReal) (x4 : S2x256x2048.Idx → EReal) :
    val_main_v20 (F := Ideal) x0 x1 x2 x3 x4 = Cert.PleIdeal.Math.spec x0 (Cert.PleIdeal.Math.tokens x1 x2) x3 x4 := by
  funext i
  rw [val_main_v20_apply, val_main_v19_apply, val_main_v15_apply, val_main_v14_apply, val_main_v13_apply,
    val_main_v12_apply, val_main_v11_apply, val_main_v10_apply, val_main_v9_apply, val_main_v18_apply]
  refine congrArg (x0 i + ·) (congrArg₂ (· * ·) ((gate_apply _).trans
    (congrArg Ideal.logistic (Finset.sum_congr rfl fun k _ => ?_))) (Finset.sum_congr rfl fun k _ => ?_))
  · rw [val_main_v8_apply, val_main_v7_apply]
    congr 2
    · funext a; match a with
      | ⟨0, _⟩ => rfl
      | ⟨1, _⟩ => rfl
    · funext a; apply Fin.ext
      have hk := k.isLt
      have hi : (i 1).val < 2048 := (i 1).isLt
      match a with
      | ⟨0, _⟩ => rfl
      | ⟨1, _⟩ => show (k.val * 2048 + (i 1).val) / 2048 % 2048 = k.val; omega
      | ⟨2, _⟩ => show (k.val * 2048 + (i 1).val) % 2048 = (i 1).val; omega
  · rw [val_main_v17_apply, val_main_v16_apply]
    refine congrArg₂ (· * ·) ?_ ?_
    · show Cert.PleIdeal.Math.tokens x1 x2 (lidx_main_v18 i k) = _
      congr 1
      funext a; match a with
      | ⟨0, _⟩ => rfl
      | ⟨1, _⟩ => rfl
    · congr 1
      funext a; apply Fin.ext
      have hk := k.isLt
      have hi : (i 1).val < 2048 := (i 1).isLt
      match a with
      | ⟨0, _⟩ => rfl
      | ⟨1, _⟩ => show (k.val * 2048 + (i 1).val) / 2048 % 256 = k.val; omega
      | ⟨2, _⟩ => show (k.val * 2048 + (i 1).val) % 2048 = (i 1).val; omega

end Cert.PleRefIdeal.Math

end
-- ==== Proof.Claims.lean ====
/-
  The value claims of the matrix-product calls, each put together from the call's own module: the kernel's run leaves
  `spec` of the arguments in the result array, so does the plain program's.
-/
module

public import proofs.«01_k».proof.Defs
public import proofs.«01_k».proof.Proof.FfnUp
public import proofs.«01_k».proof.Proof.FfnDown
public import proofs.«01_k».proof.Proof.InProj
public import proofs.«01_k».proof.Proof.MixProj
public import proofs.«01_k».proof.Proof.OutProj
public import proofs.«01_k».proof.Proof.Ple

@[expose] public section

noncomputable section

open Idealize.ShloMosaic Idealize.ShloMosaic.TcCoe Idealize.SL.Sem

namespace Cert.Proof

/-- The plain program of the feed-forward way up runs and leaves its arguments alone. -/
theorem frame_FfnUpRef : Cert.quiescent_FfnUpRefIdeal (hFfnUpRefIdeal := Cert.FfnUpRefIdeal.Gen.facts) :=
  fun m ρ _ => θ_run_mono (Cert.FfnUpRefIdeal.Value.run m ρ) fun r h =>
    ⟨fun c => (h c).2, sem_eq_zero_of_no_sems (by decide) r.2⟩

/-- The feed-forward way up: kernel and plain program end with the same result. -/
theorem algebraic_FfnUp : Cert.algebraic_FfnUpIdeal_FfnUpRefIdeal (hFfnUpIdeal := Cert.FfnUpIdeal.Gen.facts)
    (hFfnUpRefIdeal := Cert.FfnUpRefIdeal.Gen.facts) := by
  intro m g m' g' _ hagree
  refine ⟨fun c => Cert.FfnUpIdeal.Math.G m c, ?_, ?_⟩
  · exact θ_run_mono (Cert.FfnUpIdeal.Value.run_blocks m g) fun r h c =>
      ⟨(h c).1.trans (Cert.FfnUpIdeal.Math.kernel_value m c), (h c).2⟩
  · refine θ_run_mono (Cert.FfnUpRefIdeal.Value.run m' g') fun r h c => ⟨(h c).1.trans ?_, (h c).2⟩
    obtain ⟨h0, h1, h2⟩ := hagree c
    refine (Cert.FfnUpRefIdeal.Read.val_main_v8_eq _ _ _).trans ?_
    refine (Cert.FfnUpRefIdeal.Math.reference_value _ _ _).trans ?_
    rw [h0, h1, h2]
    all_goals rfl

/-- The plain program of the feed-forward way down runs and leaves its arguments alone. -/
theorem frame_FfnDownRef : Cert.quiescent_FfnDownRefIdeal (hFfnDownRefIdeal := Cert.FfnDownRefIdeal.Gen.facts) :=
  fun m ρ _ => θ_run_mono (Cert.FfnDownRefIdeal.Value.run m ρ) fun r h =>
    ⟨fun c => (h c).2, sem_eq_zero_of_no_sems (by decide) r.2⟩

/-- The feed-forward way down: kernel and plain program end with the same result. -/
theorem algebraic_FfnDown : Cert.algebraic_FfnDownIdeal_FfnDownRefIdeal (hFfnDownIdeal := Cert.FfnDownIdeal.Gen.facts)
    (hFfnDownRefIdeal := Cert.FfnDownRefIdeal.Gen.facts) := by
  intro m g m' g' _ hagree
  refine ⟨fun c => Cert.FfnDownIdeal.Math.G m c, ?_, ?_⟩
  · exact θ_run_mono (Cert.FfnDownIdeal.Value.run_blocks m g) fun r h c =>
      ⟨(h c).1.trans (Cert.FfnDownIdeal.Math.kernel_value m c), (h c).2⟩
  · refine θ_run_mono (Cert.FfnDownRefIdeal.Value.run m' g') fun r h c => ⟨(h c).1.trans ?_, (h c).2⟩
    obtain ⟨h0, h1, h2⟩ := hagree c
    refine (Cert.FfnDownRefIdeal.Read.val_main_v3_eq _ _ _).trans ?_
    refine (Cert.FfnDownRefIdeal.Math.reference_value _ _ _).trans ?_
    rw [h0, h1, h2]
    all_goals rfl

/-- The plain program of the input projection runs and leaves its arguments alone. -/
theorem frame_InProjRef : Cert.quiescent_InProjRefIdeal (hInProjRefIdeal := Cert.InProjRefIdeal.Gen.facts) :=
  fun m ρ _ => θ_run_mono (Cert.InProjRefIdeal.Value.run m ρ) fun r h =>
    ⟨fun c => (h c).2, sem_eq_zero_of_no_sems (by decide) r.2⟩

/-- The input projection: kernel and plain program end with the same result. -/
theorem algebraic_InProj : Cert.algebraic_InProjIdeal_InProjRefIdeal (hInProjIdeal := Cert.InProjIdeal.Gen.facts)
    (hInProjRefIdeal := Cert.InProjRefIdeal.Gen.facts) := by
  intro m g m' g' _ hagree
  refine ⟨fun c => Cert.InProjIdeal.Math.G m c, ?_, ?_⟩
  · exact θ_run_mono (Cert.InProjIdeal.Value.run_blocks m g) fun r h c =>
      ⟨(h c).1.trans (Cert.InProjIdeal.Math.kernel_value m c), (h c).2⟩
  · refine θ_run_mono (Cert.InProjRefIdeal.Value.run m' g') fun r h c => ⟨(h c).1.trans ?_, (h c).2⟩
    obtain ⟨h0, h1⟩ := hagree c
    refine (Cert.InProjRefIdeal.Read.val_main_v1_eq _ _).trans ?_
    refine (Cert.InProjRefIdeal.Math.reference_value _ _).trans ?_
    rw [h0, h1]
    all_goals rfl

/-- The plain program of the gated mixing runs and leaves its arguments alone. -/
theorem frame_MixProjRef : Cert.quiescent_MixProjRefIdeal (hMixProjRefIdeal := Cert.MixProjRefIdeal.Gen.facts) :=
  fun m ρ _ => θ_run_mono (Cert.MixProjRefIdeal.Value.run m ρ) fun r h =>
    ⟨fun c => (h c).2, sem_eq_zero_of_no_sems (by decide) r.2⟩

/-- The gated mixing: kernel and plain program end with the same result. -/
theorem algebraic_MixProj : Cert.algebraic_MixProjIdeal_MixProjRefIdeal (hMixProjIdeal := Cert.MixProjIdeal.Gen.facts)
    (hMixProjRefIdeal := Cert.MixProjRefIdeal.Gen.facts) := by
  intro m g m' g' _ hagree
  refine ⟨fun c => Cert.MixProjIdeal.Math.G m c, ?_, ?_⟩
  · exact θ_run_mono (Cert.MixProjIdeal.Value.run_blocks m g) fun r h c =>
      ⟨(h c).1.trans (Cert.MixProjIdeal.Math.kernel_value m c), (h c).2⟩
  · refine θ_run_mono (Cert.MixProjRefIdeal.Value.run m' g') fun r h c => ⟨(h c).1.trans ?_, (h c).2⟩
    obtain ⟨h0, h1, h2, h3, h4, h5, h6⟩ := hagree c
    refine (Cert.MixProjRefIdeal.Read.val_main_v24_eq _ _ _ _ _ _ _).trans ?_
    refine (Cert.MixProjRefIdeal.Math.reference_value _ _ _ _ _ _ _).trans ?_
    rw [h0, h1, h2, h3, h4, h5, h6]
    all_goals rfl

/-- The plain program of the output projection runs and leaves its arguments alone. -/
theorem frame_OutProjRef : Cert.quiescent_OutProjRefIdeal (hOutProjRefIdeal := Cert.OutProjRefIdeal.Gen.facts) :=
  fun m ρ _ => θ_run_mono (Cert.OutProjRefIdeal.Value.run m ρ) fun r h =>
    ⟨fun c => (h c).2, sem_eq_zero_of_no_sems (by decide) r.2⟩

/-- The output projection: kernel and plain program end with the same result. -/
theorem algebraic_OutProj : Cert.algebraic_OutProjIdeal_OutProjRefIdeal (hOutProjIdeal := Cert.OutProjIdeal.Gen.facts)
    (hOutProjRefIdeal := Cert.OutProjRefIdeal.Gen.facts) := by
  intro m g m' g' _ hagree
  refine ⟨fun c => Cert.OutProjIdeal.Math.G m c, ?_, ?_⟩
  · exact θ_run_mono (Cert.OutProjIdeal.Value.run_blocks m g) fun r h c =>
      ⟨(h c).1.trans (Cert.OutProjIdeal.Math.kernel_value m c), (h c).2⟩
  · refine θ_run_mono (Cert.OutProjRefIdeal.Value.run m' g') fun r h c => ⟨(h c).1.trans ?_, (h c).2⟩
    obtain ⟨h0, h1, h2⟩ := hagree c
    refine (Cert.OutProjRefIdeal.Read.val_main_v3_eq _ _ _).trans ?_
    refine (Cert.OutProjRefIdeal.Math.reference_value _ _ _).trans ?_
    rw [h0, h1, h2]
    all_goals rfl

/-- The plain program of the per-layer embedding runs and leaves its arguments alone. -/
theorem frame_PleRef : Cert.quiescent_PleRefIdeal (hPleRefIdeal := Cert.PleRefIdeal.Gen.facts) :=
  fun m ρ _ => θ_run_mono (Cert.PleRefIdeal.Value.run m ρ) fun r h =>
    ⟨fun c => (h c).2, sem_eq_zero_of_no_sems (by decide) r.2⟩

/-- The per-layer embedding: kernel and plain program end with the same result. -/
theorem algebraic_Ple : Cert.algebraic_PleIdeal_PleRefIdeal (hPleIdeal := Cert.PleIdeal.Gen.facts)
    (hPleRefIdeal := Cert.PleRefIdeal.Gen.facts) := by
  intro m g m' g' _ hagree
  refine ⟨fun c => Cert.PleIdeal.Math.G m c, ?_, ?_⟩
  · exact θ_run_mono (Cert.PleIdeal.Value.run_blocks m g) fun r h c =>
      ⟨(h c).1.trans (Cert.PleIdeal.Math.kernel_value m c), (h c).2⟩
  · refine θ_run_mono (Cert.PleRefIdeal.Value.run m' g') fun r h c => ⟨(h c).1.trans ?_, (h c).2⟩
    obtain ⟨h0, h1, h2, h3, h4⟩ := hagree c
    refine (Cert.PleRefIdeal.Read.val_main_v20_eq _ _ _ _ _).trans ?_
    refine (Cert.PleRefIdeal.Math.reference_value _ _ _ _ _).trans ?_
    rw [h0, h1, h2, h3, h4]
    all_goals rfl

end Cert.Proof
-- ==== Proof.Norm.lean ====
/-
  The normalisation that opens the layer, `rmsnorm(h, g_mix[1])` in half the width.

  `spec` writes the mathematics down: each entry over the root of its row's mean square, times its column's gain.
  `kernel_value` shows that the tiled kernel leaves `spec` of its arguments in the result array, `reference_value` that the
  plain program does.
-/
module

public import proofs.«01_k».proof.Proof.Gen.NormIdeal.Value
public import proofs.«01_k».proof.Proof.Gen.NormRefIdeal.Run
public import proofs.«01_k».proof.Proof.Gen.NormRefIdeal.Read
public import Idealize.ShloMosaic.Lib.Pointwise
public import Idealize.ShloMosaic.Lib.Claim

@[expose] public section

noncomputable section

open Idealize.ShloMosaic Idealize.ShloMosaic.TcCoe Idealize.SL.Sem
open Idealize.ShloMosaic.Pipeline (Dat)

namespace Cert.NormIdeal.Math

open Cert.NormIdeal Cert.NormIdeal.Gen

/-- One over the root of a row's mean square, with the small constant under the root. -/
def scale (x : Fin 2048 → EReal) : EReal :=
  Ideal.rsqrt (Ideal.div (∑ k, x k * x k) (Ideal.ofBits .f32 0x45000000#32) + Ideal.ofBits .f32 0x358637BD#32)

/-- The result, entry by entry. -/
def spec (h : S8448x2048.Idx → EReal) (g : S2x2048.Idx → EReal) : S8448x2048.Idx → EReal :=
  fun i => h i * scale (fun k => h (ix2 (i 0) k)) * g (ix2 1 (i 1))

/-- The body's one stored value at an entry of the block. -/
theorem pay_apply (x0 : Vec Ideal S768x2048 .f32) (x1 : Vec Ideal S1x2048 .f32) (j : S768x2048.Idx) :
    k0_pay1 x0 x1 j = x0 j * scale (fun k => x0 (ix2 (j 0) k)) * x1 (ix2 0 (j 1)) := by
  pointwise [k0_pay1]
  rfl

variable (m : (ℓ : Loc nD τ sig) → Buf (Elt Ideal) ℓ) (ρ : Dev nD → PrngReg)

/-- The gains as the kernel finds them: row 1 of the array. -/
theorem gains_apply (c : Dev nD) (k : Fin 2048) :
    (V m c main_v2 : S1x2048.Idx → EReal) (ix2 0 k) = (m ((c : Thread nD τ).loc main_arg1) : S2x2048.Idx → EReal) (ix2 1 k) := by
  have e : V m c main_v2 = shapeCast S1x2048 (shapeCast S2048 (extractStridedSlice (α := EReal) S1x2048 ![1, 0]
      (m ((c : Thread nD τ).loc main_arg1)) slices_S2x2048_S1x2048_1_0) shapeCasts_S1x2048_S2048) shapeCasts_S2048_S1x2048 := by
    unfold_abbrev_sides
    after_results <;> rfl
  rw [e]
  pointwise

/-- The result of the whole call on device `c`. -/
abbrev G (c : Dev nD) : Buf (Elt Ideal) ((c : Thread nD τ).loc main_v3) :=
  spec (m ((c : Thread nD τ).loc main_arg0)) (m ((c : Thread nD τ).loc main_arg1))

/-- How the blocks of the three arrays move over the grid. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- Every block of the result is some point's. -/
theorem idx_onto : ∀ (p : Fin 11), ∃ t : Fin cfg0.N, win0_2.index t (0 : Fin 2) = p.val :=
  (by decide +kernel : ∀ (p : Fin 11), ∃ t : Fin grid0.N, win0_2.index t (0 : Fin 2) = p.val)

theorem hz : (![0, 0] : Fin 2 → Nat) = fun _ => 0 := funext fun a => by fin_cases a <;> rfl

/-- An entry of the input's block is the argument's entry at the place the result's block puts it. -/
theorem input_apply (c : Dev nD) (t : Fin cfg0.N) (y : S768x2048.Idx) (k : Fin 2048) :
    (iblk m c 0 t : S768x2048.Idx → EReal) (ix2 (y 0) k)
      = (m ((c : Thread nD τ).loc main_arg0) : S8448x2048.Idx → EReal) (ix2 ((((cfg0.win 2).blk t).view.emb y : S8448x2048.Idx) 0) k) := by
  obtain ⟨a0, a1, b0, b1, o1⟩ := idx_facts t
  show V m c main_arg0 (((cfg0.win 0).blk t).view.emb (ix2 (y 0) k)) = _
  rw [V_main_arg0]
  congr 1
  funext a; apply Fin.ext
  match a with
  | ⟨0, _⟩ => show win0_0.index t (0 : Fin 2) * 768 + 1 * (y 0).val = win0_2.index t (0 : Fin 2) * 768 + 1 * (y 0).val; rw [a0]
  | ⟨1, _⟩ => show win0_0.index t (1 : Fin 2) * 2048 + 1 * k.val = k.val; rw [a1]; omega

/-- What point `t` writes back is its block of `G`. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  obtain ⟨a0, a1, b0, b1, o1⟩ := idx_facts t
  funext y
  have hy1 : (y 1).val < 2048 := (y 1).isLt
  show k0_pay1 (iblk m c 0 t) (iblk m c 1 t) y = G m c (((cfg0.win 2).blk t).view.emb y)
  refine (pay_apply _ _ y).trans ?_
  refine congrArg₂ (· * ·) (congrArg₂ (· * ·) ?_ (congrArg scale (funext fun k => ?_))) ?_
  · show V m c main_arg0 (((cfg0.win 0).blk t).view.emb y) = _
    rw [V_main_arg0]
    refine congrArg (m ((c : Thread nD τ).loc main_arg0) : S8448x2048.Idx → EReal) (funext fun a => Fin.ext ?_)
    match a with
    | ⟨0, _⟩ => show win0_0.index t (0 : Fin 2) * 768 + 1 * (y 0).val = win0_2.index t (0 : Fin 2) * 768 + 1 * (y 0).val; rw [a0]
    | ⟨1, _⟩ => show win0_0.index t (1 : Fin 2) * 2048 + 1 * (y 1).val = win0_2.index t (1 : Fin 2) * 2048 + 1 * (y 1).val; rw [a1, o1]
  · exact input_apply m c t y k
  · refine Eq.trans ?_ (gains_apply m c _)
    show V m c main_v2 (((cfg0.win 1).blk t).view.emb (ix2 0 (y 1))) = _
    congr 1
    funext a; apply Fin.ext
    match a with
    | ⟨0, _⟩ => show win0_1.index t (0 : Fin 2) * 1 + 1 * 0 = 0; rw [b0]
    | ⟨1, _⟩ => show win0_1.index t (1 : Fin 2) * 2048 + 1 * (y 1).val = win0_2.index t (1 : Fin 2) * 2048 + 1 * (y 1).val; rw [b1, o1]

/-- An entry of the result lies in point `t`'s block when each coordinate lies in the block's range. -/
theorem mem_blk (t : Fin cfg0.N) (i : S8448x2048.Idx) :
    i ∈ ((cfg0.win 2).blk t).view.set ↔ ∀ a : Fin 2, win0_2.index t a * S768x2048.size a ≤ (i a).val ∧ (i a).val < win0_2.index t a * S768x2048.size a + S768x2048.size a := by
  show i ∈ ((View.whole main_v3).slice (win0_2.rect t)).set ↔ _
  rw [View.set_slice_whole, Rect.mem_set_unit]
  exact Iff.rfl

/-- The blocks fill the result. -/
theorem cover (i : S8448x2048.Idx) :
    ∃ t : Fin cfg0.N, (cfg0.win 2).flush t = true ∧ i ∈ ((cfg0.win 2).blk t).view.set := by
  have h0 : (i 0).val < 8448 := (i 0).isLt
  have h1 : (i 1).val < 2048 := (i 1).isLt
  obtain ⟨t, e0⟩ := idx_onto ⟨(i 0).val / 768, by omega⟩
  obtain ⟨-, -, -, -, o1⟩ := idx_facts t
  refine ⟨t, flush0_2 t, (mem_blk t i).2 fun a => ?_⟩
  match a with
  | ⟨0, _⟩ => show win0_2.index t (0 : Fin 2) * 768 ≤ (i 0).val ∧ (i 0).val < win0_2.index t (0 : Fin 2) * 768 + 768; dsimp only at e0; omega
  | ⟨1, _⟩ => show win0_2.index t (1 : Fin 2) * 2048 ≤ (i 1).val ∧ (i 1).val < win0_2.index t (1 : Fin 2) * 2048 + 2048; omega

/-- The kernel's result array ends holding `spec` of its arguments. -/
theorem kernel_value (c : Dev nD) : (dats m 0 c).arrAt 2 cfg0.N = G m c :=
  (dats m 0 c).arrAt_eq_of_cover 2 (G m c) (fun t _ => flushed_eq m c t) cover

end Cert.NormIdeal.Math

namespace Cert.NormRefIdeal.Math

open Cert.NormRefIdeal Cert.NormRefIdeal.Read

/-- The sum of a row's squares. -/
theorem squares (x0 : S8448x2048.Idx → EReal) (r : S8448.Idx) :
    val_main_v3 (F := Ideal) x0 r = ∑ k : Fin 2048, x0 (ix2 (r 0) k) * x0 (ix2 (r 0) k) := by
  rw [val_main_v3_apply, val_main_cst_apply]
  refine (congrArg (· + _) (by pointwise)).trans ((zero_add _).trans (Finset.sum_congr rfl fun k _ => ?_))
  rw [val_main_v2_apply]
  have e : idx_main_v3 r k = ix2 (r 0) k := funext fun a => match a with
    | ⟨0, _⟩ => rfl
    | ⟨1, _⟩ => rfl
  rw [e]
  rfl

/-- The gain of a column. -/
theorem gains_apply (x1 : S2x2048.Idx → EReal) (i : S8448x2048.Idx) : val_main_v13 (F := Ideal) x1 i = x1 (ix2 1 (i 1)) := by
  rw [val_main_v13_apply, val_main_v12_apply, val_main_v1_apply, val_main_v0_apply]
  congr 1
  have h : (i 1).val < 2048 := (i 1).isLt
  funext a; apply Fin.ext
  match a with
  | ⟨0, _⟩ => rfl
  | ⟨1, _⟩ => show (i 1).val % 2048 = (i 1).val; omega

/-- The plain program's result is `spec` of its arguments. -/
theorem reference_value (x0 : S8448x2048.Idx → EReal) (x1 : S2x2048.Idx → EReal) :
    val_main_v15 (F := Ideal) x0 x1 = Cert.NormIdeal.Math.spec x0 x1 := by
  funext i
  rw [val_main_v15_apply, val_main_v14_apply, val_main_v11_apply, val_main_v10_apply, val_main_v9_apply, val_main_v8_apply,
    val_main_v6_apply, val_main_v7_apply, val_main_v5_apply, val_main_v4_apply, val_main_cst_0_apply, val_main_cst_1_apply,
    squares, gains_apply]
  rfl

end Cert.NormRefIdeal.Math

end
-- ==== Proof.FinalNormBlock.lean ====
/-
  One block of the last normalisation, entry by entry: each entry over the root of its row's mean square, times its
  column's gain.
-/
module

public import proofs.«01_k».proof.Proof.FinalNormIdealBody
public import Idealize.ShloMosaic.Lib.Pointwise

@[expose] public section

noncomputable section

open Idealize.ShloMosaic Idealize.ShloMosaic.TcCoe Idealize.SL.Sem

namespace Cert.FinalNormIdeal.Math

open Cert.FinalNormIdeal Cert.FinalNormIdeal.Gen Cert.FinalNormIdeal.Body

/-- One over the root of a row's mean square, with the small constant under the root. -/
def scale (x : Fin 2048 → EReal) : EReal :=
  Ideal.rsqrt (Ideal.div (∑ k, x k * x k) (Ideal.ofBits .f32 0x45000000#32) + Ideal.ofBits .f32 0x358637BD#32)

/-- The normalised block at an entry. -/
theorem normed_apply (x0 : Vec Ideal S256x2048 .f32) (x1 : Vec Ideal S1x2048 .f32) (j : S256x2048.Idx) :
    normed x0 x1 j = x0 j * scale (fun k => x0 (ix2 (j 0) k)) * x1 (ix2 0 (j 1)) := by
  pointwise [normed]
  rfl

/-- The gains laid out as one row. -/
theorem gains_row (g : S2048.Idx → EReal) (k : Fin 2048) : shapeCast (α := EReal) S1x2048 g shapeCasts_S2048_S1x2048 (ix2 0 k) = g (ix1 k) := by
  pointwise

end Cert.FinalNormIdeal.Math

end
-- ==== Proof.FinalNorm.lean ====
/-
  The normalisation that ends the layer, `rmsnorm(h, g_final)`, its rows split into the prompts' 8192 and the samples' 256.

  `specPrompt` and `specSample` write the mathematics down: each entry over the root of its row's mean square, times its
  column's gain. `kernel_prompt` and `kernel_sample` show that the tiled kernel leaves them in its two result arrays,
  `reference_prompt` and `reference_sample` that the plain program does.
-/
module

public import proofs.«01_k».proof.Proof.FinalNormBlock
public import proofs.«01_k».proof.Proof.Gen.FinalNormRefIdeal.Run
public import proofs.«01_k».proof.Proof.Gen.FinalNormRefIdeal.Read
public import Idealize.ShloMosaic.Lib.Pointwise
public import Idealize.ShloMosaic.Lib.Claim

@[expose] public section

noncomputable section

open Idealize.ShloMosaic Idealize.ShloMosaic.TcCoe Idealize.SL.Sem
open Idealize.ShloMosaic.Pipeline (Dat)

namespace Cert.FinalNormIdeal.Math

open Cert.FinalNormIdeal Cert.FinalNormIdeal.Gen Cert.FinalNormIdeal.Body

/-- The prompts' rows come first, -/
def promptRow (r : Fin 8192) : Fin 8448 := ⟨r.val, by omega⟩
/-- the samples' after them. -/
def sampleRow (r : Fin 256) : Fin 8448 := ⟨8192 + r.val, by omega⟩

/-- The prompts' result, entry by entry, -/
def specPrompt (h : S8448x2048.Idx → EReal) (g : S2048.Idx → EReal) : S8192x2048.Idx → EReal :=
  fun i => h (ix2 (promptRow (i 0)) (i 1)) * scale (fun k => h (ix2 (promptRow (i 0)) k)) * g (ix1 (i 1))
/-- and the samples'. -/
def specSample (h : S8448x2048.Idx → EReal) (g : S2048.Idx → EReal) : S256x2048.Idx → EReal :=
  fun i => h (ix2 (sampleRow (i 0)) (i 1)) * scale (fun k => h (ix2 (sampleRow (i 0)) k)) * g (ix1 (i 1))

variable (m : (ℓ : Loc nD τ sig) → Buf (Elt Ideal) ℓ) (ρ : Dev nD → PrngReg)

/-- The gains as the kernel finds them. -/
theorem gains_apply (c : Dev nD) (k : Fin 2048) :
    (V m c main_v0 : S1x2048.Idx → EReal) (ix2 0 k) = (m ((c : Thread nD τ).loc main_arg1) : S2048.Idx → EReal) (ix1 k) := by
  have e : V m c main_v0 = shapeCast (α := EReal) S1x2048 (m ((c : Thread nD τ).loc main_arg1)) shapeCasts_S2048_S1x2048 := by
    unfold_abbrev_sides
    after_results <;> rfl
  rw [e]
  exact gains_row _ k

/-- The results of the whole call on device `c`. -/
abbrev Gp (c : Dev nD) : Buf (Elt Ideal) ((c : Thread nD τ).loc main_v1_0) :=
  specPrompt (m ((c : Thread nD τ).loc main_arg0)) (m ((c : Thread nD τ).loc main_arg1))
abbrev Gs (c : Dev nD) : Buf (Elt Ideal) ((c : Thread nD τ).loc main_v1_1) :=
  specSample (m ((c : Thread nD τ).loc main_arg0)) (m ((c : Thread nD τ).loc main_arg1))

/-- How the blocks of the four arrays move over the grid. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = min t.val 31
    ∧ win0_2.index t (1 : Fin 2) = 0 ∧ win0_3.index t (0 : Fin 2) = 0 ∧ win0_3.index t (1 : Fin 2) = 0 :=
  (by decide +kernel : ∀ t : Fin grid0.N, _)

/-- An entry of point `t`'s input block is the argument's, 256·t rows on. -/
theorem input_apply (c : Dev nD) (t : Fin cfg0.N) (r : Fin 256) (k : Fin 2048) (R : Fin 8448) (hR : R.val = t.val * 256 + r.val) :
    (iblk m c 0 t : S256x2048.Idx → EReal) (ix2 r k) = (m ((c : Thread nD τ).loc main_arg0) : S8448x2048.Idx → EReal) (ix2 R k) := by
  obtain ⟨a0, a1, -⟩ := idx_facts t
  show V m c main_arg0 (((cfg0.win 0).blk t).view.emb (ix2 r k)) = _
  rw [V_main_arg0]
  refine congrArg (m ((c : Thread nD τ).loc main_arg0) : S8448x2048.Idx → EReal) (funext fun a => Fin.ext ?_)
  match a with
  | ⟨0, _⟩ => show win0_0.index t (0 : Fin 2) * 256 + 1 * r.val = R.val; rw [a0, hR]; omega
  | ⟨1, _⟩ => show win0_0.index t (1 : Fin 2) * 2048 + 1 * k.val = k.val; rw [a1]; omega

/-- The gains' block is the whole row. -/
theorem gain_block (c : Dev nD) (t : Fin cfg0.N) (k : Fin 2048) :
    (iblk m c 1 t : S1x2048.Idx → EReal) (ix2 0 k) = (m ((c : Thread nD τ).loc main_arg1) : S2048.Idx → EReal) (ix1 k) := by
  obtain ⟨-, -, b0, b1, -⟩ := idx_facts t
  refine Eq.trans ?_ (gains_apply m c k)
  show V m c main_v0 (((cfg0.win 1).blk t).view.emb (ix2 0 k)) = _
  congr 1
  funext a; apply Fin.ext
  match a with
  | ⟨0, _⟩ => show win0_1.index t (0 : Fin 2) * 1 + 1 * 0 = 0; rw [b0]
  | ⟨1, _⟩ => show win0_1.index t (1 : Fin 2) * 2048 + 1 * k.val = k.val; rw [b1]; omega

/-- The two arguments, as functions into the extended reals. -/
abbrev hid (c : Dev nD) : S8448x2048.Idx → EReal := m ((c : Thread nD τ).loc main_arg0)
abbrev gain (c : Dev nD) : S2048.Idx → EReal := m ((c : Thread nD τ).loc main_arg1)

/-- The normalised block of point `t` at an entry, from the arguments. -/
theorem Y_apply (c : Dev nD) (t : Fin cfg0.N) (r : Fin 256) (n : Fin 2048) (R : Fin 8448) (hR : R.val = t.val * 256 + r.val) :
    Y m c t (ix2 r n) = hid m c (ix2 R n)
      * scale (fun k => hid m c (ix2 R k))
      * gain m c (ix1 n) :=
  (normed_apply _ _ _).trans (congrArg₂ (· * ·)
    (congrArg₂ (· * ·) (input_apply m c t r n R hR) (congrArg scale (funext fun k => input_apply m c t r k R hR)))
    (gain_block m c t n))

theorem split_idx (y : S256x2048.Idx) : y = ix2 (y 0) (y 1) := funext fun a => match a with
  | ⟨0, _⟩ => rfl
  | ⟨1, _⟩ => rfl

/-- What point `t` writes back to the first result is its block of `Gp`, -/
theorem flushed_prompt (c : Dev nD) (t : Fin cfg0.N) :
    (dats m 0 c).flushed 2 t = ((cfg0.win 2).blk t).view.read (Elt Ideal) (Gp m c) := by
  show (cfg0.win 2).cut (grid0.coords t) ((dats m 0 c).after 2 t) = _
  rw [after0_2]
  obtain ⟨-, -, -, -, c0, c1, -, -⟩ := idx_facts t
  funext y
  have hy0 : (y 0).val < 256 := (y 0).isLt
  have hy1 : (y 1).val < 2048 := (y 1).isLt
  show Y m c (upto t) y = Gp m c (((cfg0.win 2).blk t).view.emb y)
  have e0 : ((((cfg0.win 2).blk t).view.emb y : S8192x2048.Idx) 0).val = min t.val 31 * 256 + (y 0).val := by
    show win0_2.index t (0 : Fin 2) * 256 + 1 * (y 0).val = _; rw [c0]; omega
  have e1 : (((cfg0.win 2).blk t).view.emb y : S8192x2048.Idx) 1 = (y 1 : Fin 2048) := by
    refine Fin.ext ?_
    show win0_2.index t (1 : Fin 2) * 2048 + 1 * (y 1).val = (y 1).val; rw [c1]; omega
  refine (congrArg _ (split_idx y)).trans ((Y_apply m c (upto t) (y 0) (y 1)
    (promptRow ((((cfg0.win 2).blk t).view.emb y : S8192x2048.Idx) 0)) ?_).trans ?_)
  · show ((((cfg0.win 2).blk t).view.emb y : S8192x2048.Idx) 0).val = min t.val 31 * 256 + (y 0).val
    exact e0
  · unfold Gp specPrompt
    rw [e1]

/-- and point 32 writes `Gs` to the second. -/
theorem flushed_sample (c : Dev nD) (t : Fin cfg0.N) (h : (cfg0.win 3).flush t = true) :
    (dats m 0 c).flushed 3 t = ((cfg0.win 3).blk t).view.read (Elt Ideal) (Gs m c) := by
  have h32 : t.val = 32 := by rw [flush3] at h; exact of_decide_eq_true h
  show (cfg0.win 3).cut (grid0.coords t) ((dats m 0 c).after 3 t) = _
  rw [after0_3, if_neg (by omega : ¬ t.val < 32)]
  obtain ⟨-, -, -, -, -, -, d0, d1⟩ := idx_facts t
  funext y
  have hy0 : (y 0).val < 256 := (y 0).isLt
  have hy1 : (y 1).val < 2048 := (y 1).isLt
  show Y m c t y = Gs m c (((cfg0.win 3).blk t).view.emb y)
  have e : (((cfg0.win 3).blk t).view.emb y : S256x2048.Idx) = y := funext fun a => Fin.ext (by
    match a with
    | ⟨0, _⟩ => show win0_3.index t (0 : Fin 2) * 256 + 1 * (y 0).val = (y 0).val; rw [d0]; omega
    | ⟨1, _⟩ => show win0_3.index t (1 : Fin 2) * 2048 + 1 * (y 1).val = (y 1).val; rw [d1]; omega)
  rw [e]
  refine (congrArg _ (split_idx y)).trans (Y_apply m c t (y 0) (y 1) (sampleRow (y 0)) ?_)
  show 8192 + (y 0).val = t.val * 256 + (y 0).val
  rw [h32]

/-- An entry of the first result lies in point `t`'s block when each coordinate lies in the block's range. -/
theorem mem_prompt (t : Fin cfg0.N) (i : S8192x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v1_0).slice (win0_2.rect t)).set ↔ _
  rw [View.set_slice_whole, Rect.mem_set_unit]
  exact Iff.rfl
theorem mem_sample (t : Fin cfg0.N) (i : S256x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v1_1).slice (win0_3.rect t)).set ↔ _
  rw [View.set_slice_whole, Rect.mem_set_unit]
  exact Iff.rfl

/-- Every block of the first result is written back at some point. -/
theorem written : ∀ p : Fin 32, ∃ t : Fin cfg0.N, (cfg0.win 2).flush t = true ∧ win0_2.index t (0 : Fin 2) = p.val :=
  (by decide +kernel : ∀ p : Fin 32, ∃ t : Fin grid0.N, win0_2.flush t = true ∧ win0_2.index t (0 : Fin 2) = p.val)

theorem cover_prompt (i : S8192x2048.Idx) :
    ∃ t : Fin cfg0.N, (cfg0.win 2).flush t = true ∧ i ∈ ((cfg0.win 2).blk t).view.set := by
  have h0 : (i 0).val < 8192 := (i 0).isLt
  have h1 : (i 1).val < 2048 := (i 1).isLt
  obtain ⟨t, hf, e0⟩ := written ⟨(i 0).val / 256, by omega⟩
  obtain ⟨-, -, -, -, -, c1, -, -⟩ := idx_facts t
  refine ⟨t, hf, (mem_prompt t i).2 fun a => ?_⟩
  match a with
  | ⟨0, _⟩ => show win0_2.index t (0 : Fin 2) * 256 ≤ (i 0).val ∧ (i 0).val < win0_2.index t (0 : Fin 2) * 256 + 256; dsimp only at e0; omega
  | ⟨1, _⟩ => show win0_2.index t (1 : Fin 2) * 2048 ≤ (i 1).val ∧ (i 1).val < win0_2.index t (1 : Fin 2) * 2048 + 2048; omega

theorem cover_sample (i : S256x2048.Idx) :
    ∃ t : Fin cfg0.N, (cfg0.win 3).flush t = true ∧ i ∈ ((cfg0.win 3).blk t).view.set := by
  have h0 : (i 0).val < 256 := (i 0).isLt
  have h1 : (i 1).val < 2048 := (i 1).isLt
  have hN : 32 < cfg0.N := by rw [show cfg0.N = 33 from N_0]; decide
  obtain ⟨-, -, -, -, -, -, d0, d1⟩ := idx_facts ⟨32, hN⟩
  refine ⟨⟨32, hN⟩, by rw [flush3]; rfl, (mem_sample _ i).2 fun a => ?_⟩
  match a with
  | ⟨0, _⟩ => show win0_3.index ⟨32, hN⟩ (0 : Fin 2) * 256 ≤ (i 0).val ∧ (i 0).val < win0_3.index ⟨32, hN⟩ (0 : Fin 2) * 256 + 256; omega
  | ⟨1, _⟩ => show win0_3.index ⟨32, hN⟩ (1 : Fin 2) * 2048 ≤ (i 1).val ∧ (i 1).val < win0_3.index ⟨32, hN⟩ (1 : Fin 2) * 2048 + 2048; omega

/-- The kernel's result arrays end holding the prompts' and the samples' results. -/
theorem kernel_prompt (c : Dev nD) : (dats m 0 c).arrAt 2 cfg0.N = Gp m c :=
  (dats m 0 c).arrAt_eq_of_cover 2 (Gp m c) (fun t _ => flushed_prompt m c t) cover_prompt
theorem kernel_sample (c : Dev nD) : (dats m 0 c).arrAt 3 cfg0.N = Gs m c :=
  (dats m 0 c).arrAt_eq_of_cover 3 (Gs m c) (flushed_sample m c) cover_sample

end Cert.FinalNormIdeal.Math

namespace Cert.FinalNormRefIdeal.Math

open Cert.FinalNormRefIdeal Cert.FinalNormRefIdeal.Read

/-- The sum of a prompt row's squares. -/
theorem squares_prompt (x0 : S8448x2048.Idx → EReal) (r : S8192.Idx) :
    val_main_v2 (F := Ideal) x0 r = ∑ k : Fin 2048, x0 (ix2 (Cert.FinalNormIdeal.Math.promptRow (r 0)) k) * x0 (ix2 (Cert.FinalNormIdeal.Math.promptRow (r 0)) k) := by
  rw [val_main_v2_apply, val_main_cst_apply]
  refine (congrArg (· + _) (by pointwise)).trans ((zero_add _).trans (Finset.sum_congr rfl fun k _ => ?_))
  rw [val_main_v1_apply, val_main_v0_apply]
  have e : idx_main_v0 (idx_main_v2 r k) = ix2 (Cert.FinalNormIdeal.Math.promptRow (r 0)) k := funext fun a => Fin.ext (match a with
    | ⟨0, _⟩ => rfl
    | ⟨1, _⟩ => rfl)
  rw [e]
  rfl

/-- The plain program's prompt result is `specPrompt` of its arguments. -/
theorem reference_prompt (x0 : S8448x2048.Idx → EReal) (x1 : S2048.Idx → EReal) :
    val_main_v13 (F := Ideal) x0 x1 = Cert.FinalNormIdeal.Math.specPrompt x0 x1 := by
  funext i
  rw [val_main_v13_apply, val_main_v10_apply, val_main_v9_apply, val_main_v8_apply, val_main_v7_apply,
    val_main_v5_apply, val_main_v6_apply, val_main_v4_apply, val_main_v3_apply, val_main_cst_0_apply, val_main_cst_1_apply,
    squares_prompt, val_main_v12_apply, val_main_v11_apply, val_main_v0_apply]
  have e : idx_main_v0 i = ix2 (Cert.FinalNormIdeal.Math.promptRow (i 0)) (i 1) := funext fun a => Fin.ext (match a with
    | ⟨0, _⟩ => rfl
    | ⟨1, _⟩ => rfl)
  have e' : idx_main_v11 (idx_main_v12 i) = ix1 (i 1) := funext fun a => match a with
    | ⟨0, _⟩ => rfl
  rw [e, e']
  rfl

/-- The sum of a sample row's squares. -/
theorem squares_sample (x0 : S8448x2048.Idx → EReal) (r : S256.Idx) :
    val_main_v16 (F := Ideal) x0 r = ∑ k : Fin 2048, x0 (ix2 (Cert.FinalNormIdeal.Math.sampleRow (r 0)) k) * x0 (ix2 (Cert.FinalNormIdeal.Math.sampleRow (r 0)) k) := by
  rw [val_main_v16_apply, val_main_cst_2_apply]
  refine (congrArg (· + _) (by pointwise)).trans ((zero_add _).trans (Finset.sum_congr rfl fun k _ => ?_))
  rw [val_main_v15_apply, val_main_v14_apply]
  have e : idx_main_v14 (idx_main_v16 r k) = ix2 (Cert.FinalNormIdeal.Math.sampleRow (r 0)) k := funext fun a => Fin.ext (match a with
    | ⟨0, _⟩ => rfl
    | ⟨1, _⟩ => rfl)
  rw [e]
  rfl

/-- The plain program's sample result is `specSample` of its arguments. -/
theorem reference_sample (x0 : S8448x2048.Idx → EReal) (x1 : S2048.Idx → EReal) :
    val_main_v27 (F := Ideal) x0 x1 = Cert.FinalNormIdeal.Math.specSample x0 x1 := by
  funext i
  rw [val_main_v27_apply, val_main_v24_apply, val_main_v23_apply, val_main_v22_apply, val_main_v21_apply,
    val_main_v19_apply, val_main_v20_apply, val_main_v18_apply, val_main_v17_apply, val_main_cst_3_apply, val_main_cst_4_apply,
    squares_sample, val_main_v26_apply, val_main_v25_apply, val_main_v14_apply]
  have e : idx_main_v14 i = ix2 (Cert.FinalNormIdeal.Math.sampleRow (i 0)) (i 1) := funext fun a => Fin.ext (match a with
    | ⟨0, _⟩ => rfl
    | ⟨1, _⟩ => rfl)
  have e' : idx_main_v25 (idx_main_v26 i) = ix1 (i 1) := funext fun a => match a with
    | ⟨0, _⟩ => rfl
  rw [e, e']
  rfl

end Cert.FinalNormRefIdeal.Math

end
-- ==== Proof.KvPrompt.lean ====
/-
  The key and value rows of the prompts: the result is the array of both layers' rows with the second layer's half replaced, and
  row r of this layer's half holds the columns 1024 + 128·(r mod 8) … of row r / 8 of the wide projection.
-/
module

public import proofs.«01_k».proof.Proof.KvPromptIdealBody
public import proofs.«01_k».proof.Proof.Gen.KvPromptRefIdeal.Run
public import proofs.«01_k».proof.Proof.Gen.KvPromptRefIdeal.Read
public import Idealize.ShloMosaic.Lib.Pointwise
public import Idealize.ShloMosaic.Lib.Claim

@[expose] public section

noncomputable section

open Idealize.ShloMosaic Idealize.ShloMosaic.TcCoe Idealize.SL.Sem
open Idealize.ShloMosaic.Pipeline (Dat)

namespace Cert.KvPromptIdeal.Math

open Cert.KvPromptIdeal Cert.KvPromptIdeal.Gen Cert.KvPromptIdeal.Body

/-- The row of the wide projection that row `r` of this layer's half comes from, -/
def srcRow (r : Nat) (h : r < 65536) : Fin 8448 := ⟨r / 8, by omega⟩
/-- and the column. -/
def srcCol (r c : Nat) (h : c < 128) : Fin 12800 := ⟨1024 + r % 8 * 128 + c, by omega⟩

/-- The result, entry by entry. -/
def spec (z : S8448x12800.Idx → EReal) (buf : S131072x128.Idx → EReal) : S131072x128.Idx → EReal := fun i =>
  if (i 0).val < 65536 then buf i
  else z (ix2 (srcRow ((i 0).val - 65536) (by have h : (i 0).val < 131072 := (i 0).isLt; omega)) (srcCol ((i 0).val - 65536) (i 1).val (i 1).isLt))

variable (m : (ℓ : Loc nD τ sig) → Buf (Elt Ideal) ℓ) (ρ : Dev nD → PrngReg)

/-- The result of the whole call on device `c`. -/
abbrev G (c : Dev nD) : Buf (Elt Ideal) ((c : Thread nD τ).loc main_v0) :=
  spec (m ((c : Thread nD τ).loc main_arg0)) (m ((c : Thread nD τ).loc main_arg1))

/-- How the blocks of the projection and of the result move together over the grid. -/
theorem idx_facts : ∀ t : Fin cfg0.N, win0_0.index t (0 : Fin 2) + 16 = win0_1.index t (0 : Fin 2) ∧ win0_0.index t (1 : Fin 2) = 1
    ∧ (16 ≤ win0_1.index t (0 : Fin 2) ∧ win0_1.index t (0 : Fin 2) < 32) ∧ win0_1.index t (1 : Fin 2) = 0 :=
  (by decide +kernel : ∀ t : Fin grid0.N, _)

/-- Every block of this layer's half is some point's. -/
theorem idx_onto : ∀ p : Fin 16, ∃ t : Fin cfg0.N, win0_1.index t (0 : Fin 2) = 16 + p.val :=
  (by decide +kernel : ∀ p : Fin 16, ∃ t : Fin grid0.N, win0_1.index t (0 : Fin 2) = 16 + p.val)

/-- What point `t` writes back is its block of `G`. -/
theorem flushed_eq (c : Dev nD) (t : Fin cfg0.N) :
    (dats m 0 c).flushed 1 t = ((cfg0.win 1).blk t).view.read (Elt Ideal) (G m c) := by
  show (cfg0.win 1).cut (grid0.coords t) ((dats m 0 c).after 1 t) = _
  rw [after0_1]
  obtain ⟨a0, a1, ⟨b0, b1⟩, b2⟩ := idx_facts t
  funext y
  have hy0 : (y 0).val < 4096 := (y 0).isLt
  have hy1 : (y 1).val < 128 := (y 1).isLt
  have e0 : (((cfg0.win 1).blk t).view.emb y 0).val = win0_1.index t (0 : Fin 2) * 4096 + (y 0).val := by
    show win0_1.index t (0 : Fin 2) * 4096 + 1 * (y 0).val = _; omega
  have e1 : (((cfg0.win 1).blk t).view.emb y 1).val = (y 1).val := by
    show win0_1.index t (1 : Fin 2) * 128 + 1 * (y 1).val = _; rw [b2]; omega
  show rowsOf (X0_0 m c t) y = spec _ _ (((cfg0.win 1).blk t).view.emb y)
  unfold rowsOf spec X0_0
  rw [Pipeline.Window.fill, dif_pos (moved0_0 t _), if_neg (by rw [e0]; omega)]
  show V m c main_arg0 (((cfg0.win 0).blk t).view.emb _) = _
  rw [V_main_arg0]
  refine congrArg (m ((c : Thread nD τ).loc main_arg0)) (funext fun a => Fin.ext ?_)
  match a with
  | ⟨0, _⟩ =>
    show win0_0.index t (0 : Fin 2) * 512 + 1 * ((y 0).val / 8) = ((((cfg0.win 1).blk t).view.emb y 0).val - 65536) / 8
    rw [e0]; omega
  | ⟨1, _⟩ =>
    show win0_0.index t (1 : Fin 2) * 1024 + 1 * ((y 0).val % 8 * 128 + (y 1).val)
      = 1024 + ((((cfg0.win 1).blk t).view.emb y 0).val - 65536) % 8 * 128 + (((cfg0.win 1).blk t).view.emb y 1).val
    rw [e0, e1, a1]; omega

/-- An entry of the result lies in point `t`'s block when each coordinate lies in the block's range. -/
theorem mem_blk (t : Fin cfg0.N) (i : S131072x128.Idx) :
    i ∈ ((cfg0.win 1).blk t).view.set ↔ ∀ a : Fin 2, win0_1.index t a * S4096x128.size a ≤ (i a).val ∧ (i a).val < win0_1.index t a * S4096x128.size a + S4096x128.size a := by
  show i ∈ ((View.whole main_v0).slice (win0_1.rect t)).set ↔ _
  rw [View.set_slice_whole, Rect.mem_set_unit]
  exact Iff.rfl

/-- The blocks fill this layer's half of the result. -/
theorem cover (i : S131072x128.Idx) (h : ¬ (i 0).val < 65536) :
    ∃ t : Fin cfg0.N, (cfg0.win 1).flush t = true ∧ i ∈ ((cfg0.win 1).blk t).view.set := by
  have h0 : (i 0).val < 131072 := (i 0).isLt
  have h1 : (i 1).val < 128 := (i 1).isLt
  obtain ⟨t, e0⟩ := idx_onto ⟨(i 0).val / 4096 - 16, by omega⟩
  obtain ⟨-, -, -, b2⟩ := idx_facts t
  refine ⟨t, flush0_1 t, (mem_blk t i).2 fun a => ?_⟩
  match a with
  | ⟨0, _⟩ => show win0_1.index t (0 : Fin 2) * 4096 ≤ (i 0).val ∧ (i 0).val < win0_1.index t (0 : Fin 2) * 4096 + 4096; dsimp only at e0; omega
  | ⟨1, _⟩ => show win0_1.index t (1 : Fin 2) * 128 ≤ (i 1).val ∧ (i 1).val < win0_1.index t (1 : Fin 2) * 128 + 128; rw [b2]; omega

/-- The result's array starts as the array of both layers' rows that was given. -/
theorem start_eq (c : Dev nD) : V m c main_v0 = m ((c : Thread nD τ).loc main_arg1) := by
  have e : V m c main_v0 = id (m ((c : Thread nD τ).loc main_arg1)) := by
    unfold_abbrev_sides
    after_results <;> rfl
  exact e

/-- The kernel's result array ends holding `spec` of its arguments. -/
theorem kernel_value (c : Dev nD) : (dats m 0 c).arrAt 1 cfg0.N = G m c := by
  funext i
  rw [(dats m 0 c).arrAt_eq_piecewise 1 (G m c) (fun t _ => flushed_eq m c t) i]
  split
  · rfl
  · rename_i hn
    have hi : (i 0).val < 65536 := by
      by_contra h
      exact hn (cover i h)
    rw [A_eq]
    show V m c main_v0 i = spec _ _ i
    rw [start_eq]
    unfold spec
    rw [if_pos hi]

end Cert.KvPromptIdeal.Math

namespace Cert.KvPromptRefIdeal.Math

open Cert.KvPromptRefIdeal Cert.KvPromptRefIdeal.Read

/-- Where row `r`, column `c` of this layer's half comes from, through the plain program's reshapes. -/
theorem source (r c : Nat) (hr : r < 65536) (hc : c < 128) :
    ((((((r * 128 + c) / 4194304) * 4096 + ((r * 128 + c) / 1024 % 4096)) * 6 + ((r * 128 + c) / 256 % 4)) * 2 + (r * 128 + c) / 128 % 2) * 128 + (r * 128 + c) % 128) / 1536 = r / 8 ∧ 1024 + ((((((r * 128 + c) / 4194304) * 4096 + ((r * 128 + c) / 1024 % 4096)) * 6 + ((r * 128 + c) / 256 % 4)) * 2 + (r * 128 + c) / 128 % 2) * 128 + (r * 128 + c) % 128) % 1536 = 1024 + r % 8 * 128 + c := by
  constructor <;> omega

/-- The plain program's result is `spec` of its arguments. -/
theorem reference_value (x0 : S8448x12800.Idx → EReal) (x1 : S131072x128.Idx → EReal) :
    val_main_v5 (F := Ideal) x0 x1 = Cert.KvPromptIdeal.Math.spec x0 x1 := by
  funext i
  have h0 : (i 0).val < 131072 := (i 0).isLt
  have h1 : (i 1).val < 128 := (i 1).isLt
  unfold val_main_v5 Cert.KvPromptIdeal.Math.spec
  by_cases h : (i 0).val < 65536
  · rw [if_pos h]
    refine (concatenate_pair_apply_left (s₁ := S65536x128) (s₂ := S65536x128) 0 _ _ _ i rfl (ix2 ⟨(i 0).val, h⟩ (i 1)) ?_).trans ?_
    · intro b
      match b with
      | ⟨0, _⟩ => rfl
      | ⟨1, _⟩ => rfl
    · rw [val_main_v2_apply]
      refine congrArg x1 (funext fun a => ?_)
      match a with
      | ⟨0, _⟩ => rfl
      | ⟨1, _⟩ => rfl
  · rw [if_neg h]
    refine (concatenate_pair_apply_right (s₁ := S65536x128) (s₂ := S65536x128) 0 _ _ _ i rfl rfl (ix2 ⟨(i 0).val - 65536, by omega⟩ (i 1)) ?_ ?_).trans ?_
    · intro b hb
      match b with
      | ⟨0, _⟩ => exact absurd rfl hb
      | ⟨1, _⟩ => rfl
    · show (i 0).val - 65536 + 65536 = (i 0).val; omega
    · rw [val_main_v4_apply, val_main_v3_apply, val_main_v1_apply, val_main_v0_apply]
      have hr : (i 0).val - 65536 < 65536 := by omega
      refine congrArg x0 (funext fun a => Fin.ext ?_)
      match a with
      | ⟨0, _⟩ => exact (source _ _ hr h1).1
      | ⟨1, _⟩ => exact (source _ _ hr h1).2

end Cert.KvPromptRefIdeal.Math

end
-- ==== Proof.KvSample.lean ====
/-
  The key and value rows of the samples: the result is the array of both layers' rows with the second layer's half replaced, and
  row r of this layer's half holds the columns 1024 + 128·(r mod 8) … of row 8192 + r / 8 of the wide projection.
-/
module

public import proofs.«01_k».proof.Proof.KvSampleIdealBody
public import proofs.«01_k».proof.Proof.Gen.KvSampleRefIdeal.Run
public import proofs.«01_k».proof.Proof.Gen.KvSampleRefIdeal.Read
public import Idealize.ShloMosaic.Lib.Pointwise
public import Idealize.ShloMosaic.Lib.Claim

@[expose] public section

noncomputable section

open Idealize.ShloMosaic Idealize.ShloMosaic.TcCoe Idealize.SL.Sem
open Idealize.ShloMosaic.Pipeline (Dat)

namespace Cert.KvSampleIdeal.Math

open Cert.KvSampleIdeal Cert.KvSampleIdeal.Gen Cert.KvSampleIdeal.Body

/-- The row of the wide projection that row `r` of this layer's half comes from, -/
def srcRow (r : Nat) (h : r < 2048) : Fin 8448 := ⟨8192 + r / 8, by omega⟩
/-- and the column. -/
def srcCol (r c : Nat) (h : c < 128) : Fin 12800 := ⟨1024 + r % 8 * 128 + c, by omega⟩

/-- The result, entry by entry. -/
def spec (z : S8448x12800.Idx → EReal) (buf : S4096x128.Idx → EReal) : S4096x128.Idx → EReal := fun i =>
  if (i 0).val < 2048 then buf i
  else z (ix2 (srcRow ((i 0).val - 2048) (by have h : (i 0).val < 4096 := (i 0).isLt; omega)) (srcCol ((i 0).val - 2048) (i 1).val (i 1).isLt))

variable (m : (ℓ : Loc nD τ sig) → Buf (Elt Ideal) ℓ) (ρ : Dev nD → PrngReg)

/-- The result of the whole call on device `c`. -/
abbrev G (c : Dev nD) : Buf (Elt Ideal) ((c : Thread nD τ).loc main_v0) :=
  spec (m ((c : Thread nD τ).loc main_arg0)) (m ((c : Thread nD τ).loc main_arg1))

/-- How the blocks of the projection and of the result move together over the grid. -/
theorem idx_facts : ∀ t : Fin cfg0.N, win0_0.index t (0 : Fin 2) = win0_1.index t (0 : Fin 2) + 31 ∧ win0_0.index t (1 : Fin 2) = 1
    ∧ (1 ≤ win0_1.index t (0 : Fin 2) ∧ win0_1.index t (0 : Fin 2) < 2) ∧ win0_1.index t (1 : Fin 2) = 0 :=
  (by decide +kernel : ∀ t : Fin grid0.N, _)

/-- Every block of this layer's half is some point's. -/
theorem idx_onto : ∀ p : Fin 1, ∃ t : Fin cfg0.N, win0_1.index t (0 : Fin 2) = 1 + p.val :=
  (by decide +kernel : ∀ p : Fin 1, ∃ t : Fin grid0.N, win0_1.index t (0 : Fin 2) = 1 + p.val)

/-- What point `t` writes back is its block of `G`. -/
theorem flushed_eq (c : Dev nD) (t : Fin cfg0.N) :
    (dats m 0 c).flushed 1 t = ((cfg0.win 1).blk t).view.read (Elt Ideal) (G m c) := by
  show (cfg0.win 1).cut (grid0.coords t) ((dats m 0 c).after 1 t) = _
  rw [after0_1]
  obtain ⟨a0, a1, ⟨b0, b1⟩, b2⟩ := idx_facts t
  funext y
  have hy0 : (y 0).val < 2048 := (y 0).isLt
  have hy1 : (y 1).val < 128 := (y 1).isLt
  have e0 : (((cfg0.win 1).blk t).view.emb y 0).val = win0_1.index t (0 : Fin 2) * 2048 + (y 0).val := by
    show win0_1.index t (0 : Fin 2) * 2048 + 1 * (y 0).val = _; omega
  have e1 : (((cfg0.win 1).blk t).view.emb y 1).val = (y 1).val := by
    show win0_1.index t (1 : Fin 2) * 128 + 1 * (y 1).val = _; rw [b2]; omega
  show rowsOf (X0_0 m c t) y = spec _ _ (((cfg0.win 1).blk t).view.emb y)
  unfold rowsOf spec X0_0
  rw [Pipeline.Window.fill, dif_pos (moved0_0 t _), if_neg (by rw [e0]; omega)]
  show V m c main_arg0 (((cfg0.win 0).blk t).view.emb _) = _
  rw [V_main_arg0]
  refine congrArg (m ((c : Thread nD τ).loc main_arg0)) (funext fun a => Fin.ext ?_)
  match a with
  | ⟨0, _⟩ =>
    show win0_0.index t (0 : Fin 2) * 256 + 1 * ((y 0).val / 8) = 8192 + ((((cfg0.win 1).blk t).view.emb y 0).val - 2048) / 8
    rw [e0]; omega
  | ⟨1, _⟩ =>
    show win0_0.index t (1 : Fin 2) * 1024 + 1 * ((y 0).val % 8 * 128 + (y 1).val)
      = 1024 + ((((cfg0.win 1).blk t).view.emb y 0).val - 2048) % 8 * 128 + (((cfg0.win 1).blk t).view.emb y 1).val
    rw [e0, e1, a1]; omega

/-- An entry of the result lies in point `t`'s block when each coordinate lies in the block's range. -/
theorem mem_blk (t : Fin cfg0.N) (i : S4096x128.Idx) :
    i ∈ ((cfg0.win 1).blk t).view.set ↔ ∀ a : Fin 2, win0_1.index t a * S2048x128.size a ≤ (i a).val ∧ (i a).val < win0_1.index t a * S2048x128.size a + S2048x128.size a := by
  show i ∈ ((View.whole main_v0).slice (win0_1.rect t)).set ↔ _
  rw [View.set_slice_whole, Rect.mem_set_unit]
  exact Iff.rfl

/-- The blocks fill this layer's half of the result. -/
theorem cover (i : S4096x128.Idx) (h : ¬ (i 0).val < 2048) :
    ∃ t : Fin cfg0.N, (cfg0.win 1).flush t = true ∧ i ∈ ((cfg0.win 1).blk t).view.set := by
  have h0 : (i 0).val < 4096 := (i 0).isLt
  have h1 : (i 1).val < 128 := (i 1).isLt
  obtain ⟨t, e0⟩ := idx_onto ⟨(i 0).val / 2048 - 1, by omega⟩
  obtain ⟨-, -, -, b2⟩ := idx_facts t
  refine ⟨t, flush0_1 t, (mem_blk t i).2 fun a => ?_⟩
  match a with
  | ⟨0, _⟩ => show win0_1.index t (0 : Fin 2) * 2048 ≤ (i 0).val ∧ (i 0).val < win0_1.index t (0 : Fin 2) * 2048 + 2048; dsimp only at e0; omega
  | ⟨1, _⟩ => show win0_1.index t (1 : Fin 2) * 128 ≤ (i 1).val ∧ (i 1).val < win0_1.index t (1 : Fin 2) * 128 + 128; rw [b2]; omega

/-- The result's array starts as the array of both layers' rows that was given. -/
theorem start_eq (c : Dev nD) : V m c main_v0 = m ((c : Thread nD τ).loc main_arg1) := by
  have e : V m c main_v0 = id (m ((c : Thread nD τ).loc main_arg1)) := by
    unfold_abbrev_sides
    after_results <;> rfl
  exact e

/-- The kernel's result array ends holding `spec` of its arguments. -/
theorem kernel_value (c : Dev nD) : (dats m 0 c).arrAt 1 cfg0.N = G m c := by
  funext i
  rw [(dats m 0 c).arrAt_eq_piecewise 1 (G m c) (fun t _ => flushed_eq m c t) i]
  split
  · rfl
  · rename_i hn
    have hi : (i 0).val < 2048 := by
      by_contra h
      exact hn (cover i h)
    rw [A_eq]
    show V m c main_v0 i = spec _ _ i
    rw [start_eq]
    unfold spec
    rw [if_pos hi]

end Cert.KvSampleIdeal.Math

namespace Cert.KvSampleRefIdeal.Math

open Cert.KvSampleRefIdeal Cert.KvSampleRefIdeal.Read

/-- Where row `r`, column `c` of this layer's half comes from, through the plain program's reshapes. -/
theorem source (r c : Nat) (hr : r < 2048) (hc : c < 128) :
    8192 + ((((((r * 128 + c) / 8192) * 8 + ((r * 128 + c) / 1024 % 8)) * 6 + ((r * 128 + c) / 256 % 4)) * 2 + (r * 128 + c) / 128 % 2) * 128 + (r * 128 + c) % 128) / 1536 = 8192 + r / 8 ∧ 1024 + ((((((r * 128 + c) / 8192) * 8 + ((r * 128 + c) / 1024 % 8)) * 6 + ((r * 128 + c) / 256 % 4)) * 2 + (r * 128 + c) / 128 % 2) * 128 + (r * 128 + c) % 128) % 1536 = 1024 + r % 8 * 128 + c := by
  constructor <;> omega

/-- The plain program's result is `spec` of its arguments. -/
theorem reference_value (x0 : S8448x12800.Idx → EReal) (x1 : S4096x128.Idx → EReal) :
    val_main_v5 (F := Ideal) x0 x1 = Cert.KvSampleIdeal.Math.spec x0 x1 := by
  funext i
  have h0 : (i 0).val < 4096 := (i 0).isLt
  have h1 : (i 1).val < 128 := (i 1).isLt
  unfold val_main_v5 Cert.KvSampleIdeal.Math.spec
  by_cases h : (i 0).val < 2048
  · rw [if_pos h]
    refine (concatenate_pair_apply_left (s₁ := S2048x128) (s₂ := S2048x128) 0 _ _ _ i rfl (ix2 ⟨(i 0).val, h⟩ (i 1)) ?_).trans ?_
    · intro b
      match b with
      | ⟨0, _⟩ => rfl
      | ⟨1, _⟩ => rfl
    · rw [val_main_v2_apply]
      refine congrArg x1 (funext fun a => ?_)
      match a with
      | ⟨0, _⟩ => rfl
      | ⟨1, _⟩ => rfl
  · rw [if_neg h]
    refine (concatenate_pair_apply_right (s₁ := S2048x128) (s₂ := S2048x128) 0 _ _ _ i rfl rfl (ix2 ⟨(i 0).val - 2048, by omega⟩ (i 1)) ?_ ?_).trans ?_
    · intro b hb
      match b with
      | ⟨0, _⟩ => exact absurd rfl hb
      | ⟨1, _⟩ => rfl
    · show (i 0).val - 2048 + 2048 = (i 0).val; omega
    · rw [val_main_v4_apply, val_main_v3_apply, val_main_v1_apply, val_main_v0_apply]
      have hr : (i 0).val - 2048 < 2048 := by omega
      refine congrArg x0 (funext fun a => Fin.ext ?_)
      match a with
      | ⟨0, _⟩ => exact (source _ _ hr h1).1
      | ⟨1, _⟩ => exact (source _ _ hr h1).2

end Cert.KvSampleRefIdeal.Math

end
-- ==== Proof.WinPrompt.lean ====
/-
  The window rows of the prompts: the result is the array of both layers' rows with the second layer's half replaced, and
  row r of this layer's half, of prompt s = r / 2048, holds the columns 2048 + 128·(r mod 4) … of row 4096·s + 3584 + (r mod 2048) / 4 of the wide projection.
-/
module

public import proofs.«01_k».proof.Proof.WinPromptIdealBody
public import proofs.«01_k».proof.Proof.Gen.WinPromptRefIdeal.Run
public import proofs.«01_k».proof.Proof.Gen.WinPromptRefIdeal.Read
public import Idealize.ShloMosaic.Lib.Pointwise
public import Idealize.ShloMosaic.Lib.Claim

@[expose] public section

noncomputable section

open Idealize.ShloMosaic Idealize.ShloMosaic.TcCoe Idealize.SL.Sem
open Idealize.ShloMosaic.Pipeline (Dat)

namespace Cert.WinPromptIdeal.Math

open Cert.WinPromptIdeal Cert.WinPromptIdeal.Gen Cert.WinPromptIdeal.Body

/-- The row of the wide projection that row `r` of this layer's half comes from, -/
def srcRow (r : Nat) (h : r < 4096) : Fin 8448 := ⟨r / 2048 * 4096 + 3584 + r % 2048 / 4, by omega⟩
/-- and the column. -/
def srcCol (r c : Nat) (h : c < 128) : Fin 12800 := ⟨2048 + r % 4 * 128 + c, by omega⟩

/-- The result, entry by entry. -/
def spec (z : S8448x12800.Idx → EReal) (buf : S8192x128.Idx → EReal) : S8192x128.Idx → EReal := fun i =>
  if (i 0).val < 4096 then buf i
  else z (ix2 (srcRow ((i 0).val - 4096) (by have h : (i 0).val < 8192 := (i 0).isLt; omega)) (srcCol ((i 0).val - 4096) (i 1).val (i 1).isLt))

variable (m : (ℓ : Loc nD τ sig) → Buf (Elt Ideal) ℓ) (ρ : Dev nD → PrngReg)

/-- The result of the whole call on device `c`. -/
abbrev G (c : Dev nD) : Buf (Elt Ideal) ((c : Thread nD τ).loc main_v0) :=
  spec (m ((c : Thread nD τ).loc main_arg0)) (m ((c : Thread nD τ).loc main_arg1))

/-- How the blocks of the projection and of the result move together over the grid. -/
theorem idx_facts : ∀ t : Fin cfg0.N, win0_0.index t (0 : Fin 2) + 9 = 8 * win0_1.index t (0 : Fin 2) ∧ win0_0.index t (1 : Fin 2) = 4
    ∧ (2 ≤ win0_1.index t (0 : Fin 2) ∧ win0_1.index t (0 : Fin 2) < 4) ∧ win0_1.index t (1 : Fin 2) = 0 :=
  (by decide +kernel : ∀ t : Fin grid0.N, _)

/-- Every block of this layer's half is some point's. -/
theorem idx_onto : ∀ p : Fin 2, ∃ t : Fin cfg0.N, win0_1.index t (0 : Fin 2) = 2 + p.val :=
  (by decide +kernel : ∀ p : Fin 2, ∃ t : Fin grid0.N, win0_1.index t (0 : Fin 2) = 2 + p.val)

/-- What point `t` writes back is its block of `G`. -/
theorem flushed_eq (c : Dev nD) (t : Fin cfg0.N) :
    (dats m 0 c).flushed 1 t = ((cfg0.win 1).blk t).view.read (Elt Ideal) (G m c) := by
  show (cfg0.win 1).cut (grid0.coords t) ((dats m 0 c).after 1 t) = _
  rw [after0_1]
  obtain ⟨a0, a1, ⟨b0, b1⟩, b2⟩ := idx_facts t
  funext y
  have hy0 : (y 0).val < 2048 := (y 0).isLt
  have hy1 : (y 1).val < 128 := (y 1).isLt
  have e0 : (((cfg0.win 1).blk t).view.emb y 0).val = win0_1.index t (0 : Fin 2) * 2048 + (y 0).val := by
    show win0_1.index t (0 : Fin 2) * 2048 + 1 * (y 0).val = _; omega
  have e1 : (((cfg0.win 1).blk t).view.emb y 1).val = (y 1).val := by
    show win0_1.index t (1 : Fin 2) * 128 + 1 * (y 1).val = _; rw [b2]; omega
  show rowsOf (X0_0 m c t) y = spec _ _ (((cfg0.win 1).blk t).view.emb y)
  unfold rowsOf spec X0_0
  rw [Pipeline.Window.fill, dif_pos (moved0_0 t _), if_neg (by rw [e0]; omega)]
  show V m c main_arg0 (((cfg0.win 0).blk t).view.emb _) = _
  rw [V_main_arg0]
  refine congrArg (m ((c : Thread nD τ).loc main_arg0)) (funext fun a => Fin.ext ?_)
  match a with
  | ⟨0, _⟩ =>
    show win0_0.index t (0 : Fin 2) * 512 + 1 * ((y 0).val / 4) = ((((cfg0.win 1).blk t).view.emb y 0).val - 4096) / 2048 * 4096 + 3584 + ((((cfg0.win 1).blk t).view.emb y 0).val - 4096) % 2048 / 4
    rw [e0]; omega
  | ⟨1, _⟩ =>
    show win0_0.index t (1 : Fin 2) * 512 + 1 * ((y 0).val % 4 * 128 + (y 1).val)
      = 2048 + ((((cfg0.win 1).blk t).view.emb y 0).val - 4096) % 4 * 128 + (((cfg0.win 1).blk t).view.emb y 1).val
    rw [e0, e1, a1]; omega

/-- An entry of the result lies in point `t`'s block when each coordinate lies in the block's range. -/
theorem mem_blk (t : Fin cfg0.N) (i : S8192x128.Idx) :
    i ∈ ((cfg0.win 1).blk t).view.set ↔ ∀ a : Fin 2, win0_1.index t a * S2048x128.size a ≤ (i a).val ∧ (i a).val < win0_1.index t a * S2048x128.size a + S2048x128.size a := by
  show i ∈ ((View.whole main_v0).slice (win0_1.rect t)).set ↔ _
  rw [View.set_slice_whole, Rect.mem_set_unit]
  exact Iff.rfl

/-- The blocks fill this layer's half of the result. -/
theorem cover (i : S8192x128.Idx) (h : ¬ (i 0).val < 4096) :
    ∃ t : Fin cfg0.N, (cfg0.win 1).flush t = true ∧ i ∈ ((cfg0.win 1).blk t).view.set := by
  have h0 : (i 0).val < 8192 := (i 0).isLt
  have h1 : (i 1).val < 128 := (i 1).isLt
  obtain ⟨t, e0⟩ := idx_onto ⟨(i 0).val / 2048 - 2, by omega⟩
  obtain ⟨-, -, -, b2⟩ := idx_facts t
  refine ⟨t, flush0_1 t, (mem_blk t i).2 fun a => ?_⟩
  match a with
  | ⟨0, _⟩ => show win0_1.index t (0 : Fin 2) * 2048 ≤ (i 0).val ∧ (i 0).val < win0_1.index t (0 : Fin 2) * 2048 + 2048; dsimp only at e0; omega
  | ⟨1, _⟩ => show win0_1.index t (1 : Fin 2) * 128 ≤ (i 1).val ∧ (i 1).val < win0_1.index t (1 : Fin 2) * 128 + 128; rw [b2]; omega

/-- The result's array starts as the array of both layers' rows that was given. -/
theorem start_eq (c : Dev nD) : V m c main_v0 = m ((c : Thread nD τ).loc main_arg1) := by
  have e : V m c main_v0 = id (m ((c : Thread nD τ).loc main_arg1)) := by
    unfold_abbrev_sides
    after_results <;> rfl
  exact e

/-- The kernel's result array ends holding `spec` of its arguments. -/
theorem kernel_value (c : Dev nD) : (dats m 0 c).arrAt 1 cfg0.N = G m c := by
  funext i
  rw [(dats m 0 c).arrAt_eq_piecewise 1 (G m c) (fun t _ => flushed_eq m c t) i]
  split
  · rfl
  · rename_i hn
    have hi : (i 0).val < 4096 := by
      by_contra h
      exact hn (cover i h)
    rw [A_eq]
    show V m c main_v0 i = spec _ _ i
    rw [start_eq]
    unfold spec
    rw [if_pos hi]

end Cert.WinPromptIdeal.Math

namespace Cert.WinPromptRefIdeal.Math

open Cert.WinPromptRefIdeal Cert.WinPromptRefIdeal.Read

/-- Where row `r`, column `c` of this layer's half comes from, through the plain program's reshapes. -/
theorem source (r c : Nat) (hr : r < 4096) (hc : c < 128) :
    ((((((r * 128 + c) / 262144) * 4096 + (3584 + (r * 128 + c) / 512 % 512)) * 6 + (4 + (r * 128 + c) / 256 % 2)) * 2 + (r * 128 + c) / 128 % 2) * 128 + (r * 128 + c) % 128) / 1536 = r / 2048 * 4096 + 3584 + r % 2048 / 4 ∧ 1024 + ((((((r * 128 + c) / 262144) * 4096 + (3584 + (r * 128 + c) / 512 % 512)) * 6 + (4 + (r * 128 + c) / 256 % 2)) * 2 + (r * 128 + c) / 128 % 2) * 128 + (r * 128 + c) % 128) % 1536 = 2048 + r % 4 * 128 + c := by
  constructor <;> omega

/-- The plain program's result is `spec` of its arguments. -/
theorem reference_value (x0 : S8448x12800.Idx → EReal) (x1 : S8192x128.Idx → EReal) :
    val_main_v5 (F := Ideal) x0 x1 = Cert.WinPromptIdeal.Math.spec x0 x1 := by
  funext i
  have h0 : (i 0).val < 8192 := (i 0).isLt
  have h1 : (i 1).val < 128 := (i 1).isLt
  unfold val_main_v5 Cert.WinPromptIdeal.Math.spec
  by_cases h : (i 0).val < 4096
  · rw [if_pos h]
    refine (concatenate_pair_apply_left (s₁ := S4096x128) (s₂ := S4096x128) 0 _ _ _ i rfl (ix2 ⟨(i 0).val, h⟩ (i 1)) ?_).trans ?_
    · intro b
      match b with
      | ⟨0, _⟩ => rfl
      | ⟨1, _⟩ => rfl
    · rw [val_main_v2_apply]
      refine congrArg x1 (funext fun a => ?_)
      match a with
      | ⟨0, _⟩ => rfl
      | ⟨1, _⟩ => rfl
  · rw [if_neg h]
    refine (concatenate_pair_apply_right (s₁ := S4096x128) (s₂ := S4096x128) 0 _ _ _ i rfl rfl (ix2 ⟨(i 0).val - 4096, by omega⟩ (i 1)) ?_ ?_).trans ?_
    · intro b hb
      match b with
      | ⟨0, _⟩ => exact absurd rfl hb
      | ⟨1, _⟩ => rfl
    · show (i 0).val - 4096 + 4096 = (i 0).val; omega
    · rw [val_main_v4_apply, val_main_v3_apply, val_main_v1_apply, val_main_v0_apply]
      have hr : (i 0).val - 4096 < 4096 := by omega
      refine congrArg x0 (funext fun a => Fin.ext ?_)
      match a with
      | ⟨0, _⟩ => exact (source _ _ hr h1).1
      | ⟨1, _⟩ => exact (source _ _ hr h1).2

end Cert.WinPromptRefIdeal.Math

end
-- ==== Proof.ClaimsRows.lean ====
/-
  The value claims of the normalisations and of the copies of rows, each put together from the call's own module: the
  kernel's run leaves `spec` of the arguments in the result array, so does the plain program's.
-/
module

public import proofs.«01_k».proof.Defs
public import proofs.«01_k».proof.Proof.Norm
public import proofs.«01_k».proof.Proof.FinalNorm
public import proofs.«01_k».proof.Proof.KvPrompt
public import proofs.«01_k».proof.Proof.KvSample
public import proofs.«01_k».proof.Proof.WinPrompt

@[expose] public section

noncomputable section

open Idealize.ShloMosaic Idealize.ShloMosaic.TcCoe Idealize.SL.Sem

namespace Cert.Proof

/-- The plain program of the layer's first normalisation runs and leaves its arguments alone. -/
theorem frame_NormRef : Cert.quiescent_NormRefIdeal (hNormRefIdeal := Cert.NormRefIdeal.Gen.facts) :=
  fun m ρ _ => θ_run_mono (Cert.NormRefIdeal.Value.run m ρ) fun r h =>
    ⟨fun c => (h c).2, sem_eq_zero_of_no_sems (by decide) r.2⟩

/-- The layer's first normalisation: kernel and plain program end with the same result. -/
theorem algebraic_Norm : Cert.algebraic_NormIdeal_NormRefIdeal (hNormIdeal := Cert.NormIdeal.Gen.facts)
    (hNormRefIdeal := Cert.NormRefIdeal.Gen.facts) := by
  intro m g m' g' _ hagree
  refine ⟨fun c => Cert.NormIdeal.Math.G m c, ?_, ?_⟩
  · exact θ_run_mono (Cert.NormIdeal.Value.run_blocks m g) fun r h c =>
      ⟨(h c).1.trans (Cert.NormIdeal.Math.kernel_value m c), (h c).2⟩
  · refine θ_run_mono (Cert.NormRefIdeal.Value.run m' g') fun r h c => ⟨(h c).1.trans ?_, (h c).2⟩
    obtain ⟨h0, h1⟩ := hagree c
    refine (Cert.NormRefIdeal.Read.val_main_v15_eq _ _).trans ?_
    refine (Cert.NormRefIdeal.Math.reference_value _ _).trans ?_
    rw [h0, h1]
    all_goals rfl

/-- The plain program of the last normalisation runs and leaves its arguments alone. -/
theorem frame_FinalNormRef : Cert.quiescent_FinalNormRefIdeal (hFinalNormRefIdeal := Cert.FinalNormRefIdeal.Gen.facts) :=
  fun m ρ _ => θ_run_mono (Cert.FinalNormRefIdeal.Value.run m ρ) fun r h =>
    ⟨fun c => (h c).2.2, sem_eq_zero_of_no_sems (by decide) r.2⟩

/-- The last normalisation: kernel and plain program end with the same results. -/
theorem algebraic_FinalNorm : Cert.algebraic_FinalNormIdeal_FinalNormRefIdeal (hFinalNormIdeal := Cert.FinalNormIdeal.Gen.facts)
    (hFinalNormRefIdeal := Cert.FinalNormRefIdeal.Gen.facts) := by
  intro m g m' g' _ hagree
  refine ⟨fun c => Cert.FinalNormIdeal.Math.Gp m c, fun c => Cert.FinalNormIdeal.Math.Gs m c, ?_, ?_⟩
  · exact θ_run_mono (Cert.FinalNormIdeal.Body.run_blocks m g) fun r h c =>
      ⟨(h c).1.trans (Cert.FinalNormIdeal.Math.kernel_prompt m c), (h c).2.1.trans (Cert.FinalNormIdeal.Math.kernel_sample m c), (h c).2.2⟩
  · refine θ_run_mono (Cert.FinalNormRefIdeal.Value.run m' g') fun r h c => ⟨(h c).1.trans ?_, (h c).2.1.trans ?_, (h c).2.2⟩
    · obtain ⟨h0, h1⟩ := hagree c
      refine (Cert.FinalNormRefIdeal.Read.val_main_v13_eq _ _).trans ?_
      refine (Cert.FinalNormRefIdeal.Math.reference_prompt _ _).trans ?_
      rw [h0, h1]
      all_goals rfl
    · obtain ⟨h0, h1⟩ := hagree c
      refine (Cert.FinalNormRefIdeal.Read.val_main_v27_eq _ _).trans ?_
      refine (Cert.FinalNormRefIdeal.Math.reference_sample _ _).trans ?_
      rw [h0, h1]
      all_goals rfl

/-- The plain program of the prompts' key and value rows runs and leaves its arguments alone. -/
theorem frame_KvPromptRef : Cert.quiescent_KvPromptRefIdeal (hKvPromptRefIdeal := Cert.KvPromptRefIdeal.Gen.facts) :=
  fun m ρ _ => θ_run_mono (Cert.KvPromptRefIdeal.Value.run m ρ) fun r h =>
    ⟨fun c => (h c).2, sem_eq_zero_of_no_sems (by decide) r.2⟩

/-- The prompts' key and value rows: kernel and plain program end with the same result. -/
theorem algebraic_KvPrompt : Cert.algebraic_KvPromptIdeal_KvPromptRefIdeal (hKvPromptIdeal := Cert.KvPromptIdeal.Gen.facts)
    (hKvPromptRefIdeal := Cert.KvPromptRefIdeal.Gen.facts) := by
  intro m g m' g' _ hagree
  refine ⟨fun c => Cert.KvPromptIdeal.Math.G m c, ?_, ?_⟩
  · exact θ_run_mono (Cert.KvPromptIdeal.Body.run_blocks m g) fun r h c =>
      ⟨(h c).1.trans (Cert.KvPromptIdeal.Math.kernel_value m c), (h c).2⟩
  · refine θ_run_mono (Cert.KvPromptRefIdeal.Value.run m' g') fun r h c => ⟨(h c).1.trans ?_, (h c).2⟩
    obtain ⟨h0, h1⟩ := hagree c
    refine (Cert.KvPromptRefIdeal.Read.val_main_v5_eq _ _).trans ?_
    refine (Cert.KvPromptRefIdeal.Math.reference_value _ _).trans ?_
    rw [h0, h1]
    all_goals rfl

/-- The plain program of the samples' key and value rows runs and leaves its arguments alone. -/
theorem frame_KvSampleRef : Cert.quiescent_KvSampleRefIdeal (hKvSampleRefIdeal := Cert.KvSampleRefIdeal.Gen.facts) :=
  fun m ρ _ => θ_run_mono (Cert.KvSampleRefIdeal.Value.run m ρ) fun r h =>
    ⟨fun c => (h c).2, sem_eq_zero_of_no_sems (by decide) r.2⟩

/-- The samples' key and value rows: kernel and plain program end with the same result. -/
theorem algebraic_KvSample : Cert.algebraic_KvSampleIdeal_KvSampleRefIdeal (hKvSampleIdeal := Cert.KvSampleIdeal.Gen.facts)
    (hKvSampleRefIdeal := Cert.KvSampleRefIdeal.Gen.facts) := by
  intro m g m' g' _ hagree
  refine ⟨fun c => Cert.KvSampleIdeal.Math.G m c, ?_, ?_⟩
  · exact θ_run_mono (Cert.KvSampleIdeal.Body.run_blocks m g) fun r h c =>
      ⟨(h c).1.trans (Cert.KvSampleIdeal.Math.kernel_value m c), (h c).2⟩
  · refine θ_run_mono (Cert.KvSampleRefIdeal.Value.run m' g') fun r h c => ⟨(h c).1.trans ?_, (h c).2⟩
    obtain ⟨h0, h1⟩ := hagree c
    refine (Cert.KvSampleRefIdeal.Read.val_main_v5_eq _ _).trans ?_
    refine (Cert.KvSampleRefIdeal.Math.reference_value _ _).trans ?_
    rw [h0, h1]
    all_goals rfl

/-- The plain program of the prompts' window rows runs and leaves its arguments alone. -/
theorem frame_WinPromptRef : Cert.quiescent_WinPromptRefIdeal (hWinPromptRefIdeal := Cert.WinPromptRefIdeal.Gen.facts) :=
  fun m ρ _ => θ_run_mono (Cert.WinPromptRefIdeal.Value.run m ρ) fun r h =>
    ⟨fun c => (h c).2, sem_eq_zero_of_no_sems (by decide) r.2⟩

/-- The prompts' window rows: kernel and plain program end with the same result. -/
theorem algebraic_WinPrompt : Cert.algebraic_WinPromptIdeal_WinPromptRefIdeal (hWinPromptIdeal := Cert.WinPromptIdeal.Gen.facts)
    (hWinPromptRefIdeal := Cert.WinPromptRefIdeal.Gen.facts) := by
  intro m g m' g' _ hagree
  refine ⟨fun c => Cert.WinPromptIdeal.Math.G m c, ?_, ?_⟩
  · exact θ_run_mono (Cert.WinPromptIdeal.Body.run_blocks m g) fun r h c =>
      ⟨(h c).1.trans (Cert.WinPromptIdeal.Math.kernel_value m c), (h c).2⟩
  · refine θ_run_mono (Cert.WinPromptRefIdeal.Value.run m' g') fun r h c => ⟨(h c).1.trans ?_, (h c).2⟩
    obtain ⟨h0, h1⟩ := hagree c
    refine (Cert.WinPromptRefIdeal.Read.val_main_v5_eq _ _).trans ?_
    refine (Cert.WinPromptRefIdeal.Math.reference_value _ _).trans ?_
    rw [h0, h1]
    all_goals rfl

end Cert.Proof
-- ==== Proof.MixerMath.lean ====
/-
  The mathematics of the layer's gated short convolution and gated linear recurrence over eight rows, as functions of
  plain numbers: what one entry of each result is, given the entries it is made of. Nothing here mentions a program.

  Also the equalities between the two ways the programs write the same number: the logarithm of the sigmoid, and the
  running sum over the eight rows.
-/
module

public import Idealize.ShloMosaic.Lib.Pointwise
public import Idealize.ShloMosaic.Lib.Claim

@[expose] public section

noncomputable section

open Idealize.ShloMosaic

namespace Cert.Mixer

/-! ## The lower bound of the forget gate -/

/-- The layers' logits at one channel: the greater of the two. -/
def greater (l : Fin 2 → EReal) : EReal := max (l 0) (l 1)

/-- Layer `i`'s share of the softmax over the two layers. -/
def share (l : Fin 2 → EReal) (i : Fin 2) : EReal :=
  Ideal.div (Ideal.exp (l i - greater l)) (Ideal.exp (l 0 - greater l) + Ideal.exp (l 1 - greater l))

/-- Layer 1's lower bound: the shares summed up to it, less the first. -/
def bound (l : Fin 2 → EReal) : EReal := share l 0 + share l 1 - share l 0

/-- A maximum over two entries from minus infinity is the greater of them. -/
theorem fold_greater (l : Fin 2 → EReal) : (Finset.univ : Finset (Fin 2)).fold max (⊥ : EReal) l = greater l := by
  have h : (Finset.univ : Finset (Fin 2)) = {0, 1} := by decide
  rw [h, Finset.fold_insert (by decide), Finset.fold_singleton, greater]
  simp

/-! ## The gates -/

/-- The logarithm of the sigmoid. -/
def logSig (x : EReal) : EReal := min x 0 - Ideal.log1p (Ideal.exp (-max x (-x)))

/-- The logarithm of a sum of two exponentials, from the two exponents. -/
def logAdd (a b : EReal) : EReal := max a b + Ideal.log1p (Ideal.exp (-max (a - b) (-(a - b))))

/-- The logarithm of the forget gate at lower bound `β`. -/
def logForget (β x : EReal) : EReal :=
  if 0 < β then logAdd (Ideal.log (if 0 < β then β else 1)) (Ideal.log1p (-β) + logSig x) else logSig x

/-- What the recurrence takes in: one less the forget gate. -/
def intake (β x : EReal) : EReal := (1 - β) * Ideal.logistic (-x)

/-- `x` times its sigmoid. -/
def swish (x : EReal) : EReal := x * Ideal.logistic x

theorem log1p_exp_ne_bot (y : EReal) : Ideal.log1p (Ideal.exp y) ≠ ⊥ := by
  induction y with
  | bot => simp [Ideal.log1p]; rw [show (1 : EReal) = ((1 : ℝ) : EReal) from rfl, Ideal.log_coe]; simp
  | top => simp [Ideal.log1p]; rw [show (1 : EReal) = ((1 : ℝ) : EReal) from rfl, EReal.coe_add_top]; simp
  | coe r =>
    rw [Ideal.log1p, Ideal.exp_coe, show (1 : EReal) = ((1 : ℝ) : EReal) from rfl, ← EReal.coe_add, Ideal.log_coe,
      if_neg (not_le.mpr (by positivity))]
    exact EReal.coe_ne_bot _

/-- The logarithm of the sigmoid the other way round: less the logarithm of one plus the exponential of `-x`. -/
theorem neg_logAdd_neg (x : EReal) : -(logAdd (-x) 0) = logSig x := by
  unfold logAdd logSig
  have hd : max (-x - 0) (-(-x - 0)) = max x (-x) := by rw [sub_zero, neg_neg, max_comm]
  rw [hd]
  have hm : (0 : EReal) ≤ max (-x) 0 := le_max_right _ _
  rw [EReal.neg_add (.inl (fun h => by rw [h] at hm; simp at hm)) (.inr (log1p_exp_ne_bot _))]
  congr 1
  rcases le_total x 0 with h | h
  · rw [min_eq_left h, max_eq_left (by simpa using EReal.neg_le_neg_iff.mpr h), neg_neg]
  · rw [min_eq_right h, max_eq_right (by simpa using EReal.neg_le_neg_iff.mpr h), neg_zero]

/-! ## The running sum over the eight rows -/

/-- The sum of the rows up to row `t`. -/
def upTo (f : Fin 8 → EReal) (t : Fin 8) : EReal := ∑ s : Fin 8, if s ≤ t then f s else 0

/-- One doubling: to each row the row `k` above it is added, where there is one. -/
def shifted (k : Nat) (f : Fin 8 → EReal) (t : Fin 8) : EReal :=
  f t + if k ≤ t.val then f ⟨(t.val + 8 - k) % 8, Nat.mod_lt _ (by decide)⟩ else 0

/-- Three doublings sum the rows up to each row. -/
theorem doublings (f : Fin 8 → EReal) (t : Fin 8) : shifted 4 (shifted 2 (shifted 1 f)) t = upTo f t := by
  unfold upTo
  rw [Fin.sum_univ_eight]
  fin_cases t <;> simp [shifted] <;> abel

/-- Row `t + n - 7`, or zero where that is above the first row. -/
def rowOr (f : Fin 8 → EReal) (t n : Fin 8) : EReal :=
  if h : 7 ≤ t.val + n.val then f ⟨t.val + n.val - 7, by omega⟩ else 0

/-- The window of eight rows ending at row `t`, rows above the first counting as zero, sums the rows up to it. -/
theorem window (f : Fin 8 → EReal) (t : Fin 8) :
    (List.finRange 8).foldl (fun r n => r + rowOr f t n) 0 = upTo f t := by
  have e : (List.finRange 8) = [0, 1, 2, 3, 4, 5, 6, 7] := by decide
  rw [e]
  simp only [List.foldl_cons, List.foldl_nil]
  unfold upTo
  rw [Fin.sum_univ_eight]
  fin_cases t <;> simp [rowOr]

/-! ## The results -/

/-- Two rows kept from before, then the eight rows. -/
def after (s : Fin 2 → EReal) (u : Fin 8 → EReal) (n : Fin 10) : EReal :=
  if h : n.val < 2 then s ⟨n.val, h⟩ else u ⟨n.val - 2, by omega⟩

/-- The convolution at a row: the three taps over the two rows before it and the row itself. -/
def conv (w : Fin 3 → EReal) (x : Fin 10 → EReal) (t : Fin 8) : EReal :=
  w 0 * x ⟨t.val, by omega⟩ + w 1 * x ⟨t.val + 1, by omega⟩ + w 2 * x ⟨t.val + 2, by omega⟩

/-- The recurrence's state after the eight rows, at an entry: the state before decayed over all eight rows, and each
    row's intake decayed over the rows after it. -/
def stateAfter (s0 : EReal) (g k v : Fin 8 → EReal) : EReal :=
  s0 * Ideal.exp (g 7) + ∑ s : Fin 8, v s * (k s * Ideal.exp (g 7 - g s))

/-- How much row `s` counts at row `t`: over the channels, query times intake times the decay between the rows; nothing
    for a row after `t`. -/
def weight (q k : Fin 8 → Fin 128 → EReal) (g : Fin 8 → Fin 128 → EReal) (t s : Fin 8) : EReal :=
  ∑ d : Fin 128, if s ≤ t then q t d * k s d * Ideal.exp (g t d - g s d) else 0

/-- The recurrence's output at row `t` and value channel `e`, before its norm: what the state before gives, and what the
    rows up to `t` give. -/
def output (s0 : Fin 128 → Fin 128 → EReal) (q k g : Fin 8 → Fin 128 → EReal) (v : Fin 8 → Fin 128 → EReal) (t : Fin 8)
    (e : Fin 128) : EReal :=
  (∑ d : Fin 128, q t d * Ideal.exp (g t d) * s0 d e) + ∑ s : Fin 8, weight q k g t s * v s e

/-- A row divided by the root of the mean of its squares, times the gain and the output gate, at an entry. -/
def normed (o : Fin 128 → EReal) (gain gate : EReal) (e : Fin 128) : EReal :=
  o e * Ideal.rsqrt (Ideal.div (∑ d : Fin 128, o d * o d) (Ideal.ofBits .f32 0x43000000#32) + Ideal.ofBits .f32 0x358637BD#32)
    * gain * swish gate

end Cert.Mixer

end
-- ==== Proof.MixerBlock.lean ====
/-
  The samples' mixer: what each step of the kernel's body computes, read at an entry, in the terms of `MixerMath`. A head's
  part of the state and of the result is `stateOf` and `outOf`; the body writes them out once for every head.
-/
module

public import proofs.«01_k».proof.Proof.Gen.MixerSampleIdeal.Skeleton
public import proofs.«01_k».proof.Proof.MixerMath
public import Idealize.ShloMosaic.Lib.KernelVsHost

@[expose] public section

noncomputable section

open Idealize.ShloMosaic Idealize.ShloMosaic.TcCoe Idealize.SL.Sem

namespace Cert.MixerSampleIdeal.Math

open Cert.MixerSampleIdeal Cert.MixerSampleIdeal.Gen Cert.Mixer

/-- Layer 1's lower bound, from the block of logits. -/
theorem bound_apply (x : Vec Ideal S2x512 .f32) (j : S1x512.Idx) :
    k0_pay18 x j = bound (fun i => x (ix2 i (j 1))) := by
  pointwise [k0_pay18]
  have h : (Ideal.ofBits .f32 4286578688#32 : EReal) = ⊥ := by simp [Ideal.ofBits, Ideal.ieee]
  rw [h, fold_greater, Fin.sum_univ_two]
  rfl

/-- The logarithm of the sigmoid. -/
theorem logSig_apply (x : Vec Ideal S8x512 .f32) (j : S8x512.Idx) : k0_pay21 x j = logSig (x j) := by
  pointwise [k0_pay21]
  rw [zero_sub]
  rfl

/-- The intake. -/
theorem intake_apply (l : Vec Ideal S2x512 .f32) (x : Vec Ideal S8x512 .f32) (j : S8x512.Idx) :
    k0_pay26 (k0_pay18 l) x j = intake (bound (fun i => l (ix2 i (j 1)))) (x j) := by
  pointwise [k0_pay26]
  rw [zero_sub, bound_apply]
  rfl

/-- The query. -/
theorem swish_apply (x : Vec Ideal S8x512 .f32) (j : S8x512.Idx) : k0_pay27 x j = swish (x j) := by
  pointwise [k0_pay27]
  rfl

/-- The logarithm of the forget gate. -/
theorem logForget_apply (l : Vec Ideal S2x512 .f32) (x : Vec Ideal S8x512 .f32) (j : S8x512.Idx) :
    k0_pay25 (k0_pay19 l) (k0_pay21 x) (k0_pay23 l x) (k0_pay24 l x) j
      = logForget (bound (fun i => l (ix2 i (j 1)))) (x j) := by
  pointwise [k0_pay25, k0_pay19, k0_pay23, k0_pay24, k0_pay20, k0_pay22]
  rw [zero_sub, zero_sub, bound_apply, logSig_apply]
  rfl

/-- The state after the block: the state before decayed, plus the sum over the rows. The state is kept transposed. -/
theorem headState_apply (k g v : Vec Ideal S8x128 .f32) (gl : Vec Ideal S1x128 .f32) (s : Vec Ideal S128x128 .f32) (e d : Fin 128) :
    k0_pay37 k g v gl s (ix3 0 e d) = s (ix2 e d) * Ideal.exp (gl (ix2 0 d))
      + ∑ n : Fin 8, v (ix2 n e) * (k (ix2 n d) * Ideal.exp (gl (ix2 0 d) - g (ix2 n d))) := by
  pointwise [k0_pay37]

/-- The running sums down the eight rows. -/
abbrev cum (x : Vec Ideal S8x128 .f32) : Vec Ideal S8x128 .f32 :=
  k0_pay31 x (iota .tc S8x128 32 [0] iota_S8x128_d0_w32) k0_pay30

/-- Three shifts and additions make the running sum. -/
theorem cum_apply (x : Vec Ideal S8x128 .f32) (t : Fin 8) (d : Fin 128) :
    cum x (ix2 t d) = upTo (fun s => x (ix2 s d)) t := by
  rw [← doublings]
  pointwise [cum, k0_pay31, k0_pay30, shifted]
  fin_cases t <;> rfl

/-- The mask of the rows that count. -/
theorem causal_apply (t s : Fin 8) (z : Fin 1) : k0_pay29 (ix3 t s z) = if s ≤ t then 1#1 else 0#1 := by
  pointwise [k0_pay29]
  revert t s
  decide

/-- What the state before gives to the output. -/
theorem carried_apply (q lf : Vec Ideal S8x128 .f32) (s : Vec Ideal S1x128x128 .f32) (t : Fin 8) (e : Fin 128) :
    k0_pay34 q lf (iota .tc S8x128 32 [0] iota_S8x128_d0_w32) k0_pay30 s (ix2 t e)
      = ∑ d : Fin 128, q (ix2 t d) * Ideal.exp (cum lf (ix2 t d)) * s (ix3 0 e d) := by
  pointwise [k0_pay34, k0_pay33]

/-- What a pair of rows gives at a channel, before the mask. -/
theorem pairs_apply (M : IVec S8x8x1 1) (q k lf : Vec Ideal S8x128 .f32) (t s : Fin 8) (d : Fin 128) :
    k0_pay35 M q k lf (iota .tc S8x128 32 [0] iota_S8x128_d0_w32) k0_pay30 (ix3 t s d)
      = q (ix2 t d) * k (ix2 s d) * Ideal.exp (if M (ix3 t s 0) = 1#1 then cum lf (ix2 t d) - cum lf (ix2 s d) else 0) := by
  pointwise [k0_pay35]
  rfl

/-- The output with its norm, gain and gate, from its two parts. -/
theorem out_apply (n : Vec Ideal S1x128 .f32) (v o : Vec Ideal S8x128 .f32) (p : Vec Ideal S8x8x128 .f32) (z : EReal) (M : IVec S8x8x1 1)
    (gx : Vec Ideal S8x128 .f32) (t : Fin 8) (e : Fin 128) :
    k0_pay38 n v o p z (k0_pay36 M) gx (ix2 t e)
      = normed (fun e => o (ix2 t e) + ∑ s : Fin 8, (∑ d : Fin 128, if M (ix3 t s 0) = 1#1 then p (ix3 t s d) else z) * v (ix2 s e))
          (n (ix2 0 e)) (gx (ix2 t e)) e := by
  pointwise [k0_pay38, k0_pay36]
  rfl

/-- The state is loaded transposed. -/
theorem old_state (x : Vec Ideal S1x1x128x128 .f32) (e d : Fin 128) : k0_pay8 x (ix3 0 e d) = x (ix4 0 0 d e) := by
  pointwise [k0_pay8]

/-- The state is stored transposed back. -/
theorem new_state (x : Vec Ideal S1x128x128 .f32) (e d : Fin 128) : k0_pay2 x (ix4 0 0 d e) = x (ix3 0 e d) := by
  pointwise [k0_pay2]

/-- The convolution: the two rows before stand in rows 6 and 7 of the eight kept. -/
theorem gated_apply (cb u0 u1 : Vec Ideal S8x512 .f32) (old : Vec Ideal S8x512 .f32) (w2 w0 w1 : Vec Ideal S1x512 .f32)
    (t : Fin 8) (d : Fin 512) (S : Fin 2 → EReal) (W : Fin 3 → EReal) (h6 : old (ix2 6 d) = S 0) (h7 : old (ix2 7 d) = S 1)
    (hw0 : w0 (ix2 0 d) = W 0) (hw1 : w1 (ix2 0 d) = W 1) (hw2 : w2 (ix2 0 d) = W 2) :
    k0_pay14 cb u0 u1 old w2 w0 w1 (ix2 t d)
      = cb (ix2 t d) * conv W (after S fun n => u0 (ix2 n d) * u1 (ix2 n d)) t := by
  pointwise [k0_pay14, k0_pay13, k0_pay12]
  rw [add_assoc, add_comm, hw0, hw1, hw2]
  unfold conv
  refine congrArg₂ (· * ·) rfl (congrArg₂ (· + ·) (congrArg₂ (· + ·) (congrArg₂ (· * ·) rfl ?_) (congrArg₂ (· * ·) rfl ?_)) (congrArg₂ (· * ·) rfl ?_))
  · fin_cases t <;> first | exact h6 | exact h7 | rfl
  · fin_cases t <;> first | exact h7 | rfl
  · fin_cases t <;> rfl

/-- The last two rows that the convolution ran over. -/
theorem tail_apply (u0 u1 : Vec Ideal S8x512 .f32) (old : Vec Ideal S8x512 .f32)
    (r : Fin 2) (d : Fin 512) :
    k0_pay17 (k0_pay15 u0 u1 old) (ix3 0 r d) = u0 (ix2 ⟨6 + r.val, by omega⟩ d) * u1 (ix2 ⟨6 + r.val, by omega⟩ d) := by
  pointwise [k0_pay17, k0_pay15, k0_pay13, k0_pay12]
  fin_cases r <;> rfl

/-- A head's state after the block, from its state before. -/
def stateOf (k lf v : Vec Ideal S8x128 .f32) (s : Vec Ideal S1x128x128 .f32) : Vec Ideal S1x128x128 .f32 :=
  k0_pay37 k (cum lf) v (k0_pay32 lf (iota .tc S8x128 32 [0] iota_S8x128_d0_w32) k0_pay30) (k0_pay33 s)

/-- `stateOf` is the mathematics' state. -/
theorem stateOf_apply (k lf v : Vec Ideal S8x128 .f32) (s : Vec Ideal S1x128x128 .f32) (e d : Fin 128) :
    stateOf k lf v s (ix3 0 e d) = stateAfter (s (ix3 0 e d)) (upTo fun n => lf (ix2 n d)) (fun n => k (ix2 n d)) (fun n => v (ix2 n e)) := by
  have hg : ∀ a b, cum lf (ix2 a b) = _ := cum_apply lf
  have h7 : k0_pay32 lf (iota .tc S8x128 32 [0] iota_S8x128_d0_w32) k0_pay30 (ix2 0 d) = upTo (fun n => lf (ix2 n d)) 7 := by
    rw [← hg]
    pointwise [k0_pay32]
  have hs : k0_pay33 s (ix2 e d) = s (ix3 0 e d) := by
    pointwise [k0_pay33]
  unfold stateOf
  rw [headState_apply, h7, hs]
  simp only [hg]
  rfl

/-- A head's part of the result. -/
def outOf (n : Vec Ideal S1x128 .f32) (q k lf v gx : Vec Ideal S8x128 .f32) (s : Vec Ideal S1x128x128 .f32) : Vec Ideal S8x128 .f32 :=
  k0_pay38 n v (k0_pay34 q lf (iota .tc S8x128 32 [0] iota_S8x128_d0_w32) k0_pay30 s)
    (k0_pay35 k0_pay29 q k lf (iota .tc S8x128 32 [0] iota_S8x128_d0_w32) k0_pay30) (Scalar.ofBits .f32 0x00000000#32 : Ideal .f32)
    (k0_pay36 k0_pay29) gx

/-- `outOf` is the mathematics' result. -/
theorem outOf_apply (n : Vec Ideal S1x128 .f32) (q k lf v gx : Vec Ideal S8x128 .f32) (s : Vec Ideal S1x128x128 .f32) (t : Fin 8) (e : Fin 128) :
    outOf n q k lf v gx s (ix2 t e) = normed (output (fun d e => s (ix3 0 e d)) (fun t d => q (ix2 t d)) (fun t d => k (ix2 t d))
      (fun t d => upTo (fun n => lf (ix2 n d)) t) (fun t e => v (ix2 t e)) t) (n (ix2 0 e)) (gx (ix2 t e)) e := by
  have hz : (Scalar.ofBits .f32 0x00000000#32 : Ideal .f32) = (0 : EReal) := by pointwise
  unfold outOf
  rw [out_apply]
  congr 1
  funext e
  unfold output weight
  refine congrArg₂ (· + ·) ?_ (Finset.sum_congr rfl fun s _ => congrArg₂ (· * ·) (Finset.sum_congr rfl fun d _ => ?_) rfl)
  · rw [carried_apply]
    simp only [cum_apply]
  · rw [pairs_apply, causal_apply, hz]
    by_cases h : s ≤ t
    · simp [h, cum_apply]
    · simp [h]

/-! ## The four heads do the same -/

theorem pay9_eq : (k0_pay9 (F := Ideal)) = k0_pay8 := rfl
theorem pay10_eq : (k0_pay10 (F := Ideal)) = k0_pay8 := rfl
theorem pay11_eq : (k0_pay11 (F := Ideal)) = k0_pay8 := rfl
theorem pay3_eq : (k0_pay3 (F := Ideal)) = k0_pay2 := rfl
theorem pay4_eq : (k0_pay4 (F := Ideal)) = k0_pay2 := rfl
theorem pay5_eq : (k0_pay5 (F := Ideal)) = k0_pay2 := rfl

theorem state0_eq (k lf v : Vec Ideal S8x128 .f32) (s : Vec Ideal S1x128x128 .f32) :
    k0_pay37 k (k0_pay31 lf (iota .tc S8x128 32 [0] iota_S8x128_d0_w32) k0_pay30) v
      (k0_pay32 lf (iota .tc S8x128 32 [0] iota_S8x128_d0_w32) k0_pay30) (k0_pay33 s) = stateOf k lf v s := rfl
theorem state1_eq (k lf v : Vec Ideal S8x128 .f32) (s : Vec Ideal S1x128x128 .f32) :
    k0_pay46 k (k0_pay39 lf) v (k0_pay40 lf) (k0_pay41 s) = stateOf k lf v s := rfl
theorem state2_eq (k lf v : Vec Ideal S8x128 .f32) (s : Vec Ideal S1x128x128 .f32) :
    k0_pay54 k (k0_pay48 lf) v (k0_pay49 lf) (k0_pay50 s) = stateOf k lf v s := rfl
theorem state3_eq (k lf v : Vec Ideal S8x128 .f32) (s : Vec Ideal S1x128x128 .f32) :
    k0_pay62 k (k0_pay57 lf) v (k0_pay58 lf) (k0_pay59 s) = stateOf k lf v s := rfl

theorem out0_eq (n : Vec Ideal S1x128 .f32) (q k lf v gx : Vec Ideal S8x128 .f32) (s : Vec Ideal S1x128x128 .f32) :
    k0_pay38 n v (k0_pay34 q lf (iota .tc S8x128 32 [0] iota_S8x128_d0_w32) k0_pay30 s)
      (k0_pay35 k0_pay29 q k lf (iota .tc S8x128 32 [0] iota_S8x128_d0_w32) k0_pay30) (Scalar.ofBits .f32 0x00000000#32 : Ideal .f32)
      (k0_pay36 k0_pay29) gx = outOf n q k lf v gx s := rfl
theorem out1_eq (n : Vec Ideal S1x128 .f32) (q k lf v gx : Vec Ideal S8x128 .f32) (s : Vec Ideal S1x128x128 .f32) :
    k0_pay47 n k0_pay29 v (k0_pay42 q lf s) (k0_pay43 k0_pay29 lf) (k0_pay44 q) (k0_pay45 k) gx = outOf n q k lf v gx s := rfl
theorem out2_eq (n : Vec Ideal S1x128 .f32) (q k lf v gx : Vec Ideal S8x128 .f32) (s : Vec Ideal S1x128x128 .f32) :
    k0_pay56 n (k0_pay55 k0_pay29 q k v (k0_pay51 q lf s) (k0_pay52 lf) (k0_pay53 lf)) gx = outOf n q k lf v gx s := rfl
theorem out3_eq (n : Vec Ideal S1x128 .f32) (q k lf v gx : Vec Ideal S8x128 .f32) (s : Vec Ideal S1x128x128 .f32) :
    k0_pay1 n (k0_pay61 k0_pay29 q k (k0_pay57 lf) v (k0_pay59 s) (k0_pay60 q lf))
      (k0_pay63 k0_pay29 q k (k0_pay57 lf) v (k0_pay59 s) (k0_pay60 q lf)) (FloatOps.ofBits .f32 0x43000000#32 : Ideal .f32) gx
      = outOf n q k lf v gx s := rfl

end Cert.MixerSampleIdeal.Math
end
-- ==== Proof.MixerEntry.lean ====
/-
  What the blocks of the samples' mixer hold at a grid point, in the program's arguments: point `n` is sample `n`, its rows
  are the rows 8192 + 8·n … of the wide projection.
-/
module

public import proofs.«01_k».proof.Proof.Gen.MixerSampleIdeal.Value
public import proofs.«01_k».proof.Proof.MixerBlock

@[expose] public section

noncomputable section

open Idealize.ShloMosaic Idealize.ShloMosaic.TcCoe Idealize.SL.Sem
open Idealize.ShloMosaic.Pipeline (Dat)

namespace Cert.MixerSampleIdeal.Math

open Cert.MixerSampleIdeal Cert.MixerSampleIdeal.Gen Cert.Mixer

/-- Row `s` of sample `n` in the wide projection. -/
def rowOf (n : Fin 32) (s : Fin 8) : Fin 8448 := ⟨8192 + (n.val * 8 + s.val), by omega⟩

/-- Column `d` of the column range that starts at `o`. -/
def colOf (o : Nat) (h : o + 512 ≤ 12800) (d : Fin 512) : Fin 12800 := ⟨o + d.val, by omega⟩

/-- Channel `d` of head `h`. -/
def lane (h : Fin 4) (d : Fin 128) : Fin 512 := ⟨h.val * 128 + d.val, by omega⟩

variable (m : (ℓ : Loc nD τ sig) → Buf (Elt Ideal) ℓ) (ρ : Dev nD → PrngReg)

/-- The sample that a grid point treats. -/
def sampleOf (t : Fin cfg0.N) : Fin 32 := ⟨t.val, t.isLt⟩

abbrev Z (c : Dev nD) : S8448x12800.Idx → EReal := m ((c : Thread nD τ).loc main_arg0)
abbrev CW (c : Dev nD) : S2x3x512.Idx → EReal := m ((c : Thread nD τ).loc main_arg1)
abbrev CS (c : Dev nD) : S2x32x2x512.Idx → EReal := m ((c : Thread nD τ).loc main_arg2)
abbrev HS (c : Dev nD) : S2x32x4x128x128.Idx → EReal := m ((c : Thread nD τ).loc main_arg3)
abbrev LB (c : Dev nD) : S2x512.Idx → EReal := m ((c : Thread nD τ).loc main_arg4)
abbrev HN (c : Dev nD) : S2x128.Idx → EReal := m ((c : Thread nD τ).loc main_arg5)

/-! ## The arrays the host prepares: layer 1 of each argument -/

/-- The taps handed to the call are layer 1's. -/
theorem cw_apply (c : Dev nD) (j : Fin 3) (d : Fin 512) : (V m c main_v1 : S3x512.Idx → EReal) (ix2 j d) = CW m c (ix3 1 j d) := by
  have e : V m c main_v1 = shapeCast (α := EReal) S3x512 (extractStridedSlice S1x3x512 ![1, 0, 0]
      (m ((c : Thread nD τ).loc main_arg1)) slices_S2x3x512_S1x3x512_1_0_0) shapeCasts_S1x3x512_S3x512 := by
    unfold_abbrev_sides
    after_results <;> rfl
  rw [e]
  unfold CW
  generalize (m ((c : Thread nD τ).loc main_arg1) : S2x3x512.Idx → EReal) = x
  pointwise

/-- The rows kept from before are layer 1's. -/
theorem cs_apply (c : Dev nD) (n : Fin 32) (r : Fin 2) (d : Fin 512) :
    (V m c main_v3 : S32x2x512.Idx → EReal) (ix3 n r d) = CS m c (ix4 1 n r d) := by
  have e : V m c main_v3 = shapeCast (α := EReal) S32x2x512 (extractStridedSlice S1x32x2x512 ![1, 0, 0, 0]
      (m ((c : Thread nD τ).loc main_arg2)) slices_S2x32x2x512_S1x32x2x512_1_0_0_0) shapeCasts_S1x32x2x512_S32x2x512 := by
    unfold_abbrev_sides
    after_results <;> rfl
  rw [e]
  unfold CS
  generalize (m ((c : Thread nD τ).loc main_arg2) : S2x32x2x512.Idx → EReal) = x
  pointwise

/-- The states before are layer 1's. -/
theorem hs_apply (c : Dev nD) (n : Fin 32) (h : Fin 4) (d e : Fin 128) :
    (V m c main_v5 : S32x4x128x128.Idx → EReal) (ix4 n h d e) = HS m c (ix5 1 n h d e) := by
  have e' : V m c main_v5 = shapeCast (α := EReal) S32x4x128x128 (extractStridedSlice S1x32x4x128x128 ![1, 0, 0, 0, 0]
      (m ((c : Thread nD τ).loc main_arg3)) slices_S2x32x4x128x128_S1x32x4x128x128_1_0_0_0_0) shapeCasts_S1x32x4x128x128_S32x4x128x128 := by
    unfold_abbrev_sides
    after_results <;> rfl
  rw [e']
  unfold HS
  generalize (m ((c : Thread nD τ).loc main_arg3) : S2x32x4x128x128.Idx → EReal) = x
  pointwise

/-- The gain is layer 1's. -/
theorem hn_apply (c : Dev nD) (e : Fin 128) : (V m c main_v8 : S1x128.Idx → EReal) (ix2 0 e) = HN m c (ix2 1 e) := by
  have e' : V m c main_v8 = shapeCast (α := EReal) S1x128 (shapeCast (α := EReal) S128 (extractStridedSlice S1x128 ![1, 0]
      (m ((c : Thread nD τ).loc main_arg5)) slices_S2x128_S1x128_1_0) shapeCasts_S1x128_S128) shapeCasts_S128_S1x128 := by
    unfold_abbrev_sides
    after_results <;> rfl
  rw [e']
  unfold HN
  generalize (m ((c : Thread nD τ).loc main_arg5) : S2x128.Idx → EReal) = x
  pointwise

/-! ## Where the blocks lie -/

theorem facts_z : ∀ t : Fin cfg0.N, win0_0.index t (0 : Fin 2) = 1024 + t.val ∧ win0_0.index t (1 : Fin 2) = 5
    ∧ win0_1.index t (0 : Fin 2) = 1024 + t.val ∧ win0_1.index t (1 : Fin 2) = 6
    ∧ win0_2.index t (0 : Fin 2) = 1024 + t.val ∧ win0_2.index t (1 : Fin 2) = 7
    ∧ win0_3.index t (0 : Fin 2) = 1024 + t.val ∧ win0_3.index t (1 : Fin 2) = 2 :=
  (by decide +kernel : ∀ t : Fin grid0.N, _)
theorem facts_w : ∀ t : Fin cfg0.N, win0_4.index t (0 : Fin 2) = 0 ∧ win0_4.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)
theorem facts_5 : ∀ t : Fin cfg0.N, win0_5.index t (0 : Fin 3) = t.val ∧ win0_5.index t (1 : Fin 3) = 0 ∧ win0_5.index t (2 : Fin 3) = 0 :=
  (by decide +kernel : ∀ t : Fin grid0.N, _)
theorem facts_6 : ∀ t : Fin cfg0.N, win0_6.index t (0 : Fin 4) = t.val ∧ win0_6.index t (1 : Fin 4) = 0 ∧ win0_6.index t (2 : Fin 4) = 0
    ∧ win0_6.index t (3 : Fin 4) = 0 :=
  (by decide +kernel : ∀ t : Fin grid0.N, _)

/-- The convolution's gate. -/
theorem z0_apply (c : Dev nD) (t : Fin cfg0.N) (s : Fin 8) (d : Fin 512) :
    (iblk m c 0 t : S8x512.Idx → EReal) (ix2 s d) = Z m c (ix2 (rowOf (sampleOf t) s) (colOf 2560 (by decide) d)) := by
  obtain ⟨e0, e1, -⟩ := facts_z t
  show V m c main_arg0 (((cfg0.win 0).blk t).view.emb (ix2 s d)) = _
  rw [V_main_arg0]
  refine congrArg (m ((c : Thread nD τ).loc main_arg0) : S8448x12800.Idx → EReal) (funext fun a => Fin.ext ?_)
  match a with
  | ⟨0, _⟩ => show win0_0.index t (0 : Fin 2) * 8 + 1 * s.val = 8192 + (t.val * 8 + s.val); rw [e0]; omega
  | ⟨1, _⟩ => show win0_0.index t (1 : Fin 2) * 512 + 1 * d.val = 2560 + d.val; rw [e1]; omega

/-- The first factor of what the convolution runs over. -/
theorem z1_apply (c : Dev nD) (t : Fin cfg0.N) (s : Fin 8) (d : Fin 512) :
    (iblk m c 1 t : S8x512.Idx → EReal) (ix2 s d) = Z m c (ix2 (rowOf (sampleOf t) s) (colOf 3072 (by decide) d)) := by
  obtain ⟨-, -, e0, e1, -⟩ := facts_z t
  show V m c main_arg0 (((cfg0.win 1).blk t).view.emb (ix2 s d)) = _
  rw [V_main_arg0]
  refine congrArg (m ((c : Thread nD τ).loc main_arg0) : S8448x12800.Idx → EReal) (funext fun a => Fin.ext ?_)
  match a with
  | ⟨0, _⟩ => show win0_1.index t (0 : Fin 2) * 8 + 1 * s.val = 8192 + (t.val * 8 + s.val); rw [e0]; omega
  | ⟨1, _⟩ => show win0_1.index t (1 : Fin 2) * 512 + 1 * d.val = 3072 + d.val; rw [e1]; omega

/-- The second factor. -/
theorem z2_apply (c : Dev nD) (t : Fin cfg0.N) (s : Fin 8) (d : Fin 512) :
    (iblk m c 2 t : S8x512.Idx → EReal) (ix2 s d) = Z m c (ix2 (rowOf (sampleOf t) s) (colOf 3584 (by decide) d)) := by
  obtain ⟨-, -, -, -, e0, e1, -⟩ := facts_z t
  show V m c main_arg0 (((cfg0.win 2).blk t).view.emb (ix2 s d)) = _
  rw [V_main_arg0]
  refine congrArg (m ((c : Thread nD τ).loc main_arg0) : S8448x12800.Idx → EReal) (funext fun a => Fin.ext ?_)
  match a with
  | ⟨0, _⟩ => show win0_2.index t (0 : Fin 2) * 8 + 1 * s.val = 8192 + (t.val * 8 + s.val); rw [e0]; omega
  | ⟨1, _⟩ => show win0_2.index t (1 : Fin 2) * 512 + 1 * d.val = 3584 + d.val; rw [e1]; omega

/-- The recurrence's columns. -/
theorem z3_apply (c : Dev nD) (t : Fin cfg0.N) (s : Fin 8) (j : Fin 2048) :
    (X0_3 m c t : S8x2048.Idx → EReal) (ix2 s j) = Z m c (ix2 (rowOf (sampleOf t) s) ⟨4096 + j.val, by omega⟩) := by
  obtain ⟨-, -, -, -, -, -, e0, e1⟩ := facts_z t
  unfold X0_3
  rw [Pipeline.Window.fill, dif_pos (moved0_3 t (ix2 s j))]
  show V m c main_arg0 (((cfg0.win 3).blk t).view.emb _) = _
  rw [V_main_arg0]
  refine congrArg (m ((c : Thread nD τ).loc main_arg0) : S8448x12800.Idx → EReal) (funext fun a => Fin.ext ?_)
  match a with
  | ⟨0, _⟩ => show win0_3.index t (0 : Fin 2) * 8 + 1 * s.val = 8192 + (t.val * 8 + s.val); rw [e0]; omega
  | ⟨1, _⟩ => show win0_3.index t (1 : Fin 2) * 2048 + 1 * j.val = 4096 + j.val; rw [e1]; omega

/-- The taps. -/
theorem w4_apply (c : Dev nD) (t : Fin cfg0.N) (j : Fin 3) (d : Fin 512) :
    (iblk m c 4 t : S3x512.Idx → EReal) (ix2 j d) = CW m c (ix3 1 j d) := by
  obtain ⟨e0, e1, -⟩ := facts_w t
  refine Eq.trans ?_ (cw_apply m c j d)
  show (V m c main_v1 : S3x512.Idx → EReal) (((cfg0.win 4).blk t).view.emb (ix2 j d)) = _
  refine congrArg (V m c main_v1 : S3x512.Idx → EReal) (funext fun a => Fin.ext ?_)
  match a with
  | ⟨0, _⟩ => show win0_4.index t (0 : Fin 2) * 3 + 1 * j.val = j.val; rw [e0]; omega
  | ⟨1, _⟩ => show win0_4.index t (1 : Fin 2) * 512 + 1 * d.val = d.val; rw [e1]; omega

/-- The sample's two rows kept from before. -/
theorem w5_apply (c : Dev nD) (t : Fin cfg0.N) (r : Fin 2) (d : Fin 512) :
    (iblk m c 5 t : S1x2x512.Idx → EReal) (ix3 0 r d) = CS m c (ix4 1 (sampleOf t) r d) := by
  obtain ⟨e0, e1, e2⟩ := facts_5 t
  refine Eq.trans ?_ (cs_apply m c (sampleOf t) r d)
  show (V m c main_v3 : S32x2x512.Idx → EReal) (((cfg0.win 5).blk t).view.emb (ix3 0 r d)) = _
  refine congrArg (V m c main_v3 : S32x2x512.Idx → EReal) (funext fun a => Fin.ext ?_)
  match a with
  | ⟨0, _⟩ => show win0_5.index t (0 : Fin 3) * 1 + 1 * 0 = t.val; rw [e0]; omega
  | ⟨1, _⟩ => show win0_5.index t (1 : Fin 3) * 2 + 1 * r.val = r.val; rw [e1]; omega
  | ⟨2, _⟩ => show win0_5.index t (2 : Fin 3) * 512 + 1 * d.val = d.val; rw [e2]; omega

/-- The sample's state before. -/
theorem w6_apply (c : Dev nD) (t : Fin cfg0.N) (h : Fin 4) (d e : Fin 128) :
    (iblk m c 6 t : S1x4x128x128.Idx → EReal) (ix4 0 h d e) = HS m c (ix5 1 (sampleOf t) h d e) := by
  obtain ⟨e0, e1, e2, e3⟩ := facts_6 t
  refine Eq.trans ?_ (hs_apply m c (sampleOf t) h d e)
  show (V m c main_v5 : S32x4x128x128.Idx → EReal) (((cfg0.win 6).blk t).view.emb (ix4 0 h d e)) = _
  refine congrArg (V m c main_v5 : S32x4x128x128.Idx → EReal) (funext fun a => Fin.ext ?_)
  match a with
  | ⟨0, _⟩ => show win0_6.index t (0 : Fin 4) * 1 + 1 * 0 = t.val; rw [e0]; omega
  | ⟨1, _⟩ => show win0_6.index t (1 : Fin 4) * 4 + 1 * h.val = h.val; rw [e1]; omega
  | ⟨2, _⟩ => show win0_6.index t (2 : Fin 4) * 128 + 1 * d.val = d.val; rw [e2]; omega
  | ⟨3, _⟩ => show win0_6.index t (3 : Fin 4) * 128 + 1 * e.val = e.val; rw [e3]; omega

/-- The logits of the lower bounds. -/
theorem w7_apply (c : Dev nD) (t : Fin cfg0.N) (i : Fin 2) (d : Fin 512) :
    (iblk m c 7 t : S2x512.Idx → EReal) (ix2 i d) = LB m c (ix2 i d) := by
  obtain ⟨-, -, e0, e1, -⟩ := facts_w t
  show V m c main_arg4 (((cfg0.win 7).blk t).view.emb (ix2 i d)) = _
  rw [V_main_arg4]
  refine congrArg (m ((c : Thread nD τ).loc main_arg4) : S2x512.Idx → EReal) (funext fun a => Fin.ext ?_)
  match a with
  | ⟨0, _⟩ => show win0_7.index t (0 : Fin 2) * 2 + 1 * i.val = i.val; rw [e0]; omega
  | ⟨1, _⟩ => show win0_7.index t (1 : Fin 2) * 512 + 1 * d.val = d.val; rw [e1]; omega

/-- The gain. -/
theorem w8_apply (c : Dev nD) (t : Fin cfg0.N) (e : Fin 128) :
    (iblk m c 8 t : S1x128.Idx → EReal) (ix2 0 e) = HN m c (ix2 1 e) := by
  obtain ⟨-, -, -, -, e0, e1⟩ := facts_w t
  refine Eq.trans ?_ (hn_apply m c e)
  show (V m c main_v8 : S1x128.Idx → EReal) (((cfg0.win 8).blk t).view.emb (ix2 0 e)) = _
  refine congrArg (V m c main_v8 : S1x128.Idx → EReal) (funext fun a => Fin.ext ?_)
  match a with
  | ⟨0, _⟩ => show win0_8.index t (0 : Fin 2) * 1 + 1 * 0 = 0; rw [e0]
  | ⟨1, _⟩ => show win0_8.index t (1 : Fin 2) * 128 + 1 * e.val = e.val; rw [e1]; omega

end Cert.MixerSampleIdeal.Math

end
-- ==== Proof.MixerOuts.lean ====
/-
  The samples' mixer: the gated short convolution and the gated linear recurrence over each sample's eight rows.

  `specConv`, `specOut`, `specConvState` and `specState` write the mathematics down: the convolution's result, the
  recurrence's result, and the two states they leave for the next rows. The `kernel_…` theorems show that the kernel
  leaves them in its four result arrays; the rows of the first two that belong to the prompts keep what the arrays given
  to the call held.
-/
module

public import proofs.«01_k».proof.Proof.MixerEntry
public import Idealize.ShloMosaic.Lib.Pipeline.ReadBack

@[expose] public section

noncomputable section

open Idealize.ShloMosaic Idealize.ShloMosaic.TcCoe Idealize.SL.Sem
open Idealize.ShloMosaic.Pipeline (Dat)

namespace Cert.MixerSampleIdeal.Math

open Cert.MixerSampleIdeal Cert.MixerSampleIdeal.Gen Cert.Mixer

/-! ## The mathematics -/

/-- Layer 1's lower bound of the forget gate at channel `d`. -/
def lower (l : S2x512.Idx → EReal) (d : Fin 512) : EReal := bound fun i => l (ix2 i d)

/-- The logarithm of the forget gate of sample `n` at row `s` and channel `d`. -/
def forget (z : S8448x12800.Idx → EReal) (l : S2x512.Idx → EReal) (n : Fin 32) (s : Fin 8) (d : Fin 512) : EReal :=
  logForget (lower l d) (z (ix2 (rowOf n s) (colOf 4608 (by decide) d)))

/-- The recurrence's intake there. -/
def taken (z : S8448x12800.Idx → EReal) (l : S2x512.Idx → EReal) (n : Fin 32) (s : Fin 8) (d : Fin 512) : EReal :=
  intake (lower l d) (z (ix2 (rowOf n s) (colOf 4608 (by decide) d)))

/-- The recurrence's query there. -/
def query (z : S8448x12800.Idx → EReal) (n : Fin 32) (s : Fin 8) (d : Fin 512) : EReal :=
  swish (z (ix2 (rowOf n s) (colOf 4096 (by decide) d)))

/-- The recurrence's value there. -/
def value (z : S8448x12800.Idx → EReal) (n : Fin 32) (s : Fin 8) (d : Fin 512) : EReal :=
  z (ix2 (rowOf n s) (colOf 5120 (by decide) d))

/-- What the convolution runs over. -/
def product (z : S8448x12800.Idx → EReal) (n : Fin 32) (s : Fin 8) (d : Fin 512) : EReal :=
  z (ix2 (rowOf n s) (colOf 3072 (by decide) d)) * z (ix2 (rowOf n s) (colOf 3584 (by decide) d))

/-- The convolution's result at row `s` of sample `n`: the gate times the convolution over the two rows kept from before
    and the sample's own. -/
def specConv (z : S8448x12800.Idx → EReal) (w : S2x3x512.Idx → EReal) (k : S2x32x2x512.Idx → EReal) (n : Fin 32) (s : Fin 8)
    (d : Fin 512) : EReal :=
  z (ix2 (rowOf n s) (colOf 2560 (by decide) d))
    * conv (fun j => w (ix3 1 j d)) (after (fun r => k (ix4 1 n r d)) fun r => product z n r d) s

/-- What the convolution keeps: the last two rows of what it ran over. -/
def specConvState (z : S8448x12800.Idx → EReal) : S32x2x512.Idx → EReal :=
  fun i => product z (i 0) ⟨6 + (i 1).val, by have h : (i 1).val < 2 := (i 1).isLt; omega⟩ (i 2)

/-- The recurrence's state after the sample's rows. -/
def specState (z : S8448x12800.Idx → EReal) (S : S2x32x4x128x128.Idx → EReal) (l : S2x512.Idx → EReal) : S32x4x128x128.Idx → EReal :=
  fun i => stateAfter (S (ix5 1 (i 0) (i 1) (i 2) (i 3))) (upTo fun s => forget z l (i 0) s (lane (i 1) (i 2)))
    (fun s => taken z l (i 0) s (lane (i 1) (i 2))) (fun s => value z (i 0) s (lane (i 1) (i 3)))

/-- The recurrence's result at row `s` of sample `n`, head `h`, channel `e`. -/
def specOut (z : S8448x12800.Idx → EReal) (S : S2x32x4x128x128.Idx → EReal) (l : S2x512.Idx → EReal) (g : S2x128.Idx → EReal)
    (n : Fin 32) (s : Fin 8) (h : Fin 4) (e : Fin 128) : EReal :=
  normed (output (fun d e => S (ix5 1 n h d e)) (fun s d => query z n s (lane h d)) (fun s d => taken z l n s (lane h d))
      (fun t d => upTo (fun s => forget z l n s (lane h d)) t) (fun s e => value z n s (lane h e)) s)
    (g (ix2 1 e)) (z (ix2 (rowOf n s) (colOf 5632 (by decide) (lane h e)))) e

/-! ## Loads of parts of a block -/

/-- A load of 128 columns from column `o` on, out of 512. -/
theorem ld_512 (x : Vec Ideal S8x512 .f32) (off : Fin 2 → Nat) (inb : ∀ a, off a + S8x128.size a ≤ S8x512.size a) (o : Nat)
    (h0 : off 0 = 0) (h1 : off 1 = o) (s : Fin 8) (d : Fin 128) (e : Fin 512) (he : e.val = o + d.val) :
    (View.ld x (Rect.unit (s := S8x512) off S8x128.size inb) : Vec Ideal S8x128 .f32) (ix2 s d) = x (ix2 s e) := by
  refine congrArg x (funext fun a => Fin.ext ?_)
  match a with
  | ⟨0, _⟩ => show off 0 + 1 * s.val = s.val; omega
  | ⟨1, _⟩ => show off 1 + 1 * d.val = e.val; omega

/-- A load of 128 columns from column `o` on, out of 2048. -/
theorem ld_2048 (x : Vec Ideal S8x2048 .f32) (off : Fin 2 → Nat) (inb : ∀ a, off a + S8x128.size a ≤ S8x2048.size a) (o : Nat)
    (h0 : off 0 = 0) (h1 : off 1 = o) (s : Fin 8) (d : Fin 128) (e : Fin 2048) (he : e.val = o + d.val) :
    (View.ld x (Rect.unit (s := S8x2048) off S8x128.size inb) : Vec Ideal S8x128 .f32) (ix2 s d) = x (ix2 s e) := by
  refine congrArg x (funext fun a => Fin.ext ?_)
  match a with
  | ⟨0, _⟩ => show off 0 + 1 * s.val = s.val; omega
  | ⟨1, _⟩ => show off 1 + 1 * d.val = e.val; omega

variable (m : (ℓ : Loc nD τ sig) → Buf (Elt Ideal) ℓ) (ρ : Dev nD → PrngReg)

/-! ## The words the body works with -/

abbrev L7 (c : Dev nD) (t : Fin cfg0.N) : Vec Ideal S2x512 .f32 := View.ld (iblk m c 7 t) (Rect.unit ![0, 0] ![2, 512] inb_S2x512_S2x512_0_0)
abbrev FX (c : Dev nD) (t : Fin cfg0.N) : Vec Ideal S8x512 .f32 := View.ld (X0_3 m c t) (Rect.unit ![0, 512] ![8, 512] inb_S8x2048_S8x512_0_512)
abbrev HQ (c : Dev nD) (t : Fin cfg0.N) : Vec Ideal S8x512 .f32 := View.ld (X0_3 m c t) (Rect.unit ![0, 0] ![8, 512] inb_S8x2048_S8x512_0_0)
abbrev N8 (c : Dev nD) (t : Fin cfg0.N) : Vec Ideal S1x128 .f32 := View.ld (iblk m c 8 t) (Rect.unit ![0, 0] ![1, 128] inb_S1x128_S1x128_0_0)

theorem L7_apply (c : Dev nD) (t : Fin cfg0.N) (i : Fin 2) (d : Fin 512) : L7 m c t (ix2 i d) = LB m c (ix2 i d) := by
  refine Eq.trans ?_ (w7_apply m c t i d)
  refine congrArg (iblk m c 7 t : S2x512.Idx → EReal) (funext fun a => Fin.ext ?_)
  match a with
  | ⟨0, _⟩ => show 0 + 1 * i.val = i.val; omega
  | ⟨1, _⟩ => show 0 + 1 * d.val = d.val; omega

theorem FX_apply (c : Dev nD) (t : Fin cfg0.N) (s : Fin 8) (d : Fin 512) :
    FX m c t (ix2 s d) = Z m c (ix2 (rowOf (sampleOf t) s) (colOf 4608 (by decide) d)) := by
  have e : FX m c t (ix2 s d) = (X0_3 m c t : S8x2048.Idx → EReal) (ix2 s ⟨512 + d.val, by omega⟩) := by
    refine congrArg (X0_3 m c t : S8x2048.Idx → EReal) (funext fun a => Fin.ext ?_)
    match a with
    | ⟨0, _⟩ => show 0 + 1 * s.val = s.val; omega
    | ⟨1, _⟩ => show 512 + 1 * d.val = 512 + d.val; omega
  rw [e, z3_apply]
  refine congrArg (fun j => Z m c (ix2 (rowOf (sampleOf t) s) j)) (Fin.ext ?_)
  show 4096 + (512 + d.val) = 4608 + d.val
  omega

theorem HQ_apply (c : Dev nD) (t : Fin cfg0.N) (s : Fin 8) (d : Fin 512) :
    HQ m c t (ix2 s d) = Z m c (ix2 (rowOf (sampleOf t) s) (colOf 4096 (by decide) d)) := by
  have e : HQ m c t (ix2 s d) = (X0_3 m c t : S8x2048.Idx → EReal) (ix2 s ⟨d.val, by omega⟩) := by
    refine congrArg (X0_3 m c t : S8x2048.Idx → EReal) (funext fun a => Fin.ext ?_)
    match a with
    | ⟨0, _⟩ => show 0 + 1 * s.val = s.val; omega
    | ⟨1, _⟩ => show 0 + 1 * d.val = d.val; omega
  rw [e, z3_apply]
  rfl

theorem N8_apply (c : Dev nD) (t : Fin cfg0.N) (e : Fin 128) : k0_pay28 (N8 m c t) (ix2 0 e) = HN m c (ix2 1 e) := by
  have h : k0_pay28 (N8 m c t) (ix2 0 e) = N8 m c t (ix2 0 e) := by
    generalize N8 m c t = x
    pointwise [k0_pay28]
  rw [h]
  refine Eq.trans ?_ (w8_apply m c t e)
  refine congrArg (iblk m c 8 t : S1x128.Idx → EReal) (funext fun a => Fin.ext ?_)
  match a with
  | ⟨0, _⟩ => rfl
  | ⟨1, _⟩ => show 0 + 1 * e.val = e.val; omega

/-- The logarithms of the forget gates, the intakes and the queries of the point's sample. -/
abbrev FW (c : Dev nD) (t : Fin cfg0.N) : Vec Ideal S8x512 .f32 :=
  k0_pay25 (k0_pay19 (L7 m c t)) (k0_pay21 (FX m c t)) (k0_pay23 (L7 m c t) (FX m c t)) (k0_pay24 (L7 m c t) (FX m c t))
abbrev KW (c : Dev nD) (t : Fin cfg0.N) : Vec Ideal S8x512 .f32 := k0_pay26 (k0_pay18 (L7 m c t)) (FX m c t)
abbrev QW (c : Dev nD) (t : Fin cfg0.N) : Vec Ideal S8x512 .f32 := k0_pay27 (HQ m c t)

theorem FW_apply (c : Dev nD) (t : Fin cfg0.N) (s : Fin 8) (d : Fin 512) : FW m c t (ix2 s d) = forget (Z m c) (LB m c) (sampleOf t) s d := by
  refine (logForget_apply _ _ _).trans ?_
  rw [FX_apply]
  exact congrArg (fun b => logForget (bound b) _) (funext fun i => L7_apply m c t i d)

theorem KW_apply (c : Dev nD) (t : Fin cfg0.N) (s : Fin 8) (d : Fin 512) : KW m c t (ix2 s d) = taken (Z m c) (LB m c) (sampleOf t) s d := by
  refine (intake_apply _ _ _).trans ?_
  rw [FX_apply]
  exact congrArg (fun b => intake (bound b) _) (funext fun i => L7_apply m c t i d)

theorem QW_apply (c : Dev nD) (t : Fin cfg0.N) (s : Fin 8) (d : Fin 512) : QW m c t (ix2 s d) = query (Z m c) (sampleOf t) s d := by
  refine (swish_apply _ _).trans ?_
  rw [HQ_apply]
  rfl

/-! ## The recurrence's state -/

theorem state_named (k lf v : Vec Ideal S8x128 .f32) (s : Vec Ideal S1x1x128x128 .f32) (d e : Fin 128) (K L U : Fin 8 → EReal) (s0 : EReal)
    (hk : ∀ n, k (ix2 n d) = K n) (hl : ∀ n, lf (ix2 n d) = L n) (hv : ∀ n, v (ix2 n e) = U n) (hs : s (ix4 0 0 d e) = s0) :
    k0_pay2 (stateOf k lf v (k0_pay8 s)) (ix4 0 0 d e) = stateAfter s0 (upTo L) K U := by
  rw [new_state, stateOf_apply, old_state, hs]
  simp only [hk, hl, hv]

/-- A head's state after the body. -/
theorem head_state (c : Dev nD) (t : Fin cfg0.N) (h : Fin 4) (off1 off2 : Fin 2 → Nat) (off3 : Fin 4 → Nat)
    (inb1 : ∀ a, off1 a + S8x128.size a ≤ S8x512.size a) (inb2 : ∀ a, off2 a + S8x128.size a ≤ S8x2048.size a)
    (inb3 : ∀ a, off3 a + S1x1x128x128.size a ≤ S1x4x128x128.size a)
    (h10 : off1 0 = 0) (h11 : off1 1 = h.val * 128) (h20 : off2 0 = 0) (h21 : off2 1 = 1024 + h.val * 128) (h3 : off3 = ![0, h.val, 0, 0])
    (d e : Fin 128) :
    k0_pay2 (stateOf (View.ld (KW m c t) (Rect.unit (s := S8x512) off1 S8x128.size inb1)) (View.ld (FW m c t) (Rect.unit (s := S8x512) off1 S8x128.size inb1))
        (View.ld (X0_3 m c t) (Rect.unit (s := S8x2048) off2 S8x128.size inb2))
        (k0_pay8 (View.ld (iblk m c 6 t) (Rect.unit (s := S1x4x128x128) off3 S1x1x128x128.size inb3)))) (ix4 0 0 d e)
      = specState (Z m c) (HS m c) (LB m c) (ix4 (sampleOf t) h d e) := by
  subst h3
  refine state_named _ _ _ _ d e _ _ _ _ (fun n => ?_) (fun n => ?_) (fun n => ?_) ?_
  · exact (ld_512 _ off1 inb1 _ h10 h11 n d (lane h d) rfl).trans (KW_apply m c t n _)
  · exact (ld_512 _ off1 inb1 _ h10 h11 n d (lane h d) rfl).trans (FW_apply m c t n _)
  · refine (ld_2048 _ off2 inb2 _ h20 h21 n e ⟨1024 + (lane h e).val, by omega⟩ (by show 1024 + (h.val * 128 + e.val) = _; omega)).trans ?_
    rw [z3_apply]
    refine congrArg (fun j => Z m c (ix2 (rowOf (sampleOf t) n) j)) (Fin.ext ?_)
    show 4096 + (1024 + (lane h e).val) = 5120 + (lane h e).val
    omega
  · refine Eq.trans ?_ (w6_apply m c t h d e)
    refine congrArg (iblk m c 6 t : S1x4x128x128.Idx → EReal) (funext fun a => Fin.ext ?_)
    match a with
    | ⟨0, _⟩ => rfl
    | ⟨1, _⟩ => show h.val + 1 * 0 = h.val; omega
    | ⟨2, _⟩ => show 0 + 1 * d.val = d.val; omega
    | ⟨3, _⟩ => show 0 + 1 * e.val = e.val; omega

theorem filled {κ : Kind} {sp : Space} (v : View sig κ sp S8x512 .f32) (W : Vec Ideal S8x512 .f32) (r : Rect S8x512) :
    v.readCov [⟨Rect.unit ![0, 0] ![8, 512] inb_S8x512_S8x512_0_0, W⟩] r.toLoadRect = View.ld W r :=
  View.readCov_fill v _ W [] r (fun a => by fin_cases a <;> rfl)

/-- An index of one head's state is given by its two channels. -/
theorem idx_state (z : S1x1x128x128.Idx) : z = ix4 0 0 (z 2) (z 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- What the body leaves of the four heads' states of sample `n`. -/
def blockState (z : S8448x12800.Idx → EReal) (S : S2x32x4x128x128.Idx → EReal) (l : S2x512.Idx → EReal) (n : Fin 32) :
    Vec Ideal S1x4x128x128 .f32 := fun y => specState z S l (ix4 n (y 1) (y 2) (y 3))

/-- The four heads' blocks cover the state. -/
theorem head_covered (y : S1x4x128x128.Idx) (h : Fin 4) (off : Fin 4 → Nat) (ho : off = ![0, h.val, 0, 0])
    (inb : ∀ a, off a + S1x1x128x128.size a ≤ S1x4x128x128.size a) (hy : (y 1).val = h.val) :
    y ∈ (Rect.unit (s := S1x4x128x128) off S1x1x128x128.size inb).set := by
  subst ho
  rw [Rect.mem_set_unit]
  intro a
  have h0 : (y 0).val < 1 := (y 0).isLt
  have h2 : (y 2).val < 128 := (y 2).isLt
  have h3 : (y 3).val < 128 := (y 3).isLt
  match a with
  | ⟨0, _⟩ => exact ⟨Nat.zero_le _, by show (y 0).val < 0 + 1; omega⟩
  | ⟨1, _⟩ => exact ⟨by show h.val ≤ (y 1).val; omega, by show (y 1).val < h.val + 1; omega⟩
  | ⟨2, _⟩ => exact ⟨Nat.zero_le _, by show (y 2).val < 0 + 128; omega⟩
  | ⟨3, _⟩ => exact ⟨Nat.zero_le _, by show (y 3).val < 0 + 128; omega⟩

/-- The state the body leaves at point `t`. -/
theorem outs_state (c : Dev nD) (t : Fin cfg0.N) :
    (outsAt0 m c t).2.2.2 = blockState (Z m c) (HS m c) (LB m c) (sampleOf t) := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread]
  simp only [filled]
  simp (discharger := decide) only [View.readCov_skip, View.readCov_cons_toLoadRect, pay9_eq, pay10_eq, pay11_eq, pay3_eq, pay4_eq, pay5_eq,
    state0_eq, state1_eq, state2_eq, state3_eq, out0_eq, out1_eq, out2_eq, out3_eq]
  funext y
  refine View.canon_apply_of_pieces (blockState (Z m c) (HS m c) (LB m c) (sampleOf t)) _ ?_ y ?_
  · intro p hp z
    simp only [List.mem_cons, List.not_mem_nil, or_false] at hp
    rcases hp with rfl | rfl | rfl | rfl
    · rw [idx_state z]
      refine (head_state m c t 3 _ _ _ _ _ _ rfl rfl rfl rfl rfl _ _).trans ?_
      refine congrArg (specState (Z m c) (HS m c) (LB m c)) (funext fun a => Fin.ext ?_)
      match a with
      | ⟨0, _⟩ => rfl
      | ⟨1, _⟩ => rfl
      | ⟨2, _⟩ => show (z 2).val = 0 + 1 * (z 2).val; omega
      | ⟨3, _⟩ => show (z 3).val = 0 + 1 * (z 3).val; omega
    · rw [idx_state z]
      refine (head_state m c t 2 _ _ _ _ _ _ rfl rfl rfl rfl rfl _ _).trans ?_
      refine congrArg (specState (Z m c) (HS m c) (LB m c)) (funext fun a => Fin.ext ?_)
      match a with
      | ⟨0, _⟩ => rfl
      | ⟨1, _⟩ => rfl
      | ⟨2, _⟩ => show (z 2).val = 0 + 1 * (z 2).val; omega
      | ⟨3, _⟩ => show (z 3).val = 0 + 1 * (z 3).val; omega
    · rw [idx_state z]
      refine (head_state m c t 1 _ _ _ _ _ _ rfl rfl rfl rfl rfl _ _).trans ?_
      refine congrArg (specState (Z m c) (HS m c) (LB m c)) (funext fun a => Fin.ext ?_)
      match a with
      | ⟨0, _⟩ => rfl
      | ⟨1, _⟩ => rfl
      | ⟨2, _⟩ => show (z 2).val = 0 + 1 * (z 2).val; omega
      | ⟨3, _⟩ => show (z 3).val = 0 + 1 * (z 3).val; omega
    · rw [idx_state z]
      refine (head_state m c t 0 _ _ _ _ _ _ rfl rfl rfl rfl rfl _ _).trans ?_
      refine congrArg (specState (Z m c) (HS m c) (LB m c)) (funext fun a => Fin.ext ?_)
      match a with
      | ⟨0, _⟩ => rfl
      | ⟨1, _⟩ => rfl
      | ⟨2, _⟩ => show (z 2).val = 0 + 1 * (z 2).val; omega
      | ⟨3, _⟩ => show (z 3).val = 0 + 1 * (z 3).val; omega
  · have h1 : (y 1).val < 4 := (y 1).isLt
    rcases (by omega : (y 1).val = 3 ∨ (y 1).val = 2 ∨ (y 1).val = 1 ∨ (y 1).val = 0) with h | h | h | h
    · refine ⟨_, List.mem_cons_self .., ?_⟩
      refine head_covered y 3 _ ?_ ?_ h
      all_goals first | rfl | (intro a; fin_cases a <;> decide)
    · refine ⟨_, List.mem_cons_of_mem _ (List.mem_cons_self ..), ?_⟩
      refine head_covered y 2 _ ?_ ?_ h
      all_goals first | rfl | (intro a; fin_cases a <;> decide)
    · refine ⟨_, List.mem_cons_of_mem _ (List.mem_cons_of_mem _ (List.mem_cons_self ..)), ?_⟩
      refine head_covered y 1 _ ?_ ?_ h
      all_goals first | rfl | (intro a; fin_cases a <;> decide)
    · refine ⟨_, List.mem_cons_of_mem _ (List.mem_cons_of_mem _ (List.mem_cons_of_mem _ (List.mem_cons_self ..))), ?_⟩
      refine head_covered y 0 _ ?_ ?_ h
      all_goals first | rfl | (intro a; fin_cases a <;> decide)

/-! ## What the convolution keeps -/

abbrev U1 (c : Dev nD) (t : Fin cfg0.N) : Vec Ideal S8x512 .f32 := View.ld (iblk m c 1 t) (Rect.unit ![0, 0] ![8, 512] inb_S8x512_S8x512_0_0)
abbrev U2 (c : Dev nD) (t : Fin cfg0.N) : Vec Ideal S8x512 .f32 := View.ld (iblk m c 2 t) (Rect.unit ![0, 0] ![8, 512] inb_S8x512_S8x512_0_0)

theorem ld_whole (x : Vec Ideal S8x512 .f32) (inb : ∀ a, ![0, 0] a + S8x512.size a ≤ S8x512.size a) (s : Fin 8) (d : Fin 512) :
    (View.ld x (Rect.unit (s := S8x512) ![0, 0] S8x512.size inb) : Vec Ideal S8x512 .f32) (ix2 s d) = x (ix2 s d) := by
  refine congrArg x (funext fun a => Fin.ext ?_)
  match a with
  | ⟨0, _⟩ => show 0 + 1 * s.val = s.val; omega
  | ⟨1, _⟩ => show 0 + 1 * d.val = d.val; omega

theorem U1_apply (c : Dev nD) (t : Fin cfg0.N) (s : Fin 8) (d : Fin 512) :
    U1 m c t (ix2 s d) = Z m c (ix2 (rowOf (sampleOf t) s) (colOf 3072 (by decide) d)) := (ld_whole _ _ s d).trans (z1_apply m c t s d)

theorem U2_apply (c : Dev nD) (t : Fin cfg0.N) (s : Fin 8) (d : Fin 512) :
    U2 m c t (ix2 s d) = Z m c (ix2 (rowOf (sampleOf t) s) (colOf 3584 (by decide) d)) := (ld_whole _ _ s d).trans (z2_apply m c t s d)

def blockKept (z : S8448x12800.Idx → EReal) (n : Fin 32) : Vec Ideal S1x2x512 .f32 := fun y => specConvState z (ix3 n (y 1) (y 2))

theorem kept_place (z : S8448x12800.Idx → EReal) (n : Fin 32) (r : Fin 2) (d : Fin 512) (y : S1x2x512.Idx)
    (h1 : (y 1).val = r.val) (h2 : (y 2).val = d.val) :
    z (ix2 (rowOf n ⟨6 + r.val, by omega⟩) (colOf 3072 (by decide) d)) * z (ix2 (rowOf n ⟨6 + r.val, by omega⟩) (colOf 3584 (by decide) d))
      = blockKept z n y := by
  have a1 : r = y 1 := Fin.ext h1.symm
  have a2 : d = y 2 := Fin.ext h2.symm
  subst a1 a2
  rfl

/-- What the body keeps of the convolution's rows at point `t`. -/
theorem outs_kept (c : Dev nD) (t : Fin cfg0.N) : (outsAt0 m c t).2.2.1 = blockKept (Z m c) (sampleOf t) := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread]
  funext y
  refine View.canon_apply_of_pieces (blockKept (Z m c) (sampleOf t)) _ ?_ y ?_
  · intro p hp z
    simp only [List.mem_cons, List.not_mem_nil, or_false] at hp
    subst hp
    have hz : z = ix3 0 (z 1) (z 2) := by
      funext a
      match a with
      | ⟨0, _⟩ => exact Subsingleton.elim (α := Fin 1) _ _
      | ⟨1, _⟩ => rfl
      | ⟨2, _⟩ => rfl
    rw [hz]
    refine (tail_apply _ _ _ _ _).trans ?_
    refine (congrArg₂ (· * ·) (U1_apply m c t _ _) (U2_apply m c t _ _)).trans ?_
    refine kept_place (Z m c) (sampleOf t) (z 1) (z 2) _ ?_ ?_
    · show 0 + 1 * (z 1).val = (z 1).val
      omega
    · show 0 + 1 * (z 2).val = (z 2).val
      omega
  · refine ⟨_, List.mem_cons_self .., ?_⟩
    rw [Rect.mem_set_unit]
    intro a
    have h0 : (y 0).val < 1 := (y 0).isLt
    have h1 : (y 1).val < 2 := (y 1).isLt
    have h2 : (y 2).val < 512 := (y 2).isLt
    match a with
    | ⟨0, _⟩ => exact ⟨Nat.zero_le _, by show (y 0).val < 0 + 1; omega⟩
    | ⟨1, _⟩ => exact ⟨Nat.zero_le _, by show (y 1).val < 0 + 2; omega⟩
    | ⟨2, _⟩ => exact ⟨Nat.zero_le _, by show (y 2).val < 0 + 512; omega⟩

/-! ## The convolution's result -/

theorem kept_apply {κ : Kind} {sp : Space} (v : View sig κ sp S8x512 .f32) (A : Vec Ideal S2x512 .f32) (L : List (View.Piece (Elt Ideal) S8x512 .f32))
    (r : Fin 2) (d : Fin 512) :
    (v.readCov (⟨Rect.unit ![6, 0] ![2, 512] inb_S8x512_S2x512_6_0, A⟩ :: L)
        (Rect.unit (s := S8x512) ![0, 0] ![8, 512] inb_S8x512_S8x512_0_0).toLoadRect : Vec Ideal S8x512 .f32) (ix2 ⟨6 + r.val, by omega⟩ d)
      = A (ix2 r d) := by
  rw [View.readCov_eq_canon']
  refine Eq.trans (congrArg (View.canon _) ?_) (View.canon_cons_emb (Rect.unit (s := S8x512) ![6, 0] ![2, 512] inb_S8x512_S2x512_6_0) A L (ix2 r d))
  funext a
  apply Fin.ext
  match a with
  | ⟨0, _⟩ => show 0 + 1 * (6 + r.val) = 6 + 1 * r.val; omega
  | ⟨1, _⟩ => rfl

/-- The two rows before, as the body keeps them. -/
theorem before_apply (c : Dev nD) (t : Fin cfg0.N) (r : Fin 2) (d : Fin 512) :
    k0_pay7 (View.ld (iblk m c 5 t) (Rect.unit ![0, 0, 0] ![1, 2, 512] inb_S1x2x512_S1x2x512_0_0_0)) (ix2 r d)
      = CS m c (ix4 1 (sampleOf t) r d) := by
  refine Eq.trans ?_ (w5_apply m c t r d)
  have e : ∀ x : Vec Ideal S1x2x512 .f32, k0_pay7 x (ix2 r d) = x (ix3 0 r d) := fun x => by pointwise [k0_pay7]
  rw [e]
  refine congrArg (iblk m c 5 t : S1x2x512.Idx → EReal) (funext fun a => Fin.ext ?_)
  match a with
  | ⟨0, _⟩ => rfl
  | ⟨1, _⟩ => show 0 + 1 * r.val = r.val; omega
  | ⟨2, _⟩ => show 0 + 1 * d.val = d.val; omega

/-- One tap, loaded from its row. -/
theorem tap_apply (c : Dev nD) (t : Fin cfg0.N) (j : Fin 3) (off : Fin 2 → Nat) (ho : off = ![j.val, 0])
    (inb : ∀ a, off a + S1x512.size a ≤ S3x512.size a) (d : Fin 512) :
    (View.ld (iblk m c 4 t) (Rect.unit (s := S3x512) off S1x512.size inb) : Vec Ideal S1x512 .f32) (ix2 0 d) = CW m c (ix3 1 j d) := by
  subst ho
  refine Eq.trans ?_ (w4_apply m c t j d)
  refine congrArg (iblk m c 4 t : S3x512.Idx → EReal) (funext fun a => Fin.ext ?_)
  match a with
  | ⟨0, _⟩ => show j.val + 1 * 0 = j.val; omega
  | ⟨1, _⟩ => show 0 + 1 * d.val = d.val; omega

def blockConv (z : S8448x12800.Idx → EReal) (w : S2x3x512.Idx → EReal) (k : S2x32x2x512.Idx → EReal) (n : Fin 32) :
    Vec Ideal S8x512 .f32 := fun y => specConv z w k n (y 0) (y 1)

theorem whole_covered (y : S8x512.Idx) : y ∈ (Rect.unit (s := S8x512) ![0, 0] ![8, 512] inb_S8x512_S8x512_0_0).set := by
  rw [Rect.mem_set_unit]
  intro a
  have h1 : (y 0).val < 8 := (y 0).isLt
  have h2 : (y 1).val < 512 := (y 1).isLt
  match a with
  | ⟨0, _⟩ => exact ⟨Nat.zero_le _, by show (y 0).val < 0 + 8; omega⟩
  | ⟨1, _⟩ => exact ⟨Nat.zero_le _, by show (y 1).val < 0 + 512; omega⟩

/-- The convolution's rows the body leaves at point `t`. -/
theorem outs_conv (c : Dev nD) (t : Fin cfg0.N) : (outsAt0 m c t).1 = blockConv (Z m c) (CW m c) (CS m c) (sampleOf t) := by
  unfold outsAt0 out0_A_9
  dsimp only
  rw [View.read_writes_eq_canon _ _ _ (cover0_A_9 c _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread]
  funext y
  refine View.canon_apply_of_pieces (blockConv (Z m c) (CW m c) (CS m c) (sampleOf t)) _ ?_ y ?_
  · intro p hp z
    simp only [List.mem_cons, List.not_mem_nil, or_false] at hp
    subst hp
    have hz : z = ix2 (z 0) (z 1) := by
      funext a
      match a with
      | ⟨0, _⟩ => rfl
      | ⟨1, _⟩ => rfl
    rw [hz]
    refine (gated_apply _ _ _ _ _ _ _ _ _ (fun r => CS m c (ix4 1 (sampleOf t) r (z 1))) (fun j => CW m c (ix3 1 j (z 1)))
      ((kept_apply _ _ _ 0 (z 1)).trans (before_apply m c t 0 _)) ((kept_apply _ _ _ 1 (z 1)).trans (before_apply m c t 1 _))
      (tap_apply m c t 0 _ rfl _ _) (tap_apply m c t 1 _ rfl _ _) (tap_apply m c t 2 _ rfl _ _)).trans ?_
    have hy : (Rect.unit (s := S8x512) ![0, 0] ![8, 512] inb_S8x512_S8x512_0_0).emb (ix2 (z 0) (z 1)) = ix2 (z 0) (z 1) := by
      funext a
      apply Fin.ext
      match a with
      | ⟨0, _⟩ => show 0 + 1 * (z 0).val = (z 0).val; omega
      | ⟨1, _⟩ => show 0 + 1 * (z 1).val = (z 1).val; omega
    refine Eq.trans ?_ (congrArg (blockConv (Z m c) (CW m c) (CS m c) (sampleOf t)) hy.symm)
    refine congrArg₂ (· * ·) ((ld_whole _ _ (z 0) (z 1)).trans (z0_apply m c t (z 0) (z 1))) ?_
    refine congrArg (fun f => conv _ (after _ f) (z 0)) (funext fun n => ?_)
    exact congrArg₂ (· * ·) (U1_apply m c t n (z 1)) (U2_apply m c t n (z 1))
  · exact ⟨_, List.mem_cons_self .., whole_covered y⟩

/-! ## The recurrence's result -/

theorem out_named (n : Vec Ideal S1x128 .f32) (q k lf v gx : Vec Ideal S8x128 .f32) (s : Vec Ideal S1x1x128x128 .f32) (t : Fin 8) (e : Fin 128)
    (N G : EReal) (Q K L U : Fin 8 → Fin 128 → EReal) (S : Fin 128 → Fin 128 → EReal)
    (hn : n (ix2 0 e) = N) (hg : gx (ix2 t e) = G) (hq : ∀ n d, q (ix2 n d) = Q n d) (hk : ∀ n d, k (ix2 n d) = K n d)
    (hl : ∀ n d, lf (ix2 n d) = L n d) (hv : ∀ n d, v (ix2 n d) = U n d) (hs : ∀ d e, s (ix4 0 0 d e) = S d e) :
    outOf n q k lf v gx (k0_pay8 s) (ix2 t e) = normed (output S Q K (fun t d => upTo (fun n => L n d) t) U t) N G e := by
  rw [outOf_apply, hn, hg]
  simp only [old_state, hq, hk, hl, hv, hs]

/-- A head's part of the result after the body. -/
theorem head_out (c : Dev nD) (t : Fin cfg0.N) (h : Fin 4) (off1 off2 off4 : Fin 2 → Nat) (off3 : Fin 4 → Nat)
    (inb1 : ∀ a, off1 a + S8x128.size a ≤ S8x512.size a) (inb2 : ∀ a, off2 a + S8x128.size a ≤ S8x2048.size a)
    (inb4 : ∀ a, off4 a + S8x128.size a ≤ S8x2048.size a) (inb3 : ∀ a, off3 a + S1x1x128x128.size a ≤ S1x4x128x128.size a)
    (h10 : off1 0 = 0) (h11 : off1 1 = h.val * 128) (h20 : off2 0 = 0) (h21 : off2 1 = 1024 + h.val * 128) (h3 : off3 = ![0, h.val, 0, 0])
    (h40 : off4 0 = 0) (h41 : off4 1 = 1536 + h.val * 128) (s : Fin 8) (e : Fin 128) :
    outOf (k0_pay28 (N8 m c t)) (View.ld (QW m c t) (Rect.unit (s := S8x512) off1 S8x128.size inb1))
        (View.ld (KW m c t) (Rect.unit (s := S8x512) off1 S8x128.size inb1)) (View.ld (FW m c t) (Rect.unit (s := S8x512) off1 S8x128.size inb1))
        (View.ld (X0_3 m c t) (Rect.unit (s := S8x2048) off2 S8x128.size inb2)) (View.ld (X0_3 m c t) (Rect.unit (s := S8x2048) off4 S8x128.size inb4))
        (k0_pay8 (View.ld (iblk m c 6 t) (Rect.unit (s := S1x4x128x128) off3 S1x1x128x128.size inb3))) (ix2 s e)
      = specOut (Z m c) (HS m c) (LB m c) (HN m c) (sampleOf t) s h e := by
  subst h3
  refine out_named _ _ _ _ _ _ _ s e _ _ _ _ _ _ _ (N8_apply m c t e) ?_ (fun n d => ?_) (fun n d => ?_) (fun n d => ?_) (fun n d => ?_) (fun d e => ?_)
  · refine (ld_2048 _ off4 inb4 _ h40 h41 s e ⟨1536 + (lane h e).val, by omega⟩ (by show 1536 + (h.val * 128 + e.val) = _; omega)).trans ?_
    rw [z3_apply]
    refine congrArg (fun j => Z m c (ix2 (rowOf (sampleOf t) s) j)) (Fin.ext ?_)
    show 4096 + (1536 + (lane h e).val) = 5632 + (lane h e).val
    omega
  · exact (ld_512 _ off1 inb1 _ h10 h11 n d (lane h d) rfl).trans (QW_apply m c t n _)
  · exact (ld_512 _ off1 inb1 _ h10 h11 n d (lane h d) rfl).trans (KW_apply m c t n _)
  · exact (ld_512 _ off1 inb1 _ h10 h11 n d (lane h d) rfl).trans (FW_apply m c t n _)
  · refine (ld_2048 _ off2 inb2 _ h20 h21 n d ⟨1024 + (lane h d).val, by omega⟩ (by show 1024 + (h.val * 128 + d.val) = _; omega)).trans ?_
    rw [z3_apply]
    refine congrArg (fun j => Z m c (ix2 (rowOf (sampleOf t) n) j)) (Fin.ext ?_)
    show 4096 + (1024 + (lane h d).val) = 5120 + (lane h d).val
    omega
  · refine Eq.trans ?_ (w6_apply m c t h d e)
    refine congrArg (iblk m c 6 t : S1x4x128x128.Idx → EReal) (funext fun a => Fin.ext ?_)
    match a with
    | ⟨0, _⟩ => rfl
    | ⟨1, _⟩ => show h.val + 1 * 0 = h.val; omega
    | ⟨2, _⟩ => show 0 + 1 * d.val = d.val; omega
    | ⟨3, _⟩ => show 0 + 1 * e.val = e.val; omega

/-- The head of a column, and the column's channel in it. -/
def headOf (d : Fin 512) : Fin 4 := ⟨d.val / 128, by omega⟩
def chanOf (d : Fin 512) : Fin 128 := ⟨d.val % 128, by omega⟩

def blockOut (z : S8448x12800.Idx → EReal) (S : S2x32x4x128x128.Idx → EReal) (l : S2x512.Idx → EReal) (g : S2x128.Idx → EReal) (n : Fin 32) :
    Vec Ideal S8x512 .f32 := fun y => specOut z S l g n (y 0) (headOf (y 1)) (chanOf (y 1))

theorem head_place (z : S8448x12800.Idx → EReal) (S : S2x32x4x128x128.Idx → EReal) (l : S2x512.Idx → EReal) (g : S2x128.Idx → EReal) (n : Fin 32)
    (h : Fin 4) (s : Fin 8) (e : Fin 128) (y : S8x512.Idx) (h0 : (y 0).val = s.val) (h1 : (y 1).val = h.val * 128 + e.val) :
    specOut z S l g n s h e = blockOut z S l g n y := by
  have a0 : s = y 0 := Fin.ext h0.symm
  have a1 : h = headOf (y 1) := Fin.ext (by show h.val = (y 1).val / 128; omega)
  have a2 : e = chanOf (y 1) := Fin.ext (by show e.val = (y 1).val % 128; omega)
  unfold blockOut
  rw [← a0, ← a1, ← a2]

/-- The four heads' columns cover the result. -/
theorem columns_covered (y : S8x512.Idx) (h : Fin 4) (off : Fin 2 → Nat) (h0 : off 0 = 0) (h1 : off 1 = h.val * 128)
    (inb : ∀ a, off a + S8x128.size a ≤ S8x512.size a) (hy : (y 1).val / 128 = h.val) :
    y ∈ (Rect.unit (s := S8x512) off S8x128.size inb).set := by
  rw [Rect.mem_set_unit]
  intro a
  have b0 : (y 0).val < 8 := (y 0).isLt
  have b1 : (y 1).val < 512 := (y 1).isLt
  match a with
  | ⟨0, _⟩ => exact ⟨by show off 0 ≤ (y 0).val; omega, by show (y 0).val < off 0 + 8; omega⟩
  | ⟨1, _⟩ => exact ⟨by show off 1 ≤ (y 1).val; omega, by show (y 1).val < off 1 + 128; omega⟩

/-- The recurrence's rows the body leaves at point `t`. -/
theorem outs_out (c : Dev nD) (t : Fin cfg0.N) :
    (outsAt0 m c t).2.1 = blockOut (Z m c) (HS m c) (LB m c) (HN m c) (sampleOf t) := by
  unfold outsAt0 out0_A_10
  dsimp only
  rw [View.read_writes_eq_canon _ _ _ (cover0_A_10 c _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread]
  simp only [filled]
  simp (discharger := decide) only [View.readCov_skip, View.readCov_cons_toLoadRect, pay9_eq, pay10_eq, pay11_eq, pay3_eq, pay4_eq, pay5_eq,
    state0_eq, state1_eq, state2_eq, state3_eq, out0_eq, out1_eq, out2_eq, out3_eq]
  funext y
  refine View.canon_apply_of_pieces (blockOut (Z m c) (HS m c) (LB m c) (HN m c) (sampleOf t)) _ ?_ y ?_
  · intro p hp z
    simp only [List.mem_cons, List.not_mem_nil, or_false] at hp
    have hz : ∀ z : S8x128.Idx, z = ix2 (z 0) (z 1) := fun z => by
      funext a
      match a with
      | ⟨0, _⟩ => rfl
      | ⟨1, _⟩ => rfl
    rcases hp with rfl | rfl | rfl | rfl
    · rw [hz z]
      refine (head_out m c t 3 _ _ _ _ _ _ _ _ rfl rfl rfl rfl rfl rfl rfl (z 0) (z 1)).trans (head_place _ _ _ _ _ 3 (z 0) (z 1) _ ?_ ?_)
      · show 0 + 1 * (z 0).val = (z 0).val
        omega
      · show 384 + 1 * (z 1).val = 3 * 128 + (z 1).val
        omega
    · rw [hz z]
      refine (head_out m c t 2 _ _ _ _ _ _ _ _ rfl rfl rfl rfl rfl rfl rfl (z 0) (z 1)).trans (head_place _ _ _ _ _ 2 (z 0) (z 1) _ ?_ ?_)
      · show 0 + 1 * (z 0).val = (z 0).val
        omega
      · show 256 + 1 * (z 1).val = 2 * 128 + (z 1).val
        omega
    · rw [hz z]
      refine (head_out m c t 1 _ _ _ _ _ _ _ _ rfl rfl rfl rfl rfl rfl rfl (z 0) (z 1)).trans (head_place _ _ _ _ _ 1 (z 0) (z 1) _ ?_ ?_)
      · show 0 + 1 * (z 0).val = (z 0).val
        omega
      · show 128 + 1 * (z 1).val = 1 * 128 + (z 1).val
        omega
    · rw [hz z]
      refine (head_out m c t 0 _ _ _ _ _ _ _ _ rfl rfl rfl rfl rfl rfl rfl (z 0) (z 1)).trans (head_place _ _ _ _ _ 0 (z 0) (z 1) _ ?_ ?_)
      · show 0 + 1 * (z 0).val = (z 0).val
        omega
      · show 0 + 1 * (z 1).val = 0 * 128 + (z 1).val
        omega
  · have h1 : (y 1).val < 512 := (y 1).isLt
    rcases (by omega : (y 1).val / 128 = 3 ∨ (y 1).val / 128 = 2 ∨ (y 1).val / 128 = 1 ∨ (y 1).val / 128 = 0) with h | h | h | h
    · refine ⟨_, List.mem_cons_self .., ?_⟩
      refine columns_covered y 3 _ ?_ ?_ ?_ h
      all_goals first | rfl | (intro a; fin_cases a <;> decide)
    · refine ⟨_, List.mem_cons_of_mem _ (List.mem_cons_self ..), ?_⟩
      refine columns_covered y 2 _ ?_ ?_ ?_ h
      all_goals first | rfl | (intro a; fin_cases a <;> decide)
    · refine ⟨_, List.mem_cons_of_mem _ (List.mem_cons_of_mem _ (List.mem_cons_self ..)), ?_⟩
      refine columns_covered y 1 _ ?_ ?_ ?_ h
      all_goals first | rfl | (intro a; fin_cases a <;> decide)
    · refine ⟨_, List.mem_cons_of_mem _ (List.mem_cons_of_mem _ (List.mem_cons_of_mem _ (List.mem_cons_self ..))), ?_⟩
      refine columns_covered y 0 _ ?_ ?_ ?_ h
      all_goals first | rfl | (intro a; fin_cases a <;> decide)

end Cert.MixerSampleIdeal.Math

end
-- ==== Proof.MixerArrays.lean ====
/-
  The samples' mixer: what the kernel leaves in its four result arrays, as functions of the program's arguments.
-/
module

public import proofs.«01_k».proof.Proof.MixerOuts

@[expose] public section

noncomputable section

open Idealize.ShloMosaic Idealize.ShloMosaic.TcCoe Idealize.SL.Sem
open Idealize.ShloMosaic.Pipeline (Dat)

namespace Cert.MixerSampleIdeal.Math

open Cert.MixerSampleIdeal Cert.MixerSampleIdeal.Gen Cert.Mixer

/-- The sample that a row belongs to, and the row's number in it. -/
def sampleAt (r : Fin 8448) : Fin 32 := ⟨(r.val - 8192) / 8, by omega⟩
def rowAt (r : Fin 8448) : Fin 8 := ⟨r.val % 8, by omega⟩

/-- The convolution's rows: the samples' are computed, the prompts' stay as given. -/
def rowsConv (z : S8448x12800.Idx → EReal) (w : S2x3x512.Idx → EReal) (k : S2x32x2x512.Idx → EReal) (y : S8448x512.Idx → EReal) :
    S8448x512.Idx → EReal :=
  fun i => if 8192 ≤ (i 0).val then specConv z w k (sampleAt (i 0)) (rowAt (i 0)) (i 1) else y i

/-- The recurrence's rows: the samples' are computed, the prompts' stay as given. -/
def rowsOut (z : S8448x12800.Idx → EReal) (S : S2x32x4x128x128.Idx → EReal) (l : S2x512.Idx → EReal) (g : S2x128.Idx → EReal)
    (y : S8448x512.Idx → EReal) : S8448x512.Idx → EReal :=
  fun i => if 8192 ≤ (i 0).val then specOut z S l g (sampleAt (i 0)) (rowAt (i 0)) (headOf (i 1)) (chanOf (i 1)) else y i

theorem conv_place (z : S8448x12800.Idx → EReal) (w : S2x3x512.Idx → EReal) (k : S2x32x2x512.Idx → EReal) (y : S8448x512.Idx → EReal)
    (n : Fin 32) (b : S8x512.Idx) (i : S8448x512.Idx) (h0 : (i 0).val = 8192 + (n.val * 8 + (b 0).val)) (h1 : (i 1).val = (b 1).val) :
    blockConv z w k n b = rowsConv z w k y i := by
  have hb : (b 0).val < 8 := (b 0).isLt
  have a0 : sampleAt (i 0) = n := Fin.ext (by show ((i 0).val - 8192) / 8 = n.val; omega)
  have a1 : rowAt (i 0) = b 0 := Fin.ext (by show (i 0).val % 8 = (b 0).val; omega)
  have a2 : i 1 = b 1 := Fin.ext h1
  unfold rowsConv blockConv
  rw [if_pos (by omega), a0, a1, a2]

theorem out_place (z : S8448x12800.Idx → EReal) (S : S2x32x4x128x128.Idx → EReal) (l : S2x512.Idx → EReal) (g : S2x128.Idx → EReal)
    (y : S8448x512.Idx → EReal) (n : Fin 32) (b : S8x512.Idx) (i : S8448x512.Idx) (h0 : (i 0).val = 8192 + (n.val * 8 + (b 0).val))
    (h1 : (i 1).val = (b 1).val) : blockOut z S l g n b = rowsOut z S l g y i := by
  have hb : (b 0).val < 8 := (b 0).isLt
  have a0 : sampleAt (i 0) = n := Fin.ext (by show ((i 0).val - 8192) / 8 = n.val; omega)
  have a1 : rowAt (i 0) = b 0 := Fin.ext (by show (i 0).val % 8 = (b 0).val; omega)
  have a2 : i 1 = b 1 := Fin.ext h1
  unfold rowsOut blockOut
  rw [if_pos (by omega), a0, a1, a2]

variable (m : (ℓ : Loc nD τ sig) → Buf (Elt Ideal) ℓ) (ρ : Dev nD → PrngReg)

abbrev YB (c : Dev nD) : S8448x512.Idx → EReal := m ((c : Thread nD τ).loc main_arg6)
abbrev YC (c : Dev nD) : S8448x512.Idx → EReal := m ((c : Thread nD τ).loc main_arg7)

abbrev GConv (c : Dev nD) : S8448x512.Idx → EReal := rowsConv (Z m c) (CW m c) (CS m c) (YB m c)
abbrev GOut (c : Dev nD) : S8448x512.Idx → EReal := rowsOut (Z m c) (HS m c) (LB m c) (HN m c) (YC m c)
abbrev GKept (c : Dev nD) : S32x2x512.Idx → EReal := specConvState (Z m c)
abbrev GState (c : Dev nD) : S32x4x128x128.Idx → EReal := specState (Z m c) (HS m c) (LB m c)

theorem facts_rows : ∀ t : Fin cfg0.N, win0_9.index t (0 : Fin 2) = 1024 + t.val ∧ win0_9.index t (1 : Fin 2) = 0
    ∧ win0_10.index t (0 : Fin 2) = 1024 + t.val ∧ win0_10.index t (1 : Fin 2) = 0 :=
  (by decide +kernel : ∀ t : Fin grid0.N, win0_9.index t (0 : Fin 2) = 1024 + t.val ∧ win0_9.index t (1 : Fin 2) = 0
    ∧ win0_10.index t (0 : Fin 2) = 1024 + t.val ∧ win0_10.index t (1 : Fin 2) = 0)

theorem facts_kept : ∀ t : Fin cfg0.N, win0_11.index t (0 : Fin 3) = t.val ∧ win0_11.index t (1 : Fin 3) = 0 ∧ win0_11.index t (2 : Fin 3) = 0 :=
  (by decide +kernel : ∀ t : Fin grid0.N, win0_11.index t (0 : Fin 3) = t.val ∧ win0_11.index t (1 : Fin 3) = 0 ∧ win0_11.index t (2 : Fin 3) = 0)

theorem facts_state : ∀ t : Fin cfg0.N, win0_12.index t (0 : Fin 4) = t.val ∧ win0_12.index t (1 : Fin 4) = 0 ∧ win0_12.index t (2 : Fin 4) = 0
    ∧ win0_12.index t (3 : Fin 4) = 0 :=
  (by decide +kernel : ∀ t : Fin grid0.N, win0_12.index t (0 : Fin 4) = t.val ∧ win0_12.index t (1 : Fin 4) = 0 ∧ win0_12.index t (2 : Fin 4) = 0
    ∧ win0_12.index t (3 : Fin 4) = 0)

/-! ## The states: every entry is some point's -/

theorem flushed_kept (c : Dev nD) (t : Fin cfg0.N) :
    (dats m 0 c).flushed 11 t = ((cfg0.win 11).blk t).view.read (Elt Ideal) (GKept m c) := by
  rw [Value.flushed11, outs_kept]
  funext y
  show blockKept (Z m c) (sampleOf t) y = GKept m c (((cfg0.win 11).blk t).view.emb y)
  obtain ⟨e0, e1, e2⟩ := facts_kept t
  refine congrArg (specConvState (Z m c)) (funext fun a => Fin.ext ?_)
  have h0 : (y 0).val < 1 := (y 0).isLt
  match a with
  | ⟨0, _⟩ => show t.val = win0_11.index t (0 : Fin 3) * 1 + 1 * (y 0).val; rw [e0]; omega
  | ⟨1, _⟩ => show (y 1).val = win0_11.index t (1 : Fin 3) * 2 + 1 * (y 1).val; rw [e1]; omega
  | ⟨2, _⟩ => show (y 2).val = win0_11.index t (2 : Fin 3) * 512 + 1 * (y 2).val; rw [e2]; omega

theorem mem_kept (t : Fin cfg0.N) (i : S32x2x512.Idx) :
    i ∈ ((cfg0.win 11).blk t).view.set ↔ ∀ a : Fin 3, win0_11.index t a * S1x2x512.size a ≤ (i a).val ∧ (i a).val < win0_11.index t a * S1x2x512.size a + S1x2x512.size a := by
  show i ∈ ((View.whole main_v9_2).slice (win0_11.rect t)).set ↔ _
  rw [View.set_slice_whole, Rect.mem_set_unit]
  exact Iff.rfl

/-- The kernel's third result is the samples' convolution states. -/
theorem kernel_kept (c : Dev nD) : (dats m 0 c).arrAt 11 cfg0.N = GKept m c := by
  refine (dats m 0 c).arrAt_eq_of_cover 11 (GKept m c) (fun t _ => flushed_kept m c t) fun i => ?_
  have h0 : (i 0).val < 32 := (i 0).isLt
  have h1 : (i 1).val < 2 := (i 1).isLt
  have h2 : (i 2).val < 512 := (i 2).isLt
  obtain ⟨t, ht⟩ : ∃ t : Fin cfg0.N, t.val = (i 0).val := ⟨⟨(i 0).val, h0⟩, rfl⟩
  obtain ⟨e0, e1, e2⟩ := facts_kept t
  refine ⟨t, flush0_11 t, (mem_kept t i).2 fun a => ?_⟩
  match a with
  | ⟨0, _⟩ => show win0_11.index t (0 : Fin 3) * 1 ≤ (i 0).val ∧ (i 0).val < win0_11.index t (0 : Fin 3) * 1 + 1; rw [e0]; omega
  | ⟨1, _⟩ => show win0_11.index t (1 : Fin 3) * 2 ≤ (i 1).val ∧ (i 1).val < win0_11.index t (1 : Fin 3) * 2 + 2; rw [e1]; omega
  | ⟨2, _⟩ => show win0_11.index t (2 : Fin 3) * 512 ≤ (i 2).val ∧ (i 2).val < win0_11.index t (2 : Fin 3) * 512 + 512; rw [e2]; omega

theorem flushed_state (c : Dev nD) (t : Fin cfg0.N) :
    (dats m 0 c).flushed 12 t = ((cfg0.win 12).blk t).view.read (Elt Ideal) (GState m c) := by
  rw [Value.flushed12, outs_state]
  funext y
  show blockState (Z m c) (HS m c) (LB m c) (sampleOf t) y = GState m c (((cfg0.win 12).blk t).view.emb y)
  obtain ⟨e0, e1, e2, e3⟩ := facts_state t
  refine congrArg (specState (Z m c) (HS m c) (LB m c)) (funext fun a => Fin.ext ?_)
  have h0 : (y 0).val < 1 := (y 0).isLt
  match a with
  | ⟨0, _⟩ => show t.val = win0_12.index t (0 : Fin 4) * 1 + 1 * (y 0).val; rw [e0]; omega
  | ⟨1, _⟩ => show (y 1).val = win0_12.index t (1 : Fin 4) * 4 + 1 * (y 1).val; rw [e1]; omega
  | ⟨2, _⟩ => show (y 2).val = win0_12.index t (2 : Fin 4) * 128 + 1 * (y 2).val; rw [e2]; omega
  | ⟨3, _⟩ => show (y 3).val = win0_12.index t (3 : Fin 4) * 128 + 1 * (y 3).val; rw [e3]; omega

theorem mem_state (t : Fin cfg0.N) (i : S32x4x128x128.Idx) :
    i ∈ ((cfg0.win 12).blk t).view.set ↔ ∀ a : Fin 4, win0_12.index t a * S1x4x128x128.size a ≤ (i a).val ∧ (i a).val < win0_12.index t a * S1x4x128x128.size a + S1x4x128x128.size a := by
  show i ∈ ((View.whole main_v9_3).slice (win0_12.rect t)).set ↔ _
  rw [View.set_slice_whole, Rect.mem_set_unit]
  exact Iff.rfl

/-- The kernel's fourth result is the samples' recurrence states. -/
theorem kernel_state (c : Dev nD) : (dats m 0 c).arrAt 12 cfg0.N = GState m c := by
  refine (dats m 0 c).arrAt_eq_of_cover 12 (GState m c) (fun t _ => flushed_state m c t) fun i => ?_
  have h0 : (i 0).val < 32 := (i 0).isLt
  have h1 : (i 1).val < 4 := (i 1).isLt
  have h2 : (i 2).val < 128 := (i 2).isLt
  have h3 : (i 3).val < 128 := (i 3).isLt
  obtain ⟨t, ht⟩ : ∃ t : Fin cfg0.N, t.val = (i 0).val := ⟨⟨(i 0).val, h0⟩, rfl⟩
  obtain ⟨e0, e1, e2, e3⟩ := facts_state t
  refine ⟨t, flush0_12 t, (mem_state t i).2 fun a => ?_⟩
  match a with
  | ⟨0, _⟩ => show win0_12.index t (0 : Fin 4) * 1 ≤ (i 0).val ∧ (i 0).val < win0_12.index t (0 : Fin 4) * 1 + 1; rw [e0]; omega
  | ⟨1, _⟩ => show win0_12.index t (1 : Fin 4) * 4 ≤ (i 1).val ∧ (i 1).val < win0_12.index t (1 : Fin 4) * 4 + 4; rw [e1]; omega
  | ⟨2, _⟩ => show win0_12.index t (2 : Fin 4) * 128 ≤ (i 2).val ∧ (i 2).val < win0_12.index t (2 : Fin 4) * 128 + 128; rw [e2]; omega
  | ⟨3, _⟩ => show win0_12.index t (3 : Fin 4) * 128 ≤ (i 3).val ∧ (i 3).val < win0_12.index t (3 : Fin 4) * 128 + 128; rw [e3]; omega

/-! ## The rows: the samples' rows are some point's, the prompts' are nobody's -/

theorem flushed_conv (c : Dev nD) (t : Fin cfg0.N) :
    (dats m 0 c).flushed 9 t = ((cfg0.win 9).blk t).view.read (Elt Ideal) (GConv m c) := by
  rw [Value.flushed9, outs_conv]
  funext y
  show blockConv (Z m c) (CW m c) (CS m c) (sampleOf t) y = GConv m c (((cfg0.win 9).blk t).view.emb y)
  obtain ⟨e0, e1, -⟩ := facts_rows t
  refine conv_place (Z m c) (CW m c) (CS m c) (YB m c) (sampleOf t) y _ ?_ ?_
  · show win0_9.index t (0 : Fin 2) * 8 + 1 * (y 0).val = 8192 + (t.val * 8 + (y 0).val)
    rw [e0]; omega
  · show win0_9.index t (1 : Fin 2) * 512 + 1 * (y 1).val = (y 1).val
    rw [e1]; omega

theorem mem_conv (t : Fin cfg0.N) (i : S8448x512.Idx) :
    i ∈ ((cfg0.win 9).blk t).view.set ↔ ∀ a : Fin 2, win0_9.index t a * S8x512.size a ≤ (i a).val ∧ (i a).val < win0_9.index t a * S8x512.size a + S8x512.size a := by
  show i ∈ ((View.whole main_v9_0).slice (win0_9.rect t)).set ↔ _
  rw [View.set_slice_whole, Rect.mem_set_unit]
  exact Iff.rfl

theorem covered_conv (i : S8448x512.Idx) :
    (∃ t : Fin cfg0.N, (cfg0.win 9).flush t = true ∧ i ∈ ((cfg0.win 9).blk t).view.set) ↔ 8192 ≤ (i 0).val := by
  have h0 : (i 0).val < 8448 := (i 0).isLt
  have h1 : (i 1).val < 512 := (i 1).isLt
  constructor
  · rintro ⟨t, -, h⟩
    obtain ⟨e0, e1, -⟩ := facts_rows t
    have h := ((mem_conv t i).1 h 0).1
    change win0_9.index t (0 : Fin 2) * 8 ≤ (i 0).val at h
    rw [e0] at h
    omega
  · intro h
    obtain ⟨t, ht⟩ : ∃ t : Fin cfg0.N, t.val = ((i 0).val - 8192) / 8 := ⟨⟨((i 0).val - 8192) / 8, by show _ < 32; omega⟩, rfl⟩
    obtain ⟨e0, e1, -⟩ := facts_rows t
    refine ⟨t, flush0_9 t, (mem_conv t i).2 fun a => ?_⟩
    match a with
    | ⟨0, _⟩ => show win0_9.index t (0 : Fin 2) * 8 ≤ (i 0).val ∧ (i 0).val < win0_9.index t (0 : Fin 2) * 8 + 8; rw [e0]; omega
    | ⟨1, _⟩ => show win0_9.index t (1 : Fin 2) * 512 ≤ (i 1).val ∧ (i 1).val < win0_9.index t (1 : Fin 2) * 512 + 512; rw [e1]; omega

/-- Before the kernel runs, its first result array holds a copy of the rows given to the call. -/
theorem given_conv (c : Dev nD) : V m c main_v9_0 = YB m c := by
  unfold YB
  unfold_abbrev_sides
  after_results <;> rfl

/-- The kernel's first result is the convolution's rows. -/
theorem kernel_conv (c : Dev nD) : (dats m 0 c).arrAt 9 cfg0.N = GConv m c := by
  funext i
  by_cases h : 8192 ≤ (i 0).val
  · refine ((dats m 0 c).arrAt_eq_piecewise 9 (GConv m c) (fun t _ => flushed_conv m c t) i).trans ?_
    rw [if_pos ((covered_conv i).2 h)]
  · refine (Value.entry9 m c i fun t hf hi => h ((covered_conv i).1 ⟨t, hf, hi⟩)).trans ?_
    refine (congrFun (given_conv m c) i).trans ?_
    show _ = rowsConv _ _ _ _ i
    unfold rowsConv
    rw [if_neg h]

theorem flushed_out (c : Dev nD) (t : Fin cfg0.N) :
    (dats m 0 c).flushed 10 t = ((cfg0.win 10).blk t).view.read (Elt Ideal) (GOut m c) := by
  rw [Value.flushed10, outs_out]
  funext y
  show blockOut (Z m c) (HS m c) (LB m c) (HN m c) (sampleOf t) y = GOut m c (((cfg0.win 10).blk t).view.emb y)
  obtain ⟨-, -, e0, e1⟩ := facts_rows t
  refine out_place (Z m c) (HS m c) (LB m c) (HN m c) (YC m c) (sampleOf t) y _ ?_ ?_
  · show win0_10.index t (0 : Fin 2) * 8 + 1 * (y 0).val = 8192 + (t.val * 8 + (y 0).val)
    rw [e0]; omega
  · show win0_10.index t (1 : Fin 2) * 512 + 1 * (y 1).val = (y 1).val
    rw [e1]; omega

theorem mem_out (t : Fin cfg0.N) (i : S8448x512.Idx) :
    i ∈ ((cfg0.win 10).blk t).view.set ↔ ∀ a : Fin 2, win0_10.index t a * S8x512.size a ≤ (i a).val ∧ (i a).val < win0_10.index t a * S8x512.size a + S8x512.size a := by
  show i ∈ ((View.whole main_v9_1).slice (win0_10.rect t)).set ↔ _
  rw [View.set_slice_whole, Rect.mem_set_unit]
  exact Iff.rfl

theorem covered_out (i : S8448x512.Idx) :
    (∃ t : Fin cfg0.N, (cfg0.win 10).flush t = true ∧ i ∈ ((cfg0.win 10).blk t).view.set) ↔ 8192 ≤ (i 0).val := by
  have h0 : (i 0).val < 8448 := (i 0).isLt
  have h1 : (i 1).val < 512 := (i 1).isLt
  constructor
  · rintro ⟨t, -, h⟩
    obtain ⟨-, -, e0, e1⟩ := facts_rows t
    have h := ((mem_out t i).1 h 0).1
    change win0_10.index t (0 : Fin 2) * 8 ≤ (i 0).val at h
    rw [e0] at h
    omega
  · intro h
    obtain ⟨t, ht⟩ : ∃ t : Fin cfg0.N, t.val = ((i 0).val - 8192) / 8 := ⟨⟨((i 0).val - 8192) / 8, by show _ < 32; omega⟩, rfl⟩
    obtain ⟨-, -, e0, e1⟩ := facts_rows t
    refine ⟨t, flush0_10 t, (mem_out t i).2 fun a => ?_⟩
    match a with
    | ⟨0, _⟩ => show win0_10.index t (0 : Fin 2) * 8 ≤ (i 0).val ∧ (i 0).val < win0_10.index t (0 : Fin 2) * 8 + 8; rw [e0]; omega
    | ⟨1, _⟩ => show win0_10.index t (1 : Fin 2) * 512 ≤ (i 1).val ∧ (i 1).val < win0_10.index t (1 : Fin 2) * 512 + 512; rw [e1]; omega

/-- Before the kernel runs, its second result array holds a copy of the rows given to the call. -/
theorem given_out (c : Dev nD) : V m c main_v9_1 = YC m c := by
  unfold YC
  unfold_abbrev_sides
  after_results <;> rfl

/-- The kernel's second result is the recurrence's rows. -/
theorem kernel_out (c : Dev nD) : (dats m 0 c).arrAt 10 cfg0.N = GOut m c := by
  funext i
  by_cases h : 8192 ≤ (i 0).val
  · refine ((dats m 0 c).arrAt_eq_piecewise 10 (GOut m c) (fun t _ => flushed_out m c t) i).trans ?_
    rw [if_pos ((covered_out i).2 h)]
  · refine (Value.entry10 m c i fun t hf hi => h ((covered_out i).1 ⟨t, hf, hi⟩)).trans ?_
    refine (congrFun (given_out m c) i).trans ?_
    show _ = rowsOut _ _ _ _ _ i
    unfold rowsOut
    rw [if_neg h]

end Cert.MixerSampleIdeal.Math

end
-- ==== Proof.MixerPlain.lean ====
/-
  The plain program of the samples' mixer, read at an entry: its rows, the convolution, the lower bound of the forget
  gate, and the gates.
-/
module

public import proofs.«01_k».proof.Proof.MixerArrays
public import proofs.«01_k».proof.Proof.Gen.MixerSampleRefIdeal.Run
public import proofs.«01_k».proof.Proof.Gen.MixerSampleRefIdeal.Read

@[expose] public section

noncomputable section

open Idealize.ShloMosaic Idealize.ShloMosaic.TcCoe Idealize.SL.Sem

namespace Cert.MixerSampleRefIdeal.Math

open Cert.MixerSampleRefIdeal Cert.MixerSampleRefIdeal.Gen Cert.MixerSampleRefIdeal.Read Cert.Mixer
open Cert.MixerSampleIdeal.Math (rowOf colOf lane lower forget taken query value product)

/-- The samples' rows of the wide projection. -/
theorem zs_apply (x0 : S8448x12800.Idx → EReal) (n : Fin 32) (s : Fin 8) (c : Fin 12800) :
    val_main_v21 (F := Ideal) x0 (ix3 n s c) = x0 (ix2 (rowOf n s) c) := by
  rw [val_main_v21_apply, val_main_v20_apply]
  refine congrArg x0 (funext fun a => Fin.ext ?_)
  match a with
  | ⟨0, _⟩ => show 8192 + ((n.val * 8 + s.val) * 12800 + c.val) / 12800 = 8192 + (n.val * 8 + s.val); omega
  | ⟨1, _⟩ => show ((n.val * 8 + s.val) * 12800 + c.val) % 12800 = c.val; omega

theorem cols_eq (n : Fin 32) (s : Fin 8) (d : Fin 512) (o : Nat) (ho : o + 512 ≤ 12800) (i : S32x8x12800.Idx) (h0 : (i 0).val = n.val)
    (h1 : (i 1).val = s.val) (h2 : (i 2).val = o + d.val) : i = ix3 n s (colOf o ho d) := by
  funext a
  apply Fin.ext
  match a with
  | ⟨0, _⟩ => exact h0
  | ⟨1, _⟩ => exact h1
  | ⟨2, _⟩ => exact h2

/-! ## The convolution -/

/-- What the convolution runs over. -/
theorem product_apply (x0 : S8448x12800.Idx → EReal) (n : Fin 32) (s : Fin 8) (d : Fin 512) :
    val_main_v29 (F := Ideal) x0 (ix3 n s d) = product x0 n s d := by
  rw [val_main_v29_apply, val_main_v23_apply, val_main_v24_apply, cols_eq n s d 3072 (by decide) (idx_main_v23 (ix3 n s d)) rfl rfl rfl,
    cols_eq n s d 3584 (by decide) (idx_main_v24 (ix3 n s d)) rfl rfl rfl, zs_apply, zs_apply]
  rfl

/-- The two rows kept from before, of layer 1. -/
theorem before_apply (x2 : S2x32x2x512.Idx → EReal) (n : Fin 32) (r : Fin 2) (d : Fin 512) :
    val_main_v28 (F := Ideal) x2 (ix3 n r d) = x2 (ix4 1 n r d) := by
  pointwise [val_main_v28, val_main_v27]

/-- Those rows and the sample's eight below them. -/
theorem after_apply (x0 : S8448x12800.Idx → EReal) (x2 : S2x32x2x512.Idx → EReal) (n : Fin 32) (r : Fin 10) (d : Fin 512) :
    val_main_v30 (F := Ideal) x0 x2 (ix3 n r d) = after (fun r => x2 (ix4 1 n r d)) (fun s => product x0 n s d) r := by
  unfold val_main_v30 after
  by_cases h : r.val < 2
  · rw [dif_pos h]
    refine (concatenate_pair_apply_left (s₁ := S32x2x512) (s₂ := S32x8x512) 1 _ _ _ (ix3 n r d) rfl (ix3 n ⟨r.val, h⟩ d) ?_).trans
      (before_apply x2 n ⟨r.val, h⟩ d)
    intro b
    match b with
    | ⟨0, _⟩ => rfl
    | ⟨1, _⟩ => rfl
    | ⟨2, _⟩ => rfl
  · rw [dif_neg h]
    refine (concatenate_pair_apply_right (s₁ := S32x2x512) (s₂ := S32x8x512) 1 _ _ _ (ix3 n r d) rfl rfl (ix3 n ⟨r.val - 2, by omega⟩ d) ?_ ?_).trans
      (product_apply x0 n ⟨r.val - 2, by omega⟩ d)
    · intro b hb
      match b with
      | ⟨0, _⟩ => rfl
      | ⟨1, _⟩ => exact absurd rfl hb
      | ⟨2, _⟩ => rfl
    · show r.val - 2 + 2 = r.val
      omega

/-- The convolution's rows. -/
theorem conv_apply (x0 : S8448x12800.Idx → EReal) (x1 : S2x3x512.Idx → EReal) (x2 : S2x32x2x512.Idx → EReal) (n : Fin 32) (s : Fin 8) (d : Fin 512) :
    val_main_v51 (F := Ideal) x0 x1 x2 (ix3 n s d) = Cert.MixerSampleIdeal.Math.specConv x0 x1 x2 n s d := by
  rw [val_main_v51_apply, val_main_v22_apply, cols_eq n s d 2560 (by decide) (idx_main_v22 (ix3 n s d)) rfl rfl rfl, zs_apply]
  refine congrArg (x0 (ix2 (rowOf n s) (colOf 2560 (by decide) d)) * ·) ?_
  unfold conv
  simp only [← after_apply]
  unfold val_main_v50 val_main_v49 val_main_v46 val_main_v43 val_main_v42 val_main_v39 val_main_v36 val_main_v33
  generalize val_main_v30 (F := Ideal) x0 x2 = y
  pointwise [val_main_v48, val_main_v47, val_main_v45, val_main_v44, val_main_v41, val_main_v40, val_main_v38, val_main_v37, val_main_v35, val_main_v34,
    val_main_v32, val_main_v31, val_main_v26, val_main_v25]
  simp only [Nat.add_comm]

/-- The last two of the ten rows. -/
theorem kept_apply (x0 : S8448x12800.Idx → EReal) (x2 : S2x32x2x512.Idx → EReal) (n : Fin 32) (r : Fin 2) (d : Fin 512) :
    val_main_v52 (F := Ideal) x0 x2 (ix3 n r d) = product x0 n ⟨6 + r.val, by omega⟩ d := by
  rw [val_main_v52_apply]
  have e : idx_main_v52 (ix3 n r d) = ix3 n ⟨8 + r.val, by omega⟩ d := by
    funext a
    match a with
    | ⟨0, _⟩ => rfl
    | ⟨1, _⟩ => rfl
    | ⟨2, _⟩ => rfl
  rw [e, after_apply, after, dif_neg (by dsimp only; omega)]
  refine congrArg (fun r => product x0 n r d) (Fin.ext ?_)
  show 8 + r.val - 2 = 6 + r.val
  omega

/-- The plain program's third result is the samples' convolution states. -/
theorem reference_kept (x0 : S8448x12800.Idx → EReal) (x2 : S2x32x2x512.Idx → EReal) :
    val_main_v52 (F := Ideal) x0 x2 = Cert.MixerSampleIdeal.Math.specConvState x0 := by
  funext i
  have hi : i = ix3 (i 0) (i 1) (i 2) := by
    funext a
    match a with
    | ⟨0, _⟩ => rfl
    | ⟨1, _⟩ => rfl
    | ⟨2, _⟩ => rfl
  rw [hi]
  exact kept_apply x0 x2 (i 0) (i 1) (i 2)

/-! ## The lower bound of the forget gate -/

/-- The greater logit. -/
theorem greatest_apply (x4 : S2x512.Idx → EReal) (d : Fin 512) : val_main_v2 (F := Ideal) x4 (ix1 d) = greater fun i => x4 (ix2 i d) := by
  have hb : Ideal.ofBits .f32 4286578688#32 = (⊥ : EReal) := by simp [Ideal.ofBits, Ideal.ieee]
  rw [val_main_v2_apply, val_main_v1_apply]
  unfold val_main_v0
  rw [Host.reduce_eq_fold_single _ _ _ reducesTo_S2x512_S512_d0 (by decide)]
  show max (Ideal.ofBits .f32 4286578688#32) (Finset.fold max (Ideal.ofBits .f32 4286578688#32) _ _) = _
  rw [hb, max_eq_right bot_le]
  refine Eq.trans ?_ (fold_greater _)
  refine congrArg (fun f => Finset.fold max (⊥ : EReal) f (Finset.univ : Finset (Fin 2))) (funext fun i => congrArg x4 (funext fun a => ?_))
  match a with
  | ⟨0, _⟩ => rfl
  | ⟨1, _⟩ => rfl

/-- A layer's share of the softmax. -/
theorem share_apply (x4 : S2x512.Idx → EReal) (i : Fin 2) (d : Fin 512) :
    val_main_v10 (F := Ideal) x4 (ix2 i d) = share (fun i => x4 (ix2 i d)) i := by
  have e6 : ∀ k : Fin 2, val_main_v6 (F := Ideal) x4 (ix2 k d) = Ideal.exp (x4 (ix2 k d) - greater fun i => x4 (ix2 i d)) := fun k => by
    rw [← greatest_apply]
    unfold val_main_v6 val_main_v5
    generalize hy : val_main_v2 (F := Ideal) x4 = y
    pointwise [val_main_v4, val_main_v3, hy]
  have e7 : val_main_v7 (F := Ideal) x4 (ix1 d) = Ideal.exp (x4 (ix2 0 d) - greater fun i => x4 (ix2 i d)) + Ideal.exp (x4 (ix2 1 d) - greater fun i => x4 (ix2 i d)) := by
    rw [val_main_v7_apply, Fin.sum_univ_two, ← e6, ← e6]
    have e : ∀ k : Fin 2, idx_main_v7 (ix1 d) k = ix2 k d := fun k => funext fun a => by
      match a with
      | ⟨0, _⟩ => rfl
      | ⟨1, _⟩ => rfl
    rw [e, e]
    show Ideal.ofBits .f32 0#32 + _ = _
    rw [Ideal.ofBits_zero .f32, zero_add]
  unfold share
  rw [← e6, ← e7, val_main_v10_apply, val_main_v9_apply, val_main_v8_apply]
  have e : idx_main_v8 (idx_main_v9 (ix2 i d)) = ix1 d := funext fun a => by
    match a with
    | ⟨0, _⟩ => rfl
  rw [e]
  rfl

/-- A fold over as many places under another name of their number. -/
theorem foldl_cast {N M : Nat} (h : N = M) (F : EReal → Fin N → EReal) (z : EReal) :
    (List.finRange N).foldl F z = (List.finRange M).foldl (fun r n => F r (n.cast h.symm)) z := by
  subst h
  rfl

/-- The places of a window of two rows. -/
theorem place_two (h : 2 = (⟨2, ![2, 1]⟩ : Shape).numel) (n : Fin 2) :
    ∀ a, ((⟨2, ![2, 1]⟩ : Shape).rowMajor.symm (Fin.cast h n) a).val = ![n.val, 0] a := by
  revert h n
  decide +kernel

/-- The shares summed up to the second layer. -/
theorem both_apply (x4 : S2x512.Idx → EReal) (d : Fin 512) :
    val_main_v11 (F := Ideal) x4 (ix2 1 d) = val_main_v10 (F := Ideal) x4 (ix2 0 d) + val_main_v10 (F := Ideal) x4 (ix2 1 d) := by
  have hv : ∀ i, val_main_call0_call0_v0 (F := Ideal) i = (0 : EReal) := fun i => by
    rw [val_main_call0_call0_v0_apply, val_main_call0_call0_cst_apply]
    exact Ideal.ofBits_zero .f32
  unfold val_main_v11
  generalize val_main_v10 (F := Ideal) x4 = y
  generalize val_main_call0_call0_v0 (F := Ideal) = v at hv
  unfold Host.reduceWindowAdd
  rw [Ideal.hostReduceWindowAdd_def]
  unfold Ideal.hostReduceWindowAdd Host.reduceWindow
  simp only [hv]
  refine (foldl_cast (M := 2) (by decide) _ _).trans ?_
  have e : List.finRange 2 = [0, 1] := by decide
  rw [e]
  simp only [List.foldl_cons, List.foldl_nil, zero_add]
  have hp0 := place_two (by decide) 0
  have hp1 := place_two (by decide) 1
  refine congrArg₂ (· + ·) ?_ ?_
  · refine (dif_pos fun a => ?_).trans (congrArg y (funext fun a => Fin.ext ?_))
    · rw [show ((⟨2, ![2, 1]⟩ : Shape).rowMajor.symm (Fin.cast _ 0) a).val = _ from hp0 a]
      match a with
      | ⟨0, _⟩ => exact ⟨by show 1 ≤ 1 * 1 + 0; omega, by show 1 * 1 + 0 - 1 < 2; omega⟩
      | ⟨1, _⟩ => exact ⟨Nat.zero_le _, by show d.val * 1 + 0 - 0 < 512; omega⟩
    · show _ + ((⟨2, ![2, 1]⟩ : Shape).rowMajor.symm (Fin.cast _ 0) a).val - _ = _
      rw [show ((⟨2, ![2, 1]⟩ : Shape).rowMajor.symm (Fin.cast _ 0) a).val = _ from hp0 a]
      match a with
      | ⟨0, _⟩ => rfl
      | ⟨1, _⟩ => show d.val * 1 + 0 - 0 = d.val; omega
  · refine (dif_pos fun a => ?_).trans (congrArg y (funext fun a => Fin.ext ?_))
    · rw [show ((⟨2, ![2, 1]⟩ : Shape).rowMajor.symm (Fin.cast _ 1) a).val = _ from hp1 a]
      match a with
      | ⟨0, _⟩ => exact ⟨by show 1 ≤ 1 * 1 + 1; omega, by show 1 * 1 + 1 - 1 < 2; omega⟩
      | ⟨1, _⟩ => exact ⟨Nat.zero_le _, by show d.val * 1 + 0 - 0 < 512; omega⟩
    · show _ + ((⟨2, ![2, 1]⟩ : Shape).rowMajor.symm (Fin.cast _ 1) a).val - _ = _
      rw [show ((⟨2, ![2, 1]⟩ : Shape).rowMajor.symm (Fin.cast _ 1) a).val = _ from hp1 a]
      match a with
      | ⟨0, _⟩ => rfl
      | ⟨1, _⟩ => show d.val * 1 + 0 - 0 = d.val; omega

/-- Layer 1's lower bounds, by head and channel. -/
theorem lower_apply (x4 : S2x512.Idx → EReal) (h : Fin 4) (d : Fin 128) :
    val_main_v19 (F := Ideal) x4 (ix2 h d) = lower x4 (lane h d) := by
  unfold lower bound
  simp only [← share_apply]
  rw [← both_apply]
  have h15 : val_main_v15 (F := Ideal) x4 (ix2 1 (lane h d)) = val_main_v10 (F := Ideal) x4 (ix2 0 (lane h d)) := by
    pointwise [val_main_v15, val_main_v14, val_main_v13, val_main_v12]
  rw [← h15, val_main_v19_apply, val_main_v18_apply, val_main_v17_apply]
  have e : idx_main_v17 (idx_main_v18 (idx_main_v19 (ix2 h d))) = ix2 1 (lane h d) := funext fun a => Fin.ext (by
    match a with
    | ⟨0, _⟩ => rfl
    | ⟨1, _⟩ => show (h.val * 128 + d.val) % 512 = h.val * 128 + d.val; omega)
  rw [e]
  rfl

/-- The places of the window, counted along its third axis. -/
theorem place (n : Fin 8) : ∀ a, ((⟨4, ![1, 1, 8, 1]⟩ : Shape).rowMajor.symm n a).val = ![0, 0, n.val, 0] a := by
  revert n
  decide +kernel

/-- The sums over windows of eight rows, padded above, are the running sums. -/
theorem window_apply (y : S32x4x8x128.Idx → EReal) (v : S_.Idx → EReal) (hv : ∀ i, v i = 0) (n : Fin 32) (h : Fin 4) (t : Fin 8) (d : Fin 128) :
    Host.reduceWindowAdd (F := Ideal) (φ := .f32) ![1, 1, 8, 1] ![1, 1, 1, 1] ![0, 0, 7, 0] ![0, 0, 0, 0] y v
        reduceWindows_S32x4x8x128_S32x4x8x128_w1s1p0_0_w1s1p0_0_w8s1p7_0_w1s1p0_0 h_S_ (ix4 n h t d)
      = upTo (fun s => y (ix4 n h s d)) t := by
  rw [← window]
  unfold Host.reduceWindowAdd
  rw [Ideal.hostReduceWindowAdd_def]
  unfold Ideal.hostReduceWindowAdd Host.reduceWindow
  simp only [hv]
  refine (foldl_cast (M := 8) (by decide) _ _).trans ?_
  refine congrArg (fun F => List.foldl F (0 : EReal) (List.finRange 8)) (funext fun r => funext fun k => congrArg (r + ·) ?_)
  have hp := place k
  unfold rowOr
  by_cases hk : 7 ≤ t.val + k.val
  · rw [dif_pos hk]
    refine (dif_pos fun a => ?_).trans (congrArg y (funext fun a => Fin.ext ?_))
    · rw [show ((⟨4, ![1, 1, 8, 1]⟩ : Shape).rowMajor.symm (Fin.cast _ k) a).val = _ from hp a]
      match a with
      | ⟨0, _⟩ => exact ⟨Nat.zero_le _, by show n.val * 1 + 0 - 0 < 32; omega⟩
      | ⟨1, _⟩ => exact ⟨Nat.zero_le _, by show h.val * 1 + 0 - 0 < 4; omega⟩
      | ⟨2, _⟩ => exact ⟨by show 7 ≤ t.val * 1 + k.val; omega, by show t.val * 1 + k.val - 7 < 8; omega⟩
      | ⟨3, _⟩ => exact ⟨Nat.zero_le _, by show d.val * 1 + 0 - 0 < 128; omega⟩
    · show _ + ((⟨4, ![1, 1, 8, 1]⟩ : Shape).rowMajor.symm (Fin.cast _ k) a).val - _ = _
      rw [show ((⟨4, ![1, 1, 8, 1]⟩ : Shape).rowMajor.symm (Fin.cast _ k) a).val = _ from hp a]
      match a with
      | ⟨0, _⟩ => show n.val * 1 + 0 - 0 = n.val; omega
      | ⟨1, _⟩ => show h.val * 1 + 0 - 0 = h.val; omega
      | ⟨2, _⟩ => show t.val * 1 + k.val - 7 = t.val + k.val - 7; omega
      | ⟨3, _⟩ => show d.val * 1 + 0 - 0 = d.val; omega
  · rw [dif_neg hk]
    refine dif_neg fun hc => hk ?_
    have h2 : 7 ≤ t.val * 1 + ((⟨4, ![1, 1, 8, 1]⟩ : Shape).rowMajor.symm (Fin.cast _ k) 2).val := (hc 2).1
    rw [show ((⟨4, ![1, 1, 8, 1]⟩ : Shape).rowMajor.symm (Fin.cast _ k) 2).val = k.val from hp 2] at h2
    omega

end Cert.MixerSampleRefIdeal.Math

end
-- ==== Proof.MixerGates.lean ====
/-
  The plain program of the samples' mixer, read at an entry: the query, the forget gate's logarithm, the intake and the
  value of the recurrence.
-/
module

public import proofs.«01_k».proof.Proof.MixerPlain

@[expose] public section

noncomputable section

open Idealize.ShloMosaic Idealize.ShloMosaic.TcCoe Idealize.SL.Sem

namespace Cert.MixerSampleRefIdeal.Math

open Cert.MixerSampleRefIdeal Cert.MixerSampleRefIdeal.Gen Cert.MixerSampleRefIdeal.Read Cert.Mixer
open Cert.MixerSampleIdeal.Math (rowOf colOf lane lower forget taken query value product)

theorem zero_bits : FloatOps.ofBits (F := Ideal) .f32 0x00000000#32 = (0 : EReal) := Ideal.ofBits_zero .f32
theorem one_bits : FloatOps.ofBits (F := Ideal) .f32 0x3F800000#32 = (1 : EReal) := Ideal.ofBits_one_f32

/-- A number compared with itself is never unequal. -/
theorem select_une (d a b : EReal) : Scalar.select (FloatOps.cmpf (F := Ideal) (φ := .f32) .une d d) a b = b := by
  have h : FloatOps.cmpf (F := Ideal) (φ := .f32) .une d d = 0#1 := by
    show Ideal.cmp .une d d = 0#1
    simp [Ideal.cmp]
  rw [h]
  rfl

/-- A choice by a comparison with zero. -/
theorem select_ogt (d a b : EReal) : Scalar.select (FloatOps.cmpf (F := Ideal) (φ := .f32) .ogt d 0) a b = if 0 < d then a else b := by
  by_cases h : 0 < d
  · have e : FloatOps.cmpf (F := Ideal) (φ := .f32) .ogt d 0 = 1#1 := by
      show Ideal.cmp .ogt d 0 = 1#1
      simp [Ideal.cmp, h]
    rw [e, if_pos h]
    rfl
  · have e : FloatOps.cmpf (F := Ideal) (φ := .f32) .ogt d 0 = 0#1 := by
      show Ideal.cmp .ogt d 0 = 0#1
      simp [Ideal.cmp, h]
    rw [e, if_neg h]
    rfl

/-! ## The columns, by head and channel -/

/-- An index split by heads. -/
theorem heads_eq (n : Fin 32) (s : Fin 8) (h : Fin 4) (d : Fin 128) (i : S32x8x512.Idx) (h0 : (i 0).val = (((n.val * 8 + s.val) * 4 + h.val) * 128 + d.val) / 4096)
    (h1 : (i 1).val = (((n.val * 8 + s.val) * 4 + h.val) * 128 + d.val) / 512 % 8) (h2 : (i 2).val = (((n.val * 8 + s.val) * 4 + h.val) * 128 + d.val) % 512) :
    i = ix3 n s (lane h d) := by
  funext a
  apply Fin.ext
  match a with
  | ⟨0, _⟩ => exact h0.trans (by show _ = n.val; omega)
  | ⟨1, _⟩ => exact h1.trans (by show _ = s.val; omega)
  | ⟨2, _⟩ => exact h2.trans (by show _ = h.val * 128 + d.val; omega)

/-- The forget gate's logit. -/
theorem logit_apply (x0 : S8448x12800.Idx → EReal) (n : Fin 32) (s : Fin 8) (h : Fin 4) (d : Fin 128) :
    val_main_v63 (F := Ideal) x0 (ix4 n s h d) = x0 (ix2 (rowOf n s) (colOf 4608 (by decide) (lane h d))) := by
  rw [val_main_v63_apply, heads_eq n s h d (idx_main_v63 (ix4 n s h d)) rfl rfl rfl, val_main_v54_apply,
    cols_eq n s (lane h d) 4608 (by decide) (idx_main_v54 (ix3 n s (lane h d))) rfl rfl rfl, zs_apply]

/-- The value. -/
theorem value_apply (x0 : S8448x12800.Idx → EReal) (n : Fin 32) (s : Fin 8) (h : Fin 4) (d : Fin 128) :
    val_main_v104 (F := Ideal) x0 (ix4 n h s d) = value x0 n s (lane h d) := by
  rw [val_main_v104_apply]
  have e : idx_main_v104 (ix4 n h s d) = ix4 n s h d := funext fun a => by
    match a with
    | ⟨0, _⟩ => rfl
    | ⟨1, _⟩ => rfl
    | ⟨2, _⟩ => rfl
    | ⟨3, _⟩ => rfl
  rw [e, val_main_v64_apply, heads_eq n s h d (idx_main_v64 (ix4 n s h d)) rfl rfl rfl, val_main_v55_apply,
    cols_eq n s (lane h d) 5120 (by decide) (idx_main_v55 (ix3 n s (lane h d))) rfl rfl rfl, zs_apply]
  rfl

/-- The query. -/
theorem query_apply (x0 : S8448x12800.Idx → EReal) (n : Fin 32) (s : Fin 8) (h : Fin 4) (d : Fin 128) :
    val_main_v102 (F := Ideal) x0 (ix4 n h s d) = query x0 n s (lane h d) := by
  rw [val_main_v102_apply]
  have e : idx_main_v102 (ix4 n h s d) = ix4 n s h d := funext fun a => by
    match a with
    | ⟨0, _⟩ => rfl
    | ⟨1, _⟩ => rfl
    | ⟨2, _⟩ => rfl
    | ⟨3, _⟩ => rfl
  have e53 : val_main_v53 (F := Ideal) x0 (ix3 n s (lane h d)) = x0 (ix2 (rowOf n s) (colOf 4096 (by decide) (lane h d))) := by
    rw [val_main_v53_apply, cols_eq n s (lane h d) 4096 (by decide) (idx_main_v53 (ix3 n s (lane h d))) rfl rfl rfl, zs_apply]
  rw [e, val_main_v62_apply, heads_eq n s h d (idx_main_v62 (ix4 n s h d)) rfl rfl rfl]
  unfold query
  rw [← e53]
  simp only [val_main_v61_apply, val_main_call1_v5_apply, val_main_call1_v4_apply, val_main_call1_v3_apply, val_main_call1_v2_apply, val_main_call1_v1_apply,
    val_main_call1_v0_apply, val_main_call1_cst_apply, val_main_call1_cst_0_apply, one_bits]
  rfl

/-! ## The forget gate -/

/-- The logarithm of the sigmoid. -/
theorem logSig_apply (x0 : S8448x12800.Idx → EReal) (i : S32x8x4x128.Idx) :
    val_main_v69 (F := Ideal) x0 i = logSig (val_main_v63 (F := Ideal) x0 i) := by
  rw [← neg_logAdd_neg]
  simp only [val_main_v69_apply, val_main_call3_v1_apply, val_main_call3_call0_v11_apply, val_main_call3_call0_v10_apply, val_main_call3_call0_v9_apply,
    val_main_call3_call0_v8_apply, val_main_call3_call0_v7_apply, val_main_call3_call0_v4_apply, val_main_call3_call0_v3_apply,
    val_main_call3_call0_v2_apply, val_main_call3_call0_v1_apply, val_main_call3_call0_v0_apply, val_main_call3_v0_apply,
    val_main_call3_call0_cst_apply, zero_bits, select_une]
  rfl

/-- The logarithm of the forget gate. -/
theorem forget_apply (x0 : S8448x12800.Idx → EReal) (x4 : S2x512.Idx → EReal) (n : Fin 32) (s : Fin 8) (h : Fin 4) (d : Fin 128) :
    val_main_v89 (F := Ideal) x0 x4 (ix4 n s h d) = forget x0 x4 n s (lane h d) := by
  have e2 : ∀ i j : S4x128.Idx, (i 0).val = (j 0).val → (i 1).val = (j 1).val → i = j := fun i j h0 h1 => funext fun a => Fin.ext (by
    match a with
    | ⟨0, _⟩ => exact h0
    | ⟨1, _⟩ => exact h1)
  have e72 : idx_main_v72 (idx_main_v73 (ix4 n s h d)) = ix2 h d := e2 _ _ rfl rfl
  have e75 : idx_main_v75 (idx_main_v76 (ix4 n s h d)) = ix2 h d := e2 _ _ rfl rfl
  have e78 : idx_main_v75 (idx_main_v78 (ix4 n s h d)) = ix2 h d := e2 _ _ rfl rfl
  have ec : idx_main_call4_v0 (ix4 n s h d) = ix2 h d := e2 _ _ rfl rfl
  simp only [val_main_v89_apply, val_main_v88_apply, val_main_v87_apply, val_main_v86_apply, val_main_v85_apply, val_main_v84_apply, val_main_v83_apply,
    val_main_v80_apply, val_main_v79_apply, val_main_v78_apply, val_main_v77_apply, val_main_v76_apply, val_main_v75_apply, val_main_v74_apply,
    val_main_v73_apply, val_main_v72_apply, val_main_v71_apply, val_main_v70_apply, val_main_v68_apply, val_main_v67_apply, val_main_v66_apply,
    val_main_v65_apply, val_main_call2_v1_apply, val_main_call2_v0_apply, val_main_call4_v0_apply, val_main_cst_2_apply, val_main_cst_3_apply,
    e72, e75, e78, ec, logSig_apply, logit_apply, lower_apply, zero_bits, one_bits, select_une, select_ogt]
  rfl

/-- The intake. -/
theorem taken_apply (x0 : S8448x12800.Idx → EReal) (x4 : S2x512.Idx → EReal) (n : Fin 32) (s : Fin 8) (h : Fin 4) (d : Fin 128) :
    val_main_v103 (F := Ideal) x0 x4 (ix4 n h s d) = taken x0 x4 n s (lane h d) := by
  have e2 : ∀ i j : S4x128.Idx, (i 0).val = (j 0).val → (i 1).val = (j 1).val → i = j := fun i j h0 h1 => funext fun a => Fin.ext (by
    match a with
    | ⟨0, _⟩ => exact h0
    | ⟨1, _⟩ => exact h1)
  have e : idx_main_v103 (ix4 n h s d) = ix4 n s h d := funext fun a => by
    match a with
    | ⟨0, _⟩ => rfl
    | ⟨1, _⟩ => rfl
    | ⟨2, _⟩ => rfl
    | ⟨3, _⟩ => rfl
  have e99 : idx_main_v99 (idx_main_v100 (ix4 n s h d)) = ix2 h d := e2 _ _ rfl rfl
  rw [val_main_v103_apply, e]
  simp only [val_main_v101_apply, val_main_v100_apply, val_main_v99_apply, val_main_v98_apply, val_main_v97_apply, val_main_v96_apply, val_main_v95_apply,
    val_main_v94_apply, val_main_v93_apply, val_main_v92_apply, val_main_v91_apply, val_main_v90_apply, val_main_cst_4_apply, val_main_cst_5_apply,
    val_main_cst_6_apply, e99, logit_apply, lower_apply, one_bits]
  rfl

/-- The running sum of the forget gate's logarithms. -/
theorem total_apply (x0 : S8448x12800.Idx → EReal) (x4 : S2x512.Idx → EReal) (n : Fin 32) (h : Fin 4) (t : Fin 8) (d : Fin 128) :
    val_main_v109 (F := Ideal) x0 x4 (ix4 n h t d) = upTo (fun s => forget x0 x4 n s (lane h d)) t := by
  have e : ∀ s : Fin 8, val_main_v105 (F := Ideal) x0 x4 (ix4 n h s d) = forget x0 x4 n s (lane h d) := fun s => by
    have e : idx_main_v105 (ix4 n h s d) = ix4 n s h d := funext fun a => by
      match a with
      | ⟨0, _⟩ => rfl
      | ⟨1, _⟩ => rfl
      | ⟨2, _⟩ => rfl
      | ⟨3, _⟩ => rfl
    rw [val_main_v105_apply, e, forget_apply]
  simp only [← e]
  refine window_apply _ _ (fun i => ?_) n h t d
  rw [val_main_call6_call0_v0_apply, val_main_call6_call0_cst_apply]
  exact zero_bits

end Cert.MixerSampleRefIdeal.Math

end
-- ==== Proof.MixerRecurrence.lean ====
/-
  The plain program of the samples' mixer, read at an entry: the recurrence's output before its norm, and its state after
  the eight rows.
-/
module

public import proofs.«01_k».proof.Proof.MixerGates

@[expose] public section

noncomputable section

open Idealize.ShloMosaic Idealize.ShloMosaic.TcCoe Idealize.SL.Sem

namespace Cert.MixerSampleRefIdeal.Math

open Cert.MixerSampleRefIdeal Cert.MixerSampleRefIdeal.Gen Cert.MixerSampleRefIdeal.Read Cert.Mixer
open Cert.MixerSampleIdeal.Math (rowOf colOf lane lower forget taken query value product specState)

/-- The state before, of layer 1. -/
theorem before_state_apply (x3 : S2x32x4x128x128.Idx → EReal) (n : Fin 32) (h : Fin 4) (d e : Fin 128) :
    val_main_v58 (F := Ideal) x3 (ix4 n h d e) = x3 (ix5 1 n h d e) := by
  rw [val_main_v58_apply, val_main_v57_apply]
  refine congrArg x3 (funext fun a => Fin.ext ?_)
  match a with
  | ⟨0, _⟩ => rfl
  | ⟨1, _⟩ => show (((n.val * 4 + h.val) * 128 + d.val) * 128 + e.val) / 65536 % 32 = n.val; omega
  | ⟨2, _⟩ => show (((n.val * 4 + h.val) * 128 + d.val) * 128 + e.val) / 16384 % 4 = h.val; omega
  | ⟨3, _⟩ => show (((n.val * 4 + h.val) * 128 + d.val) * 128 + e.val) / 128 % 128 = d.val; omega
  | ⟨4, _⟩ => show (((n.val * 4 + h.val) * 128 + d.val) * 128 + e.val) % 128 = e.val; omega

/-! ## The weights of the rows -/

/-- The mask of the rows that count. -/
theorem mask_apply (t s : Fin 8) : val_main_v107 (F := Ideal) (ix2 t s) = if s ≤ t then 1#1 else 0#1 := by
  simp only [val_main_v107_apply, val_main_call5_v4_apply, val_main_call5_v2_apply, val_main_call5_v0_apply, val_main_call5_v1_apply,
    val_main_call5_c_apply, val_main_call5_v3_apply, val_main_v106_apply, val_main_c_apply, val_main_call5_v5_apply, val_main_call5_c_0_apply]
  show Scalar.select (IntOp.cmpi .sge (IntOp.addi (BitVec.ofNat 32 t.val) 0#32) (BitVec.ofNat 32 s.val)) (1#1 : BitVec 1) 0#1 = _
  revert t s
  decide

theorem select_mask (t s : Fin 8) (a b : EReal) : Scalar.select (if s ≤ t then 1#1 else 0#1 : BitVec 1) a b = if s ≤ t then a else b := by
  by_cases h : s ≤ t
  · rw [if_pos h, if_pos h]
    rfl
  · rw [if_neg h, if_neg h]
    rfl

/-- What a pair of rows gives at a channel. -/
theorem weighed_apply (x0 : S8448x12800.Idx → EReal) (x4 : S2x512.Idx → EReal) (n : Fin 32) (h : Fin 4) (t s : Fin 8) (d : Fin 128) :
    val_main_v126 (F := Ideal) x0 x4 (ix5 n h t s d)
      = if s ≤ t then query x0 n t (lane h d) * taken x0 x4 n s (lane h d)
          * Ideal.exp (upTo (fun s => forget x0 x4 n s (lane h d)) t - upTo (fun s => forget x0 x4 n s (lane h d)) s) else 0 := by
  have eq : ∀ i j : S32x4x8x128.Idx, (i 0).val = (j 0).val → (i 1).val = (j 1).val → (i 2).val = (j 2).val → (i 3).val = (j 3).val → i = j :=
    fun i j h0 h1 h2 h3 => funext fun a => Fin.ext (by
      match a with
      | ⟨0, _⟩ => exact h0
      | ⟨1, _⟩ => exact h1
      | ⟨2, _⟩ => exact h2
      | ⟨3, _⟩ => exact h3)
  have em : ∀ i j : S8x8.Idx, (i 0).val = (j 0).val → (i 1).val = (j 1).val → i = j := fun i j h0 h1 => funext fun a => Fin.ext (by
    match a with
    | ⟨0, _⟩ => exact h0
    | ⟨1, _⟩ => exact h1)
  have e115 : idx_main_v113 (idx_main_v115 (ix5 n h t s d)) = ix4 n h t d := eq _ _ rfl rfl rfl rfl
  have e116 : idx_main_v114 (idx_main_v116 (ix5 n h t s d)) = ix4 n h s d := eq _ _ rfl rfl rfl rfl
  have e123 : idx_main_v121 (idx_main_v123 (ix5 n h t s d)) = ix4 n h t d := eq _ _ rfl rfl rfl rfl
  have e124 : idx_main_v122 (idx_main_v124 (ix5 n h t s d)) = ix4 n h s d := eq _ _ rfl rfl rfl rfl
  have e7 : idx_main_v108 (idx_main_call7_v1 (ix5 n h t s d)) = ix2 t s := em _ _ rfl rfl
  have e8 : idx_main_v108 (idx_main_call8_v1 (ix5 n h t s d)) = ix2 t s := em _ _ rfl rfl
  simp only [val_main_v126_apply, val_main_v125_apply, val_main_v124_apply, val_main_v123_apply, val_main_v122_apply, val_main_v121_apply,
    val_main_v120_apply, val_main_v119_apply, val_main_v118_apply, val_main_v117_apply, val_main_v116_apply, val_main_v115_apply, val_main_v114_apply,
    val_main_v113_apply, val_main_call7_v1_apply, val_main_call7_v2_apply, val_main_call7_v0_apply, val_main_call8_v1_apply, val_main_call8_v2_apply,
    val_main_call8_v0_apply, val_main_v108_apply, val_main_cst_7_apply, val_main_cst_8_apply, e115, e116, e123, e124, e7, e8, mask_apply, select_mask,
    query_apply, taken_apply, total_apply, zero_bits]
  by_cases hs : s ≤ t
  · simp only [if_pos hs]
    rfl
  · simp only [if_neg hs]
    exact mul_zero _

/-- How much a row counts at another. -/
theorem weight_apply (x0 : S8448x12800.Idx → EReal) (x4 : S2x512.Idx → EReal) (n : Fin 32) (h : Fin 4) (t s : Fin 8) :
    val_main_v127 (F := Ideal) x0 x4 (ix4 n h t s)
      = weight (fun s d => query x0 n s (lane h d)) (fun s d => taken x0 x4 n s (lane h d))
          (fun t d => upTo (fun s => forget x0 x4 n s (lane h d)) t) t s := by
  rw [val_main_v127_apply, val_main_cst_9_apply, zero_bits, zero_add]
  unfold weight
  refine Finset.sum_congr rfl fun d _ => ?_
  have e : idx_main_v127 (ix4 n h t s) d = ix5 n h t s d := funext fun a => by
    match a with
    | ⟨0, _⟩ => rfl
    | ⟨1, _⟩ => rfl
    | ⟨2, _⟩ => rfl
    | ⟨3, _⟩ => rfl
    | ⟨4, _⟩ => rfl
  rw [e, weighed_apply]

/-! ## The output -/

/-- The output before its norm. -/
theorem output_apply (x0 : S8448x12800.Idx → EReal) (x3 : S2x32x4x128x128.Idx → EReal) (x4 : S2x512.Idx → EReal) (n : Fin 32) (h : Fin 4) (t : Fin 8)
    (e : Fin 128) :
    val_main_v129 (F := Ideal) x0 x3 x4 (ix4 n h t e)
      = output (fun d e => x3 (ix5 1 n h d e)) (fun s d => query x0 n s (lane h d)) (fun s d => taken x0 x4 n s (lane h d))
          (fun t d => upTo (fun s => forget x0 x4 n s (lane h d)) t) (fun s e => value x0 n s (lane h e)) t e := by
  rw [val_main_v129_apply, val_main_v112_apply, val_main_v128_apply]
  unfold output
  refine congrArg₂ (· + ·) (Finset.sum_congr rfl fun d _ => ?_) (Finset.sum_congr rfl fun s _ => ?_)
  · have el : lidx_main_v112 (ix4 n h t e) d = ix4 n h t d := funext fun a => by
      match a with
      | ⟨0, _⟩ => rfl
      | ⟨1, _⟩ => rfl
      | ⟨2, _⟩ => rfl
      | ⟨3, _⟩ => rfl
    have er : ridx_main_v112 (ix4 n h t e) d = ix4 n h d e := funext fun a => by
      match a with
      | ⟨0, _⟩ => rfl
      | ⟨1, _⟩ => rfl
      | ⟨2, _⟩ => rfl
      | ⟨3, _⟩ => rfl
    rw [el, er, before_state_apply, val_main_v111_apply, val_main_v110_apply, query_apply, total_apply]
    rfl
  · have el : lidx_main_v128 (ix4 n h t e) s = ix4 n h t s := funext fun a => by
      match a with
      | ⟨0, _⟩ => rfl
      | ⟨1, _⟩ => rfl
      | ⟨2, _⟩ => rfl
      | ⟨3, _⟩ => rfl
    have er : ridx_main_v128 (ix4 n h t e) s = ix4 n h s e := funext fun a => by
      match a with
      | ⟨0, _⟩ => rfl
      | ⟨1, _⟩ => rfl
      | ⟨2, _⟩ => rfl
      | ⟨3, _⟩ => rfl
    rw [el, er, weight_apply, value_apply]

/-! ## The state -/

/-- The running sum at the last row. -/
theorem last_apply (x0 : S8448x12800.Idx → EReal) (x4 : S2x512.Idx → EReal) (n : Fin 32) (h : Fin 4) (d : Fin 128) :
    val_main_v131 (F := Ideal) x0 x4 (ix3 n h d) = upTo (fun s => forget x0 x4 n s (lane h d)) 7 := by
  rw [val_main_v131_apply, val_main_v130_apply, ← total_apply]
  refine congrArg (val_main_v109 (F := Ideal) x0 x4) (funext fun a => Fin.ext ?_)
  match a with
  | ⟨0, _⟩ => show ((n.val * 4 + h.val) * 128 + d.val) / 512 = n.val; omega
  | ⟨1, _⟩ => show ((n.val * 4 + h.val) * 128 + d.val) / 128 % 4 = h.val; omega
  | ⟨2, _⟩ => rfl
  | ⟨3, _⟩ => show ((n.val * 4 + h.val) * 128 + d.val) % 128 = d.val; omega

/-- The state after the eight rows. -/
theorem state_apply (x0 : S8448x12800.Idx → EReal) (x3 : S2x32x4x128x128.Idx → EReal) (x4 : S2x512.Idx → EReal) (n : Fin 32) (h : Fin 4) (d e : Fin 128) :
    val_main_v142 (F := Ideal) x0 x3 x4 (ix4 n h d e)
      = stateAfter (x3 (ix5 1 n h d e)) (upTo fun s => forget x0 x4 n s (lane h d)) (fun s => taken x0 x4 n s (lane h d))
          (fun s => value x0 n s (lane h e)) := by
  have e3 : ∀ i j : S32x4x128.Idx, (i 0).val = (j 0).val → (i 1).val = (j 1).val → (i 2).val = (j 2).val → i = j :=
    fun i j h0 h1 h2 => funext fun a => Fin.ext (by
      match a with
      | ⟨0, _⟩ => exact h0
      | ⟨1, _⟩ => exact h1
      | ⟨2, _⟩ => exact h2)
  have e134 : idx_main_v133 (idx_main_v134 (ix4 n h d e)) = ix3 n h d := e3 _ _ rfl rfl rfl
  rw [val_main_v142_apply, val_main_v135_apply, val_main_v134_apply, val_main_v133_apply, val_main_v132_apply, e134, last_apply, before_state_apply,
    val_main_v141_apply]
  unfold stateAfter
  refine congrArg₂ (· + ·) (mul_comm _ _) (Finset.sum_congr rfl fun s _ => ?_)
  have el : lidx_main_v141 (ix4 n h d e) s = ix4 n h s d := funext fun a => by
    match a with
    | ⟨0, _⟩ => rfl
    | ⟨1, _⟩ => rfl
    | ⟨2, _⟩ => rfl
    | ⟨3, _⟩ => rfl
  have er : ridx_main_v141 (ix4 n h d e) s = ix4 n h s e := funext fun a => by
    match a with
    | ⟨0, _⟩ => rfl
    | ⟨1, _⟩ => rfl
    | ⟨2, _⟩ => rfl
    | ⟨3, _⟩ => rfl
  have e137 : idx_main_v136 (idx_main_v137 (ix4 n h s d)) = ix3 n h d := e3 _ _ rfl rfl rfl
  rw [el, er, value_apply, val_main_v140_apply, val_main_v139_apply, val_main_v138_apply, val_main_v137_apply, val_main_v136_apply, e137, last_apply,
    total_apply, taken_apply]
  exact mul_comm _ _

/-- The plain program's fourth result is the samples' states of the recurrence. -/
theorem reference_state (x0 : S8448x12800.Idx → EReal) (x3 : S2x32x4x128x128.Idx → EReal) (x4 : S2x512.Idx → EReal) :
    val_main_v142 (F := Ideal) x0 x3 x4 = specState x0 x3 x4 := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact state_apply x0 x3 x4 (i 0) (i 1) (i 2) (i 3)

end Cert.MixerSampleRefIdeal.Math

end
-- ==== Proof.MixerSample.lean ====
/-
  The samples' mixer: the plain program's first two results, the rows of the convolution and of the recurrence written
  after the prompt's rows. The kernel's four results are in `MixerArrays`.
-/
module

public import proofs.«01_k».proof.Proof.MixerRecurrence

@[expose] public section

noncomputable section

open Idealize.ShloMosaic Idealize.ShloMosaic.TcCoe Idealize.SL.Sem

namespace Cert.MixerSampleRefIdeal.Math

open Cert.MixerSampleRefIdeal Cert.MixerSampleRefIdeal.Gen Cert.MixerSampleRefIdeal.Read Cert.Mixer
open Cert.MixerSampleIdeal.Math (rowOf colOf lane lower forget taken query value product specConv specOut rowsConv rowsOut sampleAt rowAt headOf chanOf)

/-! ## The recurrence's rows -/

theorem untransposed_apply (x0 : S8448x12800.Idx → EReal) (x3 : S2x32x4x128x128.Idx → EReal) (x4 : S2x512.Idx → EReal) (n : Fin 32) (s : Fin 8)
    (h : Fin 4) (e : Fin 128) :
    val_main_v143 (F := Ideal) x0 x3 x4 (ix4 n s h e)
      = output (fun d e => x3 (ix5 1 n h d e)) (fun s d => query x0 n s (lane h d)) (fun s d => taken x0 x4 n s (lane h d))
          (fun t d => upTo (fun s => forget x0 x4 n s (lane h d)) t) (fun s e => value x0 n s (lane h e)) s e := by
  have ei : idx_main_v143 (ix4 n s h e) = ix4 n h s e := funext fun a => by
    match a with
    | ⟨0, _⟩ => rfl
    | ⟨1, _⟩ => rfl
    | ⟨2, _⟩ => rfl
    | ⟨3, _⟩ => rfl
  rw [val_main_v143_apply, ei, output_apply]

/-- The gain, of layer 1. -/
theorem gain_apply (x5 : S2x128.Idx → EReal) (n : Fin 32) (s : Fin 8) (h : Fin 4) (e : Fin 128) :
    val_main_v155 (F := Ideal) x5 (ix4 n s h e) = x5 (ix2 1 e) := by
  rw [val_main_v155_apply, val_main_v154_apply, val_main_v60_apply, val_main_v59_apply]
  refine congrArg x5 (funext fun a => Fin.ext ?_)
  match a with
  | ⟨0, _⟩ => rfl
  | ⟨1, _⟩ => show e.val % 128 = e.val; omega

/-- The output gate. -/
theorem gate_apply (x0 : S8448x12800.Idx → EReal) (n : Fin 32) (s : Fin 8) (d : Fin 512) :
    val_main_v158 (F := Ideal) x0 (ix3 n s d) = swish (x0 (ix2 (rowOf n s) (colOf 5632 (by decide) d))) := by
  have e56 : val_main_v56 (F := Ideal) x0 (ix3 n s d) = x0 (ix2 (rowOf n s) (colOf 5632 (by decide) d)) := by
    rw [val_main_v56_apply, cols_eq n s d 5632 (by decide) (idx_main_v56 (ix3 n s d)) rfl rfl rfl, zs_apply]
  rw [← e56]
  simp only [val_main_v158_apply, val_main_call9_v5_apply, val_main_call9_v4_apply, val_main_call9_v3_apply, val_main_call9_v2_apply, val_main_call9_v1_apply,
    val_main_call9_v0_apply, val_main_call9_cst_apply, val_main_call9_cst_0_apply, one_bits]
  rfl

/-- The recurrence's rows, normed and gated. -/
theorem out_apply (x0 : S8448x12800.Idx → EReal) (x3 : S2x32x4x128x128.Idx → EReal) (x4 : S2x512.Idx → EReal) (x5 : S2x128.Idx → EReal) (n : Fin 32)
    (s : Fin 8) (d : Fin 512) :
    val_main_v159 (F := Ideal) x0 x3 x4 x5 (ix3 n s d) = specOut x0 x3 x4 x5 n s (headOf d) (chanOf d) := by
  have hd : lane (headOf d) (chanOf d) = d := Fin.ext (by show d.val / 128 * 128 + d.val % 128 = d.val; omega)
  have e157 : idx_main_v157 (ix3 n s d) = ix4 n s (headOf d) (chanOf d) := funext fun a => Fin.ext (by
    match a with
    | ⟨0, _⟩ => show ((n.val * 8 + s.val) * 512 + d.val) / 4096 = n.val; omega
    | ⟨1, _⟩ => show ((n.val * 8 + s.val) * 512 + d.val) / 512 % 8 = s.val; omega
    | ⟨2, _⟩ => show ((n.val * 8 + s.val) * 512 + d.val) / 128 % 4 = d.val / 128; omega
    | ⟨3, _⟩ => show ((n.val * 8 + s.val) * 512 + d.val) % 128 = d.val % 128; omega)
  rw [val_main_v159_apply, val_main_v157_apply, e157, gate_apply]
  unfold specOut normed
  rw [hd]
  refine congrArg (· * _) ?_
  generalize headOf d = h
  generalize chanOf d = e
  have ei : idx_main_v146 (idx_main_v152 (ix4 n s h e)) = ix3 n s h := funext fun a => by
    match a with
    | ⟨0, _⟩ => rfl
    | ⟨1, _⟩ => rfl
    | ⟨2, _⟩ => rfl
  have e145 : ∀ k : Fin 128, idx_main_v145 (ix3 n s h) k = ix4 n s h k := fun k => funext fun a => by
    match a with
    | ⟨0, _⟩ => rfl
    | ⟨1, _⟩ => rfl
    | ⟨2, _⟩ => rfl
    | ⟨3, _⟩ => rfl
  simp only [val_main_v156_apply, val_main_v153_apply, val_main_v152_apply, val_main_v151_apply, val_main_v150_apply, val_main_v149_apply, val_main_v148_apply,
    val_main_v147_apply, val_main_v146_apply, val_main_cst_11_apply, val_main_cst_12_apply, ei, val_main_v145_apply, val_main_cst_10_apply, e145,
    val_main_v144_apply, zero_bits, zero_add, untransposed_apply, gain_apply]
  rfl

/-! ## The two results -/

theorem row_eq (r : Fin 8448) (h : 8192 ≤ r.val) : (⟨(r.val - 8192) % 8, Nat.mod_lt _ (by decide)⟩ : Fin 8) = rowAt r :=
  Fin.ext (by show (r.val - 8192) % 8 = r.val % 8; omega)

theorem flat_conv_apply (x0 : S8448x12800.Idx → EReal) (x1 : S2x3x512.Idx → EReal) (x2 : S2x32x2x512.Idx → EReal) (r : Fin 256) (d : Fin 512) :
    val_main_v161 (F := Ideal) x0 x1 x2 (ix2 r d) = specConv x0 x1 x2 ⟨r.val / 8, by omega⟩ ⟨r.val % 8, by omega⟩ d := by
  have e : idx_main_v161 (ix2 r d) = ix3 ⟨r.val / 8, by omega⟩ ⟨r.val % 8, by omega⟩ d := funext fun a => Fin.ext (by
    match a with
    | ⟨0, _⟩ => show (r.val * 512 + d.val) / 4096 = r.val / 8; omega
    | ⟨1, _⟩ => show (r.val * 512 + d.val) / 512 % 8 = r.val % 8; omega
    | ⟨2, _⟩ => show (r.val * 512 + d.val) % 512 = d.val; omega)
  rw [val_main_v161_apply, e, conv_apply]

theorem flat_out_apply (x0 : S8448x12800.Idx → EReal) (x3 : S2x32x4x128x128.Idx → EReal) (x4 : S2x512.Idx → EReal) (x5 : S2x128.Idx → EReal)
    (r : Fin 256) (d : Fin 512) :
    val_main_v164 (F := Ideal) x0 x3 x4 x5 (ix2 r d) = specOut x0 x3 x4 x5 ⟨r.val / 8, by omega⟩ ⟨r.val % 8, by omega⟩ (headOf d) (chanOf d) := by
  have e : idx_main_v164 (ix2 r d) = ix3 ⟨r.val / 8, by omega⟩ ⟨r.val % 8, by omega⟩ d := funext fun a => Fin.ext (by
    match a with
    | ⟨0, _⟩ => show (r.val * 512 + d.val) / 4096 = r.val / 8; omega
    | ⟨1, _⟩ => show (r.val * 512 + d.val) / 512 % 8 = r.val % 8; omega
    | ⟨2, _⟩ => show (r.val * 512 + d.val) % 512 = d.val; omega)
  rw [val_main_v164_apply, e, out_apply]

/-- The plain program's first result: the prompt's rows as given, below them the samples' convolution. -/
theorem reference_conv (x0 : S8448x12800.Idx → EReal) (x1 : S2x3x512.Idx → EReal) (x2 : S2x32x2x512.Idx → EReal) (x6 : S8448x512.Idx → EReal) :
    val_main_v162 (F := Ideal) x0 x1 x2 x6 = rowsConv x0 x1 x2 x6 := by
  funext i
  unfold val_main_v162 rowsConv
  have h0 : (i 0).val < 8448 := (i 0).isLt
  by_cases h : 8192 ≤ (i 0).val
  · rw [if_pos h]
    refine (concatenate_pair_apply_right (s₁ := S8192x512) (s₂ := S256x512) 0 _ _ _ i rfl rfl (ix2 ⟨(i 0).val - 8192, by omega⟩ (i 1)) ?_ ?_).trans
      ((flat_conv_apply x0 x1 x2 ⟨(i 0).val - 8192, by omega⟩ (i 1)).trans ?_)
    · intro b hb
      match b with
      | ⟨0, _⟩ => exact absurd rfl hb
      | ⟨1, _⟩ => rfl
    · show (i 0).val - 8192 + 8192 = (i 0).val
      omega
    · exact congrArg (fun s => specConv x0 x1 x2 (sampleAt (i 0)) s (i 1)) (row_eq (i 0) h)
  · rw [if_neg h]
    refine (concatenate_pair_apply_left (s₁ := S8192x512) (s₂ := S256x512) 0 _ _ _ i rfl (ix2 ⟨(i 0).val, by omega⟩ (i 1)) ?_).trans ?_
    · intro b
      match b with
      | ⟨0, _⟩ => rfl
      | ⟨1, _⟩ => rfl
    · rw [val_main_v160_apply]
      refine congrArg x6 (funext fun a => Fin.ext ?_)
      match a with
      | ⟨0, _⟩ => rfl
      | ⟨1, _⟩ => rfl

/-- The plain program's second result: the prompt's rows as given, below them the samples' recurrence. -/
theorem reference_out (x0 : S8448x12800.Idx → EReal) (x3 : S2x32x4x128x128.Idx → EReal) (x4 : S2x512.Idx → EReal) (x5 : S2x128.Idx → EReal)
    (x7 : S8448x512.Idx → EReal) :
    val_main_v165 (F := Ideal) x0 x3 x4 x5 x7 = rowsOut x0 x3 x4 x5 x7 := by
  funext i
  unfold val_main_v165 rowsOut
  have h0 : (i 0).val < 8448 := (i 0).isLt
  by_cases h : 8192 ≤ (i 0).val
  · rw [if_pos h]
    refine (concatenate_pair_apply_right (s₁ := S8192x512) (s₂ := S256x512) 0 _ _ _ i rfl rfl (ix2 ⟨(i 0).val - 8192, by omega⟩ (i 1)) ?_ ?_).trans
      ((flat_out_apply x0 x3 x4 x5 ⟨(i 0).val - 8192, by omega⟩ (i 1)).trans ?_)
    · intro b hb
      match b with
      | ⟨0, _⟩ => exact absurd rfl hb
      | ⟨1, _⟩ => rfl
    · show (i 0).val - 8192 + 8192 = (i 0).val
      omega
    · exact congrArg (fun s => specOut x0 x3 x4 x5 (sampleAt (i 0)) s (headOf (i 1)) (chanOf (i 1))) (row_eq (i 0) h)
  · rw [if_neg h]
    refine (concatenate_pair_apply_left (s₁ := S8192x512) (s₂ := S256x512) 0 _ _ _ i rfl (ix2 ⟨(i 0).val, by omega⟩ (i 1)) ?_).trans ?_
    · intro b
      match b with
      | ⟨0, _⟩ => rfl
      | ⟨1, _⟩ => rfl
    · rw [val_main_v163_apply]
      refine congrArg x7 (funext fun a => Fin.ext ?_)
      match a with
      | ⟨0, _⟩ => rfl
      | ⟨1, _⟩ => rfl

end Cert.MixerSampleRefIdeal.Math

end
-- ==== Proof.ClaimsMixer.lean ====
/-
  The value claim of the samples' mixer: the kernel's run leaves the layer's mathematics in its four result arrays, and so
  does the plain program's.
-/
module

public import proofs.«01_k».proof.Defs
public import proofs.«01_k».proof.Proof.MixerSample

@[expose] public section

noncomputable section

open Idealize.ShloMosaic Idealize.ShloMosaic.TcCoe Idealize.SL.Sem

namespace Cert.Proof

/-- The plain program of the samples' mixer runs and leaves its arguments alone. -/
theorem frame_MixerSampleRef : Cert.quiescent_MixerSampleRefIdeal (hMixerSampleRefIdeal := Cert.MixerSampleRefIdeal.Gen.facts) :=
  fun m ρ _ => θ_run_mono (Cert.MixerSampleRefIdeal.Value.run m ρ) fun r h =>
    ⟨fun c => (h c).2.2.2.2, sem_eq_zero_of_no_sems (by decide) r.2⟩

/-- The samples' mixer: kernel and plain program end with the same results. -/
theorem algebraic_MixerSample : Cert.algebraic_MixerSampleIdeal_MixerSampleRefIdeal (hMixerSampleIdeal := Cert.MixerSampleIdeal.Gen.facts)
    (hMixerSampleRefIdeal := Cert.MixerSampleRefIdeal.Gen.facts) := by
  intro m g m' g' _ hagree
  refine ⟨fun c => Cert.MixerSampleIdeal.Math.GConv m c, fun c => Cert.MixerSampleIdeal.Math.GOut m c, fun c => Cert.MixerSampleIdeal.Math.GKept m c, fun c => Cert.MixerSampleIdeal.Math.GState m c, ?_, ?_⟩
  · exact θ_run_mono (Cert.MixerSampleIdeal.Value.run_blocks m g) fun r h c =>
      ⟨(h c).1.trans (Cert.MixerSampleIdeal.Math.kernel_conv m c), (h c).2.1.trans (Cert.MixerSampleIdeal.Math.kernel_out m c), (h c).2.2.1.trans (Cert.MixerSampleIdeal.Math.kernel_kept m c), (h c).2.2.2.1.trans (Cert.MixerSampleIdeal.Math.kernel_state m c), (h c).2.2.2.2⟩
  · refine θ_run_mono (Cert.MixerSampleRefIdeal.Value.run m' g') fun r h c => ⟨(h c).1.trans ?_, (h c).2.1.trans ?_, (h c).2.2.1.trans ?_, (h c).2.2.2.1.trans ?_, (h c).2.2.2.2⟩
    · obtain ⟨h0, h1, h2, h3, h4, h5, h6, h7⟩ := hagree c
      refine (Cert.MixerSampleRefIdeal.Read.val_main_v162_eq _).trans ?_
      refine (Cert.MixerSampleRefIdeal.Math.reference_conv _ _ _ _).trans ?_
      exact congr (congr (congr (congrArg Cert.MixerSampleIdeal.Math.rowsConv h0) h1) h2) h6
    · obtain ⟨h0, h1, h2, h3, h4, h5, h6, h7⟩ := hagree c
      refine (Cert.MixerSampleRefIdeal.Read.val_main_v165_eq _).trans ?_
      refine (Cert.MixerSampleRefIdeal.Math.reference_out _ _ _ _ _).trans ?_
      exact congr (congr (congr (congr (congrArg Cert.MixerSampleIdeal.Math.rowsOut h0) h3) h4) h5) h7
    · obtain ⟨h0, h1, h2, h3, h4, h5, h6, h7⟩ := hagree c
      refine (Cert.MixerSampleRefIdeal.Read.val_main_v52_eq _).trans ?_
      refine (Cert.MixerSampleRefIdeal.Math.reference_kept _ _).trans ?_
      exact congrArg Cert.MixerSampleIdeal.Math.specConvState h0
    · obtain ⟨h0, h1, h2, h3, h4, h5, h6, h7⟩ := hagree c
      refine (Cert.MixerSampleRefIdeal.Read.val_main_v142_eq _).trans ?_
      refine (Cert.MixerSampleRefIdeal.Math.reference_state _ _ _).trans ?_
      exact congr (congr (congrArg Cert.MixerSampleIdeal.Math.specState h0) h3) h4

end Cert.Proof
-- ==== Proof.lean ====
/-
  The certificate: for every call the frames of its three programs, the kernel's ideal form against the kernel, and the
  equality of the kernel's results with the plain program's.

  The frames are the generated ones, or those of the modules named after the call's body; the value claims are in the
  modules under Proof/.
-/
module

public import proofs.«01_k».proof.Defs
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.MixProj
public import proofs.«01_k».proof.Proof.Gen.MixProj.Frame
public import proofs.«01_k».proof.Proof.Gen.MixProjIdeal
public import proofs.«01_k».proof.Proof.Gen.MixProjIdeal.Frame
public import proofs.«01_k».proof.Proof.Gen.MixProjIdeal.Value
public import proofs.«01_k».proof.Proof.Gen.MixProjRefIdeal
public import proofs.«01_k».proof.Proof.Gen.MixProjRefIdeal.Run
public import proofs.«01_k».proof.Proof.Gen.MixProjRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.FinalNorm
public import proofs.«01_k».proof.Proof.Gen.FinalNorm.Frame
public import proofs.«01_k».proof.Proof.FinalNormBody
public import proofs.«01_k».proof.Proof.Gen.FinalNormIdeal
public import proofs.«01_k».proof.Proof.Gen.FinalNormIdeal.Frame
public import proofs.«01_k».proof.Proof.FinalNormIdealBody
public import proofs.«01_k».proof.Proof.Gen.FinalNormRefIdeal
public import proofs.«01_k».proof.Proof.Gen.FinalNormRefIdeal.Run
public import proofs.«01_k».proof.Proof.Gen.FinalNormRefIdeal.Read
public import proofs.«01_k».proof.Proof.Gen.KvPrompt
public import proofs.«01_k».proof.Proof.Gen.KvPrompt.Frame
public import proofs.«01_k».proof.Proof.KvPromptBody
public import proofs.«01_k».proof.Proof.Gen.KvPromptIdeal
public import proofs.«01_k».proof.Proof.Gen.KvPromptIdeal.Frame
public import proofs.«01_k».proof.Proof.KvPromptIdealBody
public import proofs.«01_k».proof.Proof.Gen.KvPromptRefIdeal
public import proofs.«01_k».proof.Proof.Gen.KvPromptRefIdeal.Run
public import proofs.«01_k».proof.Proof.Gen.KvPromptRefIdeal.Read
public import proofs.«01_k».proof.Proof.Gen.KvSample
public import proofs.«01_k».proof.Proof.Gen.KvSample.Frame
public import proofs.«01_k».proof.Proof.KvSampleBody
public import proofs.«01_k».proof.Proof.Gen.KvSampleIdeal
public import proofs.«01_k».proof.Proof.Gen.KvSampleIdeal.Frame
public import proofs.«01_k».proof.Proof.KvSampleIdealBody
public import proofs.«01_k».proof.Proof.Gen.KvSampleRefIdeal
public import proofs.«01_k».proof.Proof.Gen.KvSampleRefIdeal.Run
public import proofs.«01_k».proof.Proof.Gen.KvSampleRefIdeal.Read
public import proofs.«01_k».proof.Proof.Gen.WinPrompt
public import proofs.«01_k».proof.Proof.Gen.WinPrompt.Frame
public import proofs.«01_k».proof.Proof.WinPromptBody
public import proofs.«01_k».proof.Proof.Gen.WinPromptIdeal
public import proofs.«01_k».proof.Proof.Gen.WinPromptIdeal.Frame
public import proofs.«01_k».proof.Proof.WinPromptIdealBody
public import proofs.«01_k».proof.Proof.Gen.WinPromptRefIdeal
public import proofs.«01_k».proof.Proof.Gen.WinPromptRefIdeal.Run
public import proofs.«01_k».proof.Proof.Gen.WinPromptRefIdeal.Read
public import proofs.«01_k».proof.Proof.Gen.MixerSample
public import proofs.«01_k».proof.Proof.Gen.MixerSample.Frame
public import proofs.«01_k».proof.Proof.Gen.MixerSampleIdeal
public import proofs.«01_k».proof.Proof.Gen.MixerSampleIdeal.Frame
public import proofs.«01_k».proof.Proof.Gen.MixerSampleIdeal.Value
public import proofs.«01_k».proof.Proof.Gen.MixerSampleRefIdeal
public import proofs.«01_k».proof.Proof.Gen.MixerSampleRefIdeal.Run
public import proofs.«01_k».proof.Proof.Gen.MixerSampleRefIdeal.Read
public import proofs.«01_k».proof.Proof.Claims
public import proofs.«01_k».proof.Proof.ClaimsRows
public import proofs.«01_k».proof.Proof.ClaimsMixer

@[expose] public section

noncomputable section

namespace Cert.Proof

open Idealize.ShloMosaic Idealize.SL.Sem

theorem claim : Cert.Claim := ⟨
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.InProj.Gen.facts, Cert.InProjIdeal.Gen.facts, Cert.InProjRefIdeal.Gen.facts,
  Cert.MixProj.Gen.facts, Cert.MixProjIdeal.Gen.facts, Cert.MixProjRefIdeal.Gen.facts,
  Cert.OutProj.Gen.facts, Cert.OutProjIdeal.Gen.facts, Cert.OutProjRefIdeal.Gen.facts,
  Cert.Ple.Gen.facts, Cert.PleIdeal.Gen.facts, Cert.PleRefIdeal.Gen.facts,
  Cert.Norm.Gen.facts, Cert.NormIdeal.Gen.facts, Cert.NormRefIdeal.Gen.facts,
  Cert.FinalNorm.Gen.facts, Cert.FinalNormIdeal.Gen.facts, Cert.FinalNormRefIdeal.Gen.facts,
  Cert.KvPrompt.Gen.facts, Cert.KvPromptIdeal.Gen.facts, Cert.KvPromptRefIdeal.Gen.facts,
  Cert.KvSample.Gen.facts, Cert.KvSampleIdeal.Gen.facts, Cert.KvSampleRefIdeal.Gen.facts,
  Cert.WinPrompt.Gen.facts, Cert.WinPromptIdeal.Gen.facts, Cert.WinPromptRefIdeal.Gen.facts,
  Cert.MixerSample.Gen.facts, Cert.MixerSampleIdeal.Gen.facts, Cert.MixerSampleRefIdeal.Gen.facts,
  fun m ρ _ => Cert.FfnUp.Gen.frame m ρ, fun m ρ _ => Cert.FfnUpIdeal.Gen.frame m ρ, frame_FfnUpRef,
  fun m ρ _ => Cert.FfnDown.Gen.frame m ρ, fun m ρ _ => Cert.FfnDownIdeal.Gen.frame m ρ, frame_FfnDownRef,
  fun m ρ _ => Cert.InProj.Gen.frame m ρ, fun m ρ _ => Cert.InProjIdeal.Gen.frame m ρ, frame_InProjRef,
  fun m ρ _ => Cert.MixProj.Gen.frame m ρ, fun m ρ _ => Cert.MixProjIdeal.Gen.frame m ρ, frame_MixProjRef,
  fun m ρ _ => Cert.OutProj.Gen.frame m ρ, fun m ρ _ => Cert.OutProjIdeal.Gen.frame m ρ, frame_OutProjRef,
  fun m ρ _ => Cert.Ple.Gen.frame m ρ, fun m ρ _ => Cert.PleIdeal.Gen.frame m ρ, frame_PleRef,
  fun m ρ _ => Cert.Norm.Gen.frame m ρ, fun m ρ _ => Cert.NormIdeal.Gen.frame m ρ, frame_NormRef,
  fun m ρ _ => Cert.FinalNorm.Body.frame m ρ, fun m ρ _ => Cert.FinalNormIdeal.Body.frame m ρ, frame_FinalNormRef,
  fun m ρ _ => Cert.KvPrompt.Body.frame m ρ, fun m ρ _ => Cert.KvPromptIdeal.Body.frame m ρ, frame_KvPromptRef,
  fun m ρ _ => Cert.KvSample.Body.frame m ρ, fun m ρ _ => Cert.KvSampleIdeal.Body.frame m ρ, frame_KvSampleRef,
  fun m ρ _ => Cert.WinPrompt.Body.frame m ρ, fun m ρ _ => Cert.WinPromptIdeal.Body.frame m ρ, frame_WinPromptRef,
  fun m ρ _ => Cert.MixerSample.Gen.frame m ρ, fun m ρ _ => Cert.MixerSampleIdeal.Gen.frame m ρ, frame_MixerSampleRef,
  trivial, algebraic_FfnUp,
  trivial, algebraic_FfnDown,
  trivial, algebraic_InProj,
  trivial, algebraic_MixProj,
  trivial, algebraic_OutProj,
  trivial, algebraic_Ple,
  trivial, algebraic_Norm,
  trivial, algebraic_FinalNorm,
  trivial, algebraic_KvPrompt,
  trivial, algebraic_KvSample,
  trivial, algebraic_WinPrompt,
  trivial, algebraic_MixerSample⟩

end Cert.Proof

end
